-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S3x512x256 : Shape := ⟨3, ![3, 512, 256]⟩
abbrev S3x256x256 : Shape := ⟨3, ![3, 256, 256]⟩
abbrev S4x64x768 : Shape := ⟨3, ![4, 64, 768]⟩
abbrev S3x64x768 : Shape := ⟨3, ![3, 64, 768]⟩
abbrev S128x256 : Shape := ⟨2, ![128, 256]⟩
abbrev S64x256 : Shape := ⟨2, ![64, 256]⟩
abbrev S3 : Shape := ⟨1, ![3]⟩
abbrev S9 : Shape := ⟨1, ![9]⟩
abbrev S1 : Shape := ⟨1, ![1]⟩
abbrev S1024x256 : Shape := ⟨2, ![1024, 256]⟩
abbrev S_ : Shape := ⟨0, ![]⟩
abbrev S256x256 : Shape := ⟨2, ![256, 256]⟩
abbrev S1x256x256 : Shape := ⟨3, ![1, 256, 256]⟩
abbrev S1x64x256 : Shape := ⟨3, ![1, 64, 256]⟩
abbrev S1x512x256 : Shape := ⟨3, ![1, 512, 256]⟩
abbrev S512x256 : Shape := ⟨2, ![512, 256]⟩

abbrev nBuf : Space → Nat
  | .hbm => 3
  | .vmem => 16
  | .smem => 0
  | _ => 0

abbrev bufTy : (tb : Table) → Fin (tcTables nBuf tb) → BufTy
  | .hbm, ⟨0, _⟩ => ⟨S1024x64, .bf16⟩
  | .hbm, ⟨1, _⟩ => ⟨S64x1024, .bf16⟩
  | .hbm, ⟨2, _⟩ => ⟨S64x1024, .f32⟩
  | .local _ .vmem, ⟨0, _⟩ => ⟨S1024x64, .bf16⟩
  | .local _ .vmem, ⟨1, _⟩ => ⟨S64x1024, .bf16⟩
  | .local _ .vmem, ⟨2, _⟩ => ⟨S64x1024, .f32⟩
  | .local _ .vmem, ⟨3, _⟩ => ⟨S1024x1024, .f32⟩
  | .local _ .vmem, ⟨4, _⟩ => ⟨S3x512x256, .bf16⟩
  | .local _ .vmem, ⟨5, _⟩ => ⟨S3x512x256, .bf16⟩
  | .local _ .vmem, ⟨6, _⟩ => ⟨S3x256x256, .bf16⟩
  | .local _ .vmem, ⟨7, _⟩ => ⟨S3x256x256, .bf16⟩
  | .local _ .vmem, ⟨8, _⟩ => ⟨S4x64x768, .bf16⟩
  | .local _ .vmem, ⟨9, _⟩ => ⟨S3x64x768, .bf16⟩
  | .local _ .vmem, ⟨10, _⟩ => ⟨S3x256x256, .bf16⟩
  | .local _ .vmem, ⟨11, _⟩ => ⟨S3x256x256, .bf16⟩
  | .local _ .vmem, ⟨12, _⟩ => ⟨S128x256, .bf16⟩
  | .local _ .vmem, ⟨13, _⟩ => ⟨S128x256, .bf16⟩
  | .local _ .vmem, ⟨14, _⟩ => ⟨S64x256, .bf16⟩
  | .local _ .vmem, ⟨15, _⟩ => ⟨S64x256, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_27 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v24 : BitVec 32 := Scalar.muli c4_i32_8 v19
  let c4_i32_5 : BitVec 32 := 4#32
  let v20 : BitVec 32 := Scalar.remsi v2 c4_i32_5
  let c1_i32_6 : BitVec 32 := 1#32
  let v21 : BitVec 32 := Scalar.xori v20 c1_i32_6
  let v25 : BitVec 32 := Scalar.addi v24 v21
  let c1_i32_26 : BitVec 32 := 1#32
  let v62 : BitVec 32 := Scalar.muli v25 c1_i32_26
  let v63 : BitVec 32 := Scalar.addi c0_i32_27 v62
  v63.toNat
def k0_dev2 (d0 : Dev nD) : Nat :=
  let c0_i32_30 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v26 : BitVec 32 := Scalar.muli c4_i32_9 v19
  let c3_i32 : BitVec 32 := 3#32
  let c4_i32_5 : BitVec 32 := 4#32
  let v20 : BitVec 32 := Scalar.remsi v2 c4_i32_5
  let v22 : BitVec 32 := Scalar.subi c3_i32 v20
  let v27 : BitVec 32 := Scalar.addi v26 v22
  let c1_i32_29 : BitVec 32 := 1#32
  let v64 : BitVec 32 := Scalar.muli v27 c1_i32_29
  let v65 : BitVec 32 := Scalar.addi c0_i32_30 v64
  v65.toNat
def k0_dev3 (d0 : Dev nD) : Nat :=
  let c0_i32_33 : BitVec 32 := 0#32
  let c4_i32_12 : BitVec 32 := 4#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_10 : BitVec 32 := 0#32
  let v28 : BitVec 1 := Scalar.cmpi .sle v19 c0_i32_10
  let v29 : BitVec 32 := Scalar.extui v28
  let v30 : BitVec 32 := Scalar.addi c0_i32_11 v29
  let v31 : BitVec 32 := Scalar.muli c4_i32_12 v30
  let c4_i32_5 : BitVec 32 := 4#32
  let v20 : BitVec 32 := Scalar.remsi v2 c4_i32_5
  let v32 : BitVec 32 := Scalar.addi v31 v20
  let c1_i32_32 : BitVec 32 := 1#32
  let v66 : BitVec 32 := Scalar.muli v32 c1_i32_32
  let v67 : BitVec 32 := Scalar.addi c0_i32_33 v66
  v67.toNat
def k0_dev4 (d0 : Dev nD) : Nat :=
  let c0_i32_36 : BitVec 32 := 0#32
  let c4_i32_16 : BitVec 32 := 4#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 1 := Scalar.cmpi .sle v19 c1_i32_14
  let v37 : BitVec 32 := Scalar.extui v36
  let v38 : BitVec 32 := Scalar.addi c1_i32_15 v37
  let v39 : BitVec 32 := Scalar.muli c4_i32_16 v38
  let c4_i32_5 : BitVec 32 := 4#32
  let v20 : BitVec 32 := Scalar.remsi v2 c4_i32_5
  let v40 : BitVec 32 := Scalar.addi v39 v20
  let c1_i32_35 : BitVec 32 := 1#32
  let v68 : BitVec 32 := Scalar.muli v40 c1_i32_35
  let v69 : BitVec 32 := Scalar.addi c0_i32_36 v68
  v69.toNat
def k0_dev5 (d0 : Dev nD) : Nat :=
  let c0_i32_39 : BitVec 32 := 0#32
  let c4_i32_19 : BitVec 32 := 4#32
  let c2_i32_18 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v44 : BitVec 1 := Scalar.cmpi .sle v19 c2_i32
  let v45 : BitVec 32 := Scalar.extui v44
  let v46 : BitVec 32 := Scalar.addi c2_i32_18 v45
  let v47 : BitVec 32 := Scalar.muli c4_i32_19 v46
  let c4_i32_5 : BitVec 32 := 4#32
  let v20 : BitVec 32 := Scalar.remsi v2 c4_i32_5
  let v48 : BitVec 32 := Scalar.addi v47 v20
  let c1_i32_38 : BitVec 32 := 1#32
  let v70 : BitVec 32 := Scalar.muli v48 c1_i32_38
  let v71 : BitVec 32 := Scalar.addi c0_i32_39 v70
  v71.toNat
def k0_off1 (d0 : Dev nD) (c0_i32_11 : BitVec 32) (c0_i32_10 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let c256_i32 : BitVec 32 := 256#32
  let v72 : BitVec 32 := Scalar.muli v30 c256_i32
  let v73 : Index := Scalar.indexCast v72
  let c768_40 : Index := 768#32
  ![v73.toNat, 768]
def k0_off1_at (r : Fin 3) : BitVec 32 × BitVec 32 :=
  if r.val < 1 then
    (0#32, 0#32)
  else
    if r.val < 2 then
      (1#32, 1#32)
    else
      (2#32, 2#32)
def k0_off2 (d0 : Dev nD) (c0_i32_11 : BitVec 32) (c0_i32_10 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let v33 : BitVec 1 := Scalar.cmpi .sgt v19 v30
  let c1_i32_13 : BitVec 32 := 1#32
  let v34 : BitVec 32 := Scalar.subi v19 c1_i32_13
  let v35 : BitVec 32 := Scalar.select v33 v34 v19
  ![v35.toNat]
def k0_off2_at (r : Fin 3) : BitVec 32 × BitVec 32 :=
  if r.val < 1 then
    (0#32, 0#32)
  else
    if r.val < 2 then
      (1#32, 1#32)
    else
      (2#32, 2#32)
def k0_off3 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let v33 : BitVec 1 := Scalar.cmpi .sgt v19 v30
  let c1_i32_13 : BitVec 32 := 1#32
  let v34 : BitVec 32 := Scalar.subi v19 c1_i32_13
  let v35 : BitVec 32 := Scalar.select v33 v34 v19
  let c0_i32_56 : BitVec 32 := 0#32
  let c0_i32_57 : BitVec 32 := 0#32
  ![v35.toNat, 0, 0]
def k0_off3_at (r : Fin 3) : BitVec 32 × BitVec 32 :=
  if r.val < 1 then
    (0#32, 0#32)
  else
    if r.val < 2 then
      (1#32, 1#32)
    else
      (2#32, 2#32)
def k0_dev6 (d0 : Dev nD) : Nat :=
  let c0_i32_55 : BitVec 32 := 0#32
  let c4_i32_12 : BitVec 32 := 4#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_10 : BitVec 32 := 0#32
  let v28 : BitVec 1 := Scalar.cmpi .sle v19 c0_i32_10
  let v29 : BitVec 32 := Scalar.extui v28
  let v30 : BitVec 32 := Scalar.addi c0_i32_11 v29
  let v31 : BitVec 32 := Scalar.muli c4_i32_12 v30
  let c4_i32_5 : BitVec 32 := 4#32
  let v20 : BitVec 32 := Scalar.remsi v2 c4_i32_5
  let v32 : BitVec 32 := Scalar.addi v31 v20
  let c1_i32_54 : BitVec 32 := 1#32
  let v93 : BitVec 32 := Scalar.muli v32 c1_i32_54
  let v94 : BitVec 32 := Scalar.addi c0_i32_55 v93
  v94.toNat
def k0_dev7 (d0 : Dev nD) : Nat :=
  let c0_i32_63 : BitVec 32 := 0#32
  let c4_i32_16 : BitVec 32 := 4#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 1 := Scalar.cmpi .sle v19 c1_i32_14
  let v37 : BitVec 32 := Scalar.extui v36
  let v38 : BitVec 32 := Scalar.addi c1_i32_15 v37
  let v39 : BitVec 32 := Scalar.muli c4_i32_16 v38
  let c4_i32_5 : BitVec 32 := 4#32
  let v20 : BitVec 32 := Scalar.remsi v2 c4_i32_5
  let v40 : BitVec 32 := Scalar.addi v39 v20
  let c1_i32_62 : BitVec 32 := 1#32
  let v103 : BitVec 32 := Scalar.muli v40 c1_i32_62
  let v104 : BitVec 32 := Scalar.addi c0_i32_63 v103
  v104.toNat
def k0_dev8 (d0 : Dev nD) : Nat :=
  let c0_i32_71 : BitVec 32 := 0#32
  let c4_i32_19 : BitVec 32 := 4#32
  let c2_i32_18 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v44 : BitVec 1 := Scalar.cmpi .sle v19 c2_i32
  let v45 : BitVec 32 := Scalar.extui v44
  let v46 : BitVec 32 := Scalar.addi c2_i32_18 v45
  let v47 : BitVec 32 := Scalar.muli c4_i32_19 v46
  let c4_i32_5 : BitVec 32 := 4#32
  let v20 : BitVec 32 := Scalar.remsi v2 c4_i32_5
  let v48 : BitVec 32 := Scalar.addi v47 v20
  let c1_i32_70 : BitVec 32 := 1#32
  let v113 : BitVec 32 := Scalar.muli v48 c1_i32_70
  let v114 : BitVec 32 := Scalar.addi c0_i32_71 v113
  v114.toNat
def k0_off4 (d0 : Dev nD) (c0_i32_79 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let c3_i32_7 : BitVec 32 := 3#32
  let v23 : BitVec 32 := Scalar.subi c3_i32_7 v21
  let v123 : BitVec 32 := Scalar.minsi v21 v23
  let c64_i32 : BitVec 32 := 64#32
  let v130 : BitVec 32 := Scalar.muli v123 c64_i32
  let v131 : BitVec 32 := Scalar.addi c0_i32_79 v130
  let v132 : Index := Scalar.indexCast v131
  let c0_80 : Index := 0#32
  ![v132.toNat, 0]
def k0_off5 (d0 : Dev nD) (c0_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let c3_i32_7 : BitVec 32 := 3#32
  let v23 : BitVec 32 := Scalar.subi c3_i32_7 v21
  let v124 : BitVec 32 := Scalar.maxsi v21 v23
  let c64_i32_84 : BitVec 32 := 64#32
  let v138 : BitVec 32 := Scalar.muli v124 c64_i32_84
  let v139 : BitVec 32 := Scalar.addi c0_i32_85 v138
  let v140 : Index := Scalar.indexCast v139
  let c0_86 : Index := 0#32
  ![v140.toNat, 0]
def k0_dev9 (d0 : Dev nD) : Nat :=
  let c0_i32_122 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v24 : BitVec 32 := Scalar.muli c4_i32_8 v19
  let c4_i32_5 : BitVec 32 := 4#32
  let v20 : BitVec 32 := Scalar.remsi v2 c4_i32_5
  let c1_i32_6 : BitVec 32 := 1#32
  let v21 : BitVec 32 := Scalar.xori v20 c1_i32_6
  let v25 : BitVec 32 := Scalar.addi v24 v21
  let c1_i32_121 : BitVec 32 := 1#32
  let v194 : BitVec 32 := Scalar.muli v25 c1_i32_121
  let v195 : BitVec 32 := Scalar.addi c0_i32_122 v194
  v195.toNat
def k0_off6 (d0 : Dev nD) (c0_i32_131 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v22 : BitVec 32 := Scalar.subi c3_i32 v20
  let c3_i32_7 : BitVec 32 := 3#32
  let c1_i32_6 : BitVec 32 := 1#32
  let v21 : BitVec 32 := Scalar.xori v20 c1_i32_6
  let v23 : BitVec 32 := Scalar.subi c3_i32_7 v21
  let v204 : BitVec 32 := Scalar.minsi v22 v23
  let c64_i32_130 : BitVec 32 := 64#32
  let v211 : BitVec 32 := Scalar.muli v204 c64_i32_130
  let v212 : BitVec 32 := Scalar.addi c0_i32_131 v211
  let v213 : Index := Scalar.indexCast v212
  let c256_132 : Index := 256#32
  ![v213.toNat, 256]
def k0_off7 (d0 : Dev nD) (c0_i32_137 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v22 : BitVec 32 := Scalar.subi c3_i32 v20
  let c3_i32_7 : BitVec 32 := 3#32
  let c1_i32_6 : BitVec 32 := 1#32
  let v21 : BitVec 32 := Scalar.xori v20 c1_i32_6
  let v23 : BitVec 32 := Scalar.subi c3_i32_7 v21
  let v205 : BitVec 32 := Scalar.maxsi v22 v23
  let c64_i32_136 : BitVec 32 := 64#32
  let v219 : BitVec 32 := Scalar.muli v205 c64_i32_136
  let v220 : BitVec 32 := Scalar.addi c0_i32_137 v219
  let v221 : Index := Scalar.indexCast v220
  let c256_138 : Index := 256#32
  ![v221.toNat, 256]
def k0_dev10 (d0 : Dev nD) : Nat :=
  let c0_i32_183 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v26 : BitVec 32 := Scalar.muli c4_i32_9 v19
  let c3_i32 : BitVec 32 := 3#32
  let c4_i32_5 : BitVec 32 := 4#32
  let v20 : BitVec 32 := Scalar.remsi v2 c4_i32_5
  let v22 : BitVec 32 := Scalar.subi c3_i32 v20
  let v27 : BitVec 32 := Scalar.addi v26 v22
  let c1_i32_182 : BitVec 32 := 1#32
  let v275 : BitVec 32 := Scalar.muli v27 c1_i32_182
  let v276 : BitVec 32 := Scalar.addi c0_i32_183 v275
  v276.toNat
def k0_off8 (d0 : Dev nD) (c0_i32_191 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let c3_i32_7 : BitVec 32 := 3#32
  let v23 : BitVec 32 := Scalar.subi c3_i32_7 v21
  let v285 : BitVec 32 := Scalar.minsi v21 v23
  let c64_i32_190 : BitVec 32 := 64#32
  let v292 : BitVec 32 := Scalar.muli v285 c64_i32_190
  let v293 : BitVec 32 := Scalar.addi c0_i32_191 v292
  let v294 : Index := Scalar.indexCast v293
  let c512_192 : Index := 512#32
  ![v294.toNat, 512]
def k0_off9 (d0 : Dev nD) (c0_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let c3_i32_7 : BitVec 32 := 3#32
  let v23 : BitVec 32 := Scalar.subi c3_i32_7 v21
  let v286 : BitVec 32 := Scalar.maxsi v21 v23
  let c64_i32_196 : BitVec 32 := 64#32
  let v300 : BitVec 32 := Scalar.muli v286 c64_i32_196
  let v301 : BitVec 32 := Scalar.addi c0_i32_197 v300
  let v302 : Index := Scalar.indexCast v301
  let c512_198 : Index := 512#32
  ![v302.toNat, 512]
def k0_dev11 (d0 : Dev nD) : Nat :=
  let c0_i32_243 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v24 : BitVec 32 := Scalar.muli c4_i32_8 v19
  let c4_i32_5 : BitVec 32 := 4#32
  let v20 : BitVec 32 := Scalar.remsi v2 c4_i32_5
  let c1_i32_6 : BitVec 32 := 1#32
  let v21 : BitVec 32 := Scalar.xori v20 c1_i32_6
  let v25 : BitVec 32 := Scalar.addi v24 v21
  let c1_i32_242 : BitVec 32 := 1#32
  let v356 : BitVec 32 := Scalar.muli v25 c1_i32_242
  let v357 : BitVec 32 := Scalar.addi c0_i32_243 v356
  v357.toNat
def k0_off10 (d0 : Dev nD) (c0_i32_269 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c64_i32_268 : BitVec 32 := 64#32
  let v383 : BitVec 32 := Scalar.muli v20 c64_i32_268
  let v384 : BitVec 32 := Scalar.addi c0_i32_269 v383
  let v385 : Index := Scalar.indexCast v384
  let c0_270 : Index := 0#32
  ![v385.toNat, 0]
def k0_off11 (d0 : Dev nD) (c0_i32_271 : BitVec 32) : Fin 3 → Nat :=
  let c0_273 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32 : BitVec 32 := 3#32
  let v22 : BitVec 32 := Scalar.subi c3_i32 v20
  let v366 : BitVec 1 := Scalar.cmpi .sgt v20 v22
  let v367 : BitVec 32 := Scalar.extui v366
  let v387 : BitVec 32 := Scalar.addi c0_i32_271 v367
  let c64_i32_272 : BitVec 32 := 64#32
  let v388 : BitVec 32 := Scalar.muli v387 c64_i32_272
  let v389 : Index := Scalar.indexCast v388
  let c0_274 : Index := 0#32
  ![0, v389.toNat, 0]
def k0_off12 (d0 : Dev nD) (c0_i32_277 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v22 : BitVec 32 := Scalar.subi c3_i32 v20
  let c64_i32_276 : BitVec 32 := 64#32
  let v398 : BitVec 32 := Scalar.muli v22 c64_i32_276
  let v399 : BitVec 32 := Scalar.addi c0_i32_277 v398
  let v400 : Index := Scalar.indexCast v399
  let c0_278 : Index := 0#32
  ![v400.toNat, 0]
def k0_off13 (d0 : Dev nD) (c0_i32_279 : BitVec 32) : Fin 3 → Nat :=
  let c0_281 : Index := 0#32
  let c1_i32_248 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32 : BitVec 32 := 3#32
  let v22 : BitVec 32 := Scalar.subi c3_i32 v20
  let v366 : BitVec 1 := Scalar.cmpi .sgt v20 v22
  let v367 : BitVec 32 := Scalar.extui v366
  let v368 : BitVec 32 := Scalar.subi c1_i32_248 v367
  let v402 : BitVec 32 := Scalar.addi c0_i32_279 v368
  let c64_i32_280 : BitVec 32 := 64#32
  let v403 : BitVec 32 := Scalar.muli v402 c64_i32_280
  let v404 : Index := Scalar.indexCast v403
  let c0_282 : Index := 0#32
  ![0, v404.toNat, 0]
def k0_dev12 (d0 : Dev nD) : Nat :=
  let c0_i32_344 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v26 : BitVec 32 := Scalar.muli c4_i32_9 v19
  let c3_i32 : BitVec 32 := 3#32
  let c4_i32_5 : BitVec 32 := 4#32
  let v20 : BitVec 32 := Scalar.remsi v2 c4_i32_5
  let v22 : BitVec 32 := Scalar.subi c3_i32 v20
  let v27 : BitVec 32 := Scalar.addi v26 v22
  let c1_i32_343 : BitVec 32 := 1#32
  let v503 : BitVec 32 := Scalar.muli v27 c1_i32_343
  let v504 : BitVec 32 := Scalar.addi c0_i32_344 v503
  v504.toNat
def k0_off14 (d0 : Dev nD) (c0_i32_370 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c64_i32_369 : BitVec 32 := 64#32
  let v530 : BitVec 32 := Scalar.muli v20 c64_i32_369
  let v531 : BitVec 32 := Scalar.addi c0_i32_370 v530
  let v532 : Index := Scalar.indexCast v531
  let c256_371 : Index := 256#32
  ![v532.toNat, 256]
def k0_off15 (d0 : Dev nD) (c0_i32_372 : BitVec 32) : Fin 3 → Nat :=
  let c1_374 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let v513 : BitVec 1 := Scalar.cmpi .sgt v20 v21
  let v514 : BitVec 32 := Scalar.extui v513
  let v534 : BitVec 32 := Scalar.addi c0_i32_372 v514
  let c64_i32_373 : BitVec 32 := 64#32
  let v535 : BitVec 32 := Scalar.muli v534 c64_i32_373
  let v536 : Index := Scalar.indexCast v535
  let c0_375 : Index := 0#32
  ![1, v536.toNat, 0]
def k0_off16 (d0 : Dev nD) (c0_i32_378 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let c64_i32_377 : BitVec 32 := 64#32
  let v545 : BitVec 32 := Scalar.muli v21 c64_i32_377
  let v546 : BitVec 32 := Scalar.addi c0_i32_378 v545
  let v547 : Index := Scalar.indexCast v546
  let c256_379 : Index := 256#32
  ![v547.toNat, 256]
def k0_off17 (d0 : Dev nD) (c0_i32_380 : BitVec 32) : Fin 3 → Nat :=
  let c1_382 : Index := 1#32
  let c1_i32_349 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let v513 : BitVec 1 := Scalar.cmpi .sgt v20 v21
  let v514 : BitVec 32 := Scalar.extui v513
  let v515 : BitVec 32 := Scalar.subi c1_i32_349 v514
  let v549 : BitVec 32 := Scalar.addi c0_i32_380 v515
  let c64_i32_381 : BitVec 32 := 64#32
  let v550 : BitVec 32 := Scalar.muli v549 c64_i32_381
  let v551 : Index := Scalar.indexCast v550
  let c0_383 : Index := 0#32
  ![1, v551.toNat, 0]
def k0_dev13 (d0 : Dev nD) : Nat :=
  let c0_i32_446 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v24 : BitVec 32 := Scalar.muli c4_i32_8 v19
  let c4_i32_5 : BitVec 32 := 4#32
  let v20 : BitVec 32 := Scalar.remsi v2 c4_i32_5
  let c1_i32_6 : BitVec 32 := 1#32
  let v21 : BitVec 32 := Scalar.xori v20 c1_i32_6
  let v25 : BitVec 32 := Scalar.addi v24 v21
  let c1_i32_445 : BitVec 32 := 1#32
  let v650 : BitVec 32 := Scalar.muli v25 c1_i32_445
  let v651 : BitVec 32 := Scalar.addi c0_i32_446 v650
  v651.toNat
def k0_off18 (d0 : Dev nD) (c0_i32_472 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c64_i32_471 : BitVec 32 := 64#32
  let v677 : BitVec 32 := Scalar.muli v20 c64_i32_471
  let v678 : BitVec 32 := Scalar.addi c0_i32_472 v677
  let v679 : Index := Scalar.indexCast v678
  let c512_473 : Index := 512#32
  ![v679.toNat, 512]
def k0_off19 (d0 : Dev nD) (c0_i32_474 : BitVec 32) : Fin 3 → Nat :=
  let c2_476 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32 : BitVec 32 := 3#32
  let v22 : BitVec 32 := Scalar.subi c3_i32 v20
  let v660 : BitVec 1 := Scalar.cmpi .sgt v20 v22
  let v661 : BitVec 32 := Scalar.extui v660
  let v681 : BitVec 32 := Scalar.addi c0_i32_474 v661
  let c64_i32_475 : BitVec 32 := 64#32
  let v682 : BitVec 32 := Scalar.muli v681 c64_i32_475
  let v683 : Index := Scalar.indexCast v682
  let c0_477 : Index := 0#32
  ![2, v683.toNat, 0]
def k0_off20 (d0 : Dev nD) (c0_i32_480 : BitVec 32) : Fin 2 → Nat :=
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v22 : BitVec 32 := Scalar.subi c3_i32 v20
  let c64_i32_479 : BitVec 32 := 64#32
  let v692 : BitVec 32 := Scalar.muli v22 c64_i32_479
  let v693 : BitVec 32 := Scalar.addi c0_i32_480 v692
  let v694 : Index := Scalar.indexCast v693
  let c512_481 : Index := 512#32
  ![v694.toNat, 512]
def k0_off21 (d0 : Dev nD) (c0_i32_482 : BitVec 32) : Fin 3 → Nat :=
  let c2_484 : Index := 2#32
  let c1_i32_451 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32 : BitVec 32 := 3#32
  let v22 : BitVec 32 := Scalar.subi c3_i32 v20
  let v660 : BitVec 1 := Scalar.cmpi .sgt v20 v22
  let v661 : BitVec 32 := Scalar.extui v660
  let v662 : BitVec 32 := Scalar.subi c1_i32_451 v661
  let v696 : BitVec 32 := Scalar.addi c0_i32_482 v662
  let c64_i32_483 : BitVec 32 := 64#32
  let v697 : BitVec 32 := Scalar.muli v696 c64_i32_483
  let v698 : Index := Scalar.indexCast v697
  let c0_485 : Index := 0#32
  ![2, v698.toNat, 0]
def k0_dev14 (d0 : Dev nD) : Nat :=
  let c0_i32_548 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v26 : BitVec 32 := Scalar.muli c4_i32_9 v19
  let c3_i32 : BitVec 32 := 3#32
  let c4_i32_5 : BitVec 32 := 4#32
  let v20 : BitVec 32 := Scalar.remsi v2 c4_i32_5
  let v22 : BitVec 32 := Scalar.subi c3_i32 v20
  let v27 : BitVec 32 := Scalar.addi v26 v22
  let c1_i32_547 : BitVec 32 := 1#32
  let v797 : BitVec 32 := Scalar.muli v27 c1_i32_547
  let v798 : BitVec 32 := Scalar.addi c0_i32_548 v797
  v798.toNat
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_583 : BitVec 32 := 256#32
  let v831 : BitVec 32 := Scalar.muli v19 c256_i32_583
  let v832 : Index := Scalar.indexCast v831
  let c768_584 : Index := 768#32
  ![v832.toNat, 768]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_595 : BitVec 32 := 256#32
  let v852 : BitVec 32 := Scalar.muli v19 c256_i32_595
  let c3_i32 : BitVec 32 := 3#32
  let c4_i32_5 : BitVec 32 := 4#32
  let v20 : BitVec 32 := Scalar.remsi v2 c4_i32_5
  let v22 : BitVec 32 := Scalar.subi c3_i32 v20
  let c3_i32_7 : BitVec 32 := 3#32
  let c1_i32_6 : BitVec 32 := 1#32
  let v21 : BitVec 32 := Scalar.xori v20 c1_i32_6
  let v23 : BitVec 32 := Scalar.subi c3_i32_7 v21
  let v850 : BitVec 32 := Scalar.minsi v22 v23
  let c64_i32_596 : BitVec 32 := 64#32
  let v853 : BitVec 32 := Scalar.muli v850 c64_i32_596
  let v854 : BitVec 32 := Scalar.addi v852 v853
  let v855 : Index := Scalar.indexCast v854
  let c768_597 : Index := 768#32
  ![v855.toNat, 768]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_600 : BitVec 32 := 256#32
  let v861 : BitVec 32 := Scalar.muli v19 c256_i32_600
  let c3_i32 : BitVec 32 := 3#32
  let c4_i32_5 : BitVec 32 := 4#32
  let v20 : BitVec 32 := Scalar.remsi v2 c4_i32_5
  let v22 : BitVec 32 := Scalar.subi c3_i32 v20
  let c3_i32_7 : BitVec 32 := 3#32
  let c1_i32_6 : BitVec 32 := 1#32
  let v21 : BitVec 32 := Scalar.xori v20 c1_i32_6
  let v23 : BitVec 32 := Scalar.subi c3_i32_7 v21
  let v851 : BitVec 32 := Scalar.maxsi v22 v23
  let c64_i32_601 : BitVec 32 := 64#32
  let v862 : BitVec 32 := Scalar.muli v851 c64_i32_601
  let v863 : BitVec 32 := Scalar.addi v861 v862
  let v864 : Index := Scalar.indexCast v863
  let c768_602 : Index := 768#32
  ![v864.toNat, 768]
def k0_dev15 (d0 : Dev nD) : Nat :=
  let c0_i32_608 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v26 : BitVec 32 := Scalar.muli c4_i32_9 v19
  let c3_i32 : BitVec 32 := 3#32
  let c4_i32_5 : BitVec 32 := 4#32
  let v20 : BitVec 32 := Scalar.remsi v2 c4_i32_5
  let v22 : BitVec 32 := Scalar.subi c3_i32 v20
  let v27 : BitVec 32 := Scalar.addi v26 v22
  let c1_i32_607 : BitVec 32 := 1#32
  let v870 : BitVec 32 := Scalar.muli v27 c1_i32_607
  let v871 : BitVec 32 := Scalar.addi c0_i32_608 v870
  v871.toNat
def k0_off25 (d0 : Dev nD) (c0_i32_628 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v890 : BitVec 32 := Scalar.addi c0_i32_628 v20
  let c64_i32_629 : BitVec 32 := 64#32
  let v891 : BitVec 32 := Scalar.muli v890 c64_i32_629
  let v892 : Index := Scalar.indexCast v891
  let c0_630 : Index := 0#32
  ![v892.toNat, 0]
def k0_off26 (d0 : Dev nD) (c0_i32_11 : BitVec 32) (c0_i32_10 : BitVec 32) (c0_i32_662 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let v33 : BitVec 1 := Scalar.cmpi .sgt v19 v30
  let c1_i32_13 : BitVec 32 := 1#32
  let v34 : BitVec 32 := Scalar.subi v19 c1_i32_13
  let v35 : BitVec 32 := Scalar.select v33 v34 v19
  let c3_i32_661 : BitVec 32 := 3#32
  let v938 : BitVec 32 := Scalar.muli v35 c3_i32_661
  let v939 : BitVec 32 := Scalar.addi v938 c0_i32_662
  ![v939.toNat]
def k0_off26_at (r : Fin 9) : BitVec 32 × BitVec 32 × BitVec 32 :=
  if r.val < 4 then
    if r.val < 2 then
      if r.val < 1 then
        (0#32, 0#32, 0#32)
      else
        (1#32, 1#32, 0#32)
    else
      if r.val < 3 then
        (2#32, 2#32, 0#32)
      else
        (0#32, 0#32, 1#32)
  else
    if r.val < 6 then
      if r.val < 5 then
        (1#32, 1#32, 1#32)
      else
        (2#32, 2#32, 1#32)
    else
      if r.val < 7 then
        (0#32, 0#32, 2#32)
      else
        if r.val < 8 then
          (1#32, 1#32, 2#32)
        else
          (2#32, 2#32, 2#32)
def k0_off27 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let v33 : BitVec 1 := Scalar.cmpi .sgt v19 v30
  let c1_i32_13 : BitVec 32 := 1#32
  let v34 : BitVec 32 := Scalar.subi v19 c1_i32_13
  let v35 : BitVec 32 := Scalar.select v33 v34 v19
  let c0_i32_666 : BitVec 32 := 0#32
  let c0_i32_667 : BitVec 32 := 0#32
  ![v35.toNat, 0, 0]
def k0_off27_at (r : Fin 3) : BitVec 32 × BitVec 32 :=
  if r.val < 1 then
    (0#32, 0#32)
  else
    if r.val < 2 then
      (1#32, 1#32)
    else
      (2#32, 2#32)
def k0_off28 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let c0_i32_668 : BitVec 32 := 0#32
  let c0_i32_669 : BitVec 32 := 0#32
  ![v30.toNat, 0, 0]
def k0_off28_at (r : Fin 3) : BitVec 32 × BitVec 32 :=
  if r.val < 1 then
    (0#32, 0#32)
  else
    if r.val < 2 then
      (1#32, 1#32)
    else
      (2#32, 2#32)
def k0_dev16 (d0 : Dev nD) : Nat :=
  let c0_i32_665 : BitVec 32 := 0#32
  let c4_i32_12 : BitVec 32 := 4#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_10 : BitVec 32 := 0#32
  let v28 : BitVec 1 := Scalar.cmpi .sle v19 c0_i32_10
  let v29 : BitVec 32 := Scalar.extui v28
  let v30 : BitVec 32 := Scalar.addi c0_i32_11 v29
  let v31 : BitVec 32 := Scalar.muli c4_i32_12 v30
  let c4_i32_5 : BitVec 32 := 4#32
  let v20 : BitVec 32 := Scalar.remsi v2 c4_i32_5
  let v32 : BitVec 32 := Scalar.addi v31 v20
  let c1_i32_664 : BitVec 32 := 1#32
  let v940 : BitVec 32 := Scalar.muli v32 c1_i32_664
  let v941 : BitVec 32 := Scalar.addi c0_i32_665 v940
  v941.toNat
def k0_dev17 (d0 : Dev nD) : Nat :=
  let c0_i32_674 : BitVec 32 := 0#32
  let c4_i32_16 : BitVec 32 := 4#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 1 := Scalar.cmpi .sle v19 c1_i32_14
  let v37 : BitVec 32 := Scalar.extui v36
  let v38 : BitVec 32 := Scalar.addi c1_i32_15 v37
  let v39 : BitVec 32 := Scalar.muli c4_i32_16 v38
  let c4_i32_5 : BitVec 32 := 4#32
  let v20 : BitVec 32 := Scalar.remsi v2 c4_i32_5
  let v40 : BitVec 32 := Scalar.addi v39 v20
  let c1_i32_673 : BitVec 32 := 1#32
  let v952 : BitVec 32 := Scalar.muli v40 c1_i32_673
  let v953 : BitVec 32 := Scalar.addi c0_i32_674 v952
  v953.toNat
def k0_dev18 (d0 : Dev nD) : Nat :=
  let c0_i32_683 : BitVec 32 := 0#32
  let c4_i32_19 : BitVec 32 := 4#32
  let c2_i32_18 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v44 : BitVec 1 := Scalar.cmpi .sle v19 c2_i32
  let v45 : BitVec 32 := Scalar.extui v44
  let v46 : BitVec 32 := Scalar.addi c2_i32_18 v45
  let v47 : BitVec 32 := Scalar.muli c4_i32_19 v46
  let c4_i32_5 : BitVec 32 := 4#32
  let v20 : BitVec 32 := Scalar.remsi v2 c4_i32_5
  let v48 : BitVec 32 := Scalar.addi v47 v20
  let c1_i32_682 : BitVec 32 := 1#32
  let v964 : BitVec 32 := Scalar.muli v48 c1_i32_682
  let v965 : BitVec 32 := Scalar.addi c0_i32_683 v964
  v965.toNat
def k0_off29 (d0 : Dev nD) (c0_i32_707 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v988 : BitVec 32 := Scalar.addi c0_i32_707 v20
  let c64_i32_708 : BitVec 32 := 64#32
  let v989 : BitVec 32 := Scalar.muli v988 c64_i32_708
  let v990 : Index := Scalar.indexCast v989
  let c256_709 : Index := 256#32
  ![v990.toNat, 256]
def k0_off30 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let v33 : BitVec 1 := Scalar.cmpi .sgt v19 v30
  let c1_i32_13 : BitVec 32 := 1#32
  let v34 : BitVec 32 := Scalar.subi v19 c1_i32_13
  let v35 : BitVec 32 := Scalar.select v33 v34 v19
  let c0_i32_748 : BitVec 32 := 0#32
  let c256_i32_749 : BitVec 32 := 256#32
  ![v35.toNat, 0, 256]
def k0_off30_at (r : Fin 3) : BitVec 32 × BitVec 32 :=
  if r.val < 1 then
    (0#32, 0#32)
  else
    if r.val < 2 then
      (1#32, 1#32)
    else
      (2#32, 2#32)
def k0_off31 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let c0_i32_750 : BitVec 32 := 0#32
  let c256_i32_751 : BitVec 32 := 256#32
  ![v30.toNat, 0, 256]
def k0_off31_at (r : Fin 3) : BitVec 32 × BitVec 32 :=
  if r.val < 1 then
    (0#32, 0#32)
  else
    if r.val < 2 then
      (1#32, 1#32)
    else
      (2#32, 2#32)
def k0_dev19 (d0 : Dev nD) : Nat :=
  let c0_i32_747 : BitVec 32 := 0#32
  let c4_i32_12 : BitVec 32 := 4#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_10 : BitVec 32 := 0#32
  let v28 : BitVec 1 := Scalar.cmpi .sle v19 c0_i32_10
  let v29 : BitVec 32 := Scalar.extui v28
  let v30 : BitVec 32 := Scalar.addi c0_i32_11 v29
  let v31 : BitVec 32 := Scalar.muli c4_i32_12 v30
  let c4_i32_5 : BitVec 32 := 4#32
  let v20 : BitVec 32 := Scalar.remsi v2 c4_i32_5
  let v32 : BitVec 32 := Scalar.addi v31 v20
  let c1_i32_746 : BitVec 32 := 1#32
  let v1038 : BitVec 32 := Scalar.muli v32 c1_i32_746
  let v1039 : BitVec 32 := Scalar.addi c0_i32_747 v1038
  v1039.toNat
def k0_dev20 (d0 : Dev nD) : Nat :=
  let c0_i32_756 : BitVec 32 := 0#32
  let c4_i32_16 : BitVec 32 := 4#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 1 := Scalar.cmpi .sle v19 c1_i32_14
  let v37 : BitVec 32 := Scalar.extui v36
  let v38 : BitVec 32 := Scalar.addi c1_i32_15 v37
  let v39 : BitVec 32 := Scalar.muli c4_i32_16 v38
  let c4_i32_5 : BitVec 32 := 4#32
  let v20 : BitVec 32 := Scalar.remsi v2 c4_i32_5
  let v40 : BitVec 32 := Scalar.addi v39 v20
  let c1_i32_755 : BitVec 32 := 1#32
  let v1050 : BitVec 32 := Scalar.muli v40 c1_i32_755
  let v1051 : BitVec 32 := Scalar.addi c0_i32_756 v1050
  v1051.toNat
def k0_dev21 (d0 : Dev nD) : Nat :=
  let c0_i32_764 : BitVec 32 := 0#32
  let c4_i32_19 : BitVec 32 := 4#32
  let c2_i32_18 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v44 : BitVec 1 := Scalar.cmpi .sle v19 c2_i32
  let v45 : BitVec 32 := Scalar.extui v44
  let v46 : BitVec 32 := Scalar.addi c2_i32_18 v45
  let v47 : BitVec 32 := Scalar.muli c4_i32_19 v46
  let c4_i32_5 : BitVec 32 := 4#32
  let v20 : BitVec 32 := Scalar.remsi v2 c4_i32_5
  let v48 : BitVec 32 := Scalar.addi v47 v20
  let c1_i32_763 : BitVec 32 := 1#32
  let v1062 : BitVec 32 := Scalar.muli v48 c1_i32_763
  let v1063 : BitVec 32 := Scalar.addi c0_i32_764 v1062
  v1063.toNat
def k0_off32 (d0 : Dev nD) (c0_i32_788 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1086 : BitVec 32 := Scalar.addi c0_i32_788 v20
  let c64_i32_789 : BitVec 32 := 64#32
  let v1087 : BitVec 32 := Scalar.muli v1086 c64_i32_789
  let v1088 : Index := Scalar.indexCast v1087
  let c512_790 : Index := 512#32
  ![v1088.toNat, 512]
def k0_off33 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let v33 : BitVec 1 := Scalar.cmpi .sgt v19 v30
  let c1_i32_13 : BitVec 32 := 1#32
  let v34 : BitVec 32 := Scalar.subi v19 c1_i32_13
  let v35 : BitVec 32 := Scalar.select v33 v34 v19
  let c0_i32_829 : BitVec 32 := 0#32
  let c512_i32_830 : BitVec 32 := 512#32
  ![v35.toNat, 0, 512]
def k0_off33_at (r : Fin 3) : BitVec 32 × BitVec 32 :=
  if r.val < 1 then
    (0#32, 0#32)
  else
    if r.val < 2 then
      (1#32, 1#32)
    else
      (2#32, 2#32)
def k0_off34 (d0 : Dev nD) (c0_i32_11 : BitVec 32) (c0_i32_10 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v28 : BitVec 1 := Scalar.cmpi .sle v19 c0_i32_10
  let v29 : BitVec 32 := Scalar.extui v28
  let v30 : BitVec 32 := Scalar.addi c0_i32_11 v29
  let c0_i32_831 : BitVec 32 := 0#32
  let c512_i32_832 : BitVec 32 := 512#32
  ![v30.toNat, 0, 512]
def k0_off34_at (r : Fin 3) : BitVec 32 × BitVec 32 :=
  if r.val < 1 then
    (0#32, 0#32)
  else
    if r.val < 2 then
      (1#32, 1#32)
    else
      (2#32, 2#32)
def k0_dev22 (d0 : Dev nD) : Nat :=
  let c0_i32_828 : BitVec 32 := 0#32
  let c4_i32_12 : BitVec 32 := 4#32
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_10 : BitVec 32 := 0#32
  let v28 : BitVec 1 := Scalar.cmpi .sle v19 c0_i32_10
  let v29 : BitVec 32 := Scalar.extui v28
  let v30 : BitVec 32 := Scalar.addi c0_i32_11 v29
  let v31 : BitVec 32 := Scalar.muli c4_i32_12 v30
  let c4_i32_5 : BitVec 32 := 4#32
  let v20 : BitVec 32 := Scalar.remsi v2 c4_i32_5
  let v32 : BitVec 32 := Scalar.addi v31 v20
  let c1_i32_827 : BitVec 32 := 1#32
  let v1136 : BitVec 32 := Scalar.muli v32 c1_i32_827
  let v1137 : BitVec 32 := Scalar.addi c0_i32_828 v1136
  v1137.toNat
def k0_dev23 (d0 : Dev nD) : Nat :=
  let c0_i32_837 : BitVec 32 := 0#32
  let c4_i32_16 : BitVec 32 := 4#32
  let c1_i32_15 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_14 : BitVec 32 := 1#32
  let v36 : BitVec 1 := Scalar.cmpi .sle v19 c1_i32_14
  let v37 : BitVec 32 := Scalar.extui v36
  let v38 : BitVec 32 := Scalar.addi c1_i32_15 v37
  let v39 : BitVec 32 := Scalar.muli c4_i32_16 v38
  let c4_i32_5 : BitVec 32 := 4#32
  let v20 : BitVec 32 := Scalar.remsi v2 c4_i32_5
  let v40 : BitVec 32 := Scalar.addi v39 v20
  let c1_i32_836 : BitVec 32 := 1#32
  let v1148 : BitVec 32 := Scalar.muli v40 c1_i32_836
  let v1149 : BitVec 32 := Scalar.addi c0_i32_837 v1148
  v1149.toNat
def k0_dev24 (d0 : Dev nD) : Nat :=
  let c0_i32_846 : BitVec 32 := 0#32
  let c4_i32_19 : BitVec 32 := 4#32
  let c2_i32_18 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v44 : BitVec 1 := Scalar.cmpi .sle v19 c2_i32
  let v45 : BitVec 32 := Scalar.extui v44
  let v46 : BitVec 32 := Scalar.addi c2_i32_18 v45
  let v47 : BitVec 32 := Scalar.muli c4_i32_19 v46
  let c4_i32_5 : BitVec 32 := 4#32
  let v20 : BitVec 32 := Scalar.remsi v2 c4_i32_5
  let v48 : BitVec 32 := Scalar.addi v47 v20
  let c1_i32_845 : BitVec 32 := 1#32
  let v1160 : BitVec 32 := Scalar.muli v48 c1_i32_845
  let v1161 : BitVec 32 := Scalar.addi c0_i32_846 v1160
  v1161.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_859 : BitVec 32 := 256#32
  let v1179 : BitVec 32 := Scalar.muli v19 c256_i32_859
  let c4_i32_5 : BitVec 32 := 4#32
  let v20 : BitVec 32 := Scalar.remsi v2 c4_i32_5
  let c64_i32_860 : BitVec 32 := 64#32
  let v1180 : BitVec 32 := Scalar.muli v20 c64_i32_860
  let v1181 : BitVec 32 := Scalar.addi v1179 v1180
  let v1182 : Index := Scalar.indexCast v1181
  let c768_861 : Index := 768#32
  ![v1182.toNat, 768]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let v1170 : BitVec 1 := Scalar.cmpi .sgt v20 v21
  let v1171 : BitVec 32 := Scalar.extui v1170
  let c64_i32_862 : BitVec 32 := 64#32
  let v1184 : BitVec 32 := Scalar.muli v1171 c64_i32_862
  let v1185 : Index := Scalar.indexCast v1184
  let c0_863 : Index := 0#32
  ![v1185.toNat, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_865 : BitVec 32 := 256#32
  let v1193 : BitVec 32 := Scalar.muli v19 c256_i32_865
  let c4_i32_5 : BitVec 32 := 4#32
  let v20 : BitVec 32 := Scalar.remsi v2 c4_i32_5
  let c1_i32_6 : BitVec 32 := 1#32
  let v21 : BitVec 32 := Scalar.xori v20 c1_i32_6
  let c64_i32_866 : BitVec 32 := 64#32
  let v1194 : BitVec 32 := Scalar.muli v21 c64_i32_866
  let v1195 : BitVec 32 := Scalar.addi v1193 v1194
  let v1196 : Index := Scalar.indexCast v1195
  let c768_867 : Index := 768#32
  ![v1196.toNat, 768]
def k0_off38 (d0 : Dev nD) : Fin 2 → Nat :=
  let c1_i32_851 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.xori v20 c1_i32_6
  let v1170 : BitVec 1 := Scalar.cmpi .sgt v20 v21
  let v1171 : BitVec 32 := Scalar.extui v1170
  let v1172 : BitVec 32 := Scalar.subi c1_i32_851 v1171
  let c64_i32_868 : BitVec 32 := 64#32
  let v1198 : BitVec 32 := Scalar.muli v1172 c64_i32_868
  let v1199 : Index := Scalar.indexCast v1198
  let c0_869 : Index := 0#32
  ![v1199.toNat, 0]
def k0_dev25 (d0 : Dev nD) : Nat :=
  let c0_i32_875 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v24 : BitVec 32 := Scalar.muli c4_i32_8 v19
  let c4_i32_5 : BitVec 32 := 4#32
  let v20 : BitVec 32 := Scalar.remsi v2 c4_i32_5
  let c1_i32_6 : BitVec 32 := 1#32
  let v21 : BitVec 32 := Scalar.xori v20 c1_i32_6
  let v25 : BitVec 32 := Scalar.addi v24 v21
  let c1_i32_874 : BitVec 32 := 1#32
  let v1207 : BitVec 32 := Scalar.muli v25 c1_i32_874
  let v1208 : BitVec 32 := Scalar.addi c0_i32_875 v1207
  v1208.toNat
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1213 : Index := Scalar.indexCast v19
  let c0_876 : Index := 0#32
  let c0_877 : Index := 0#32
  ![v1213.toNat, 0, 0]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1267 : Index := Scalar.indexCast v19
  let c0_923 : Index := 0#32
  let c256_924 : Index := 256#32
  ![v1267.toNat, 0, 256]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1321 : Index := Scalar.indexCast v19
  let c0_970 : Index := 0#32
  let c512_971 : Index := 512#32
  ![v1321.toNat, 0, 512]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points

@[expose] public section

set_option synthInstance.maxSize 4096

/-! # The body as a program of phases

The printed body is one long sequence of loads, stores, copies and waits. Here the same sequence is written as a
program of phases over a column strip `s`, and `body_eq` says the two are one program. -/

noncomputable section

namespace Cert.KernelIdeal.Tile

open Idealize.ShloMosaic Idealize.SL.Sem Cert.KernelIdeal Cert.KernelIdeal.Gen

variable {F : FTy → Type} [FloatOps F]

/-- A program of the kernel's core. -/
abbrev Pg (F : FTy → Type) (α : Type) : Type _ := Prog (TpuEff nD τ sig (Elt F) Λ₀ .tc) α

/-! ## Buffers -/

abbrev xM : Memref sig .tc .vmem S1024x64 .bf16 := Memref.whole cc0_stg0_0
abbrev wM : Memref sig .tc .vmem S64x1024 .bf16 := Memref.whole cc0_stg1_0
abbrev oM : Memref sig .tc .vmem S64x1024 .f32 := Memref.whole cc0_stg2_0
abbrev accM : Memref sig .tc .vmem S1024x1024 .f32 := Memref.whole cc0_scratch0
abbrev p1sM : Memref sig .tc .vmem S3x512x256 .bf16 := Memref.whole cc0_scratch1
abbrev p1rM : Memref sig .tc .vmem S3x512x256 .bf16 := Memref.whole cc0_scratch2
abbrev p2sM : Memref sig .tc .vmem S3x256x256 .bf16 := Memref.whole cc0_scratch3
abbrev p2rM : Memref sig .tc .vmem S3x256x256 .bf16 := Memref.whole cc0_scratch4
abbrev zfM : Memref sig .tc .vmem S4x64x768 .bf16 := Memref.whole cc0_scratch5
abbrev zrM : Memref sig .tc .vmem S3x64x768 .bf16 := Memref.whole cc0_scratch6
abbrev czsM : Memref sig .tc .vmem S3x256x256 .bf16 := Memref.whole cc0_scratch7
abbrev czrM : Memref sig .tc .vmem S3x256x256 .bf16 := Memref.whole cc0_scratch8
abbrev c1sM : Memref sig .tc .vmem S128x256 .bf16 := Memref.whole cc0_scratch9
abbrev c1rM : Memref sig .tc .vmem S128x256 .bf16 := Memref.whole cc0_scratch10
abbrev c2sM : Memref sig .tc .vmem S64x256 .bf16 := Memref.whole cc0_scratch11
abbrev c2rM : Memref sig .tc .vmem S64x256 .bf16 := Memref.whole cc0_scratch12

/-! ## Offsets by strip -/

def offLo (s : Fin 3) (d : Dev nD) (r : Fin 4) : Fin 2 → ℕ :=
  match s with
  | 0 => k0_off4 d (BitVec.ofNat 32 (256 * r.val))
  | 1 => k0_off6 d (BitVec.ofNat 32 (256 * r.val))
  | 2 => k0_off8 d (BitVec.ofNat 32 (256 * r.val))
def offHi (s : Fin 3) (d : Dev nD) (r : Fin 4) : Fin 2 → ℕ :=
  match s with
  | 0 => k0_off5 d (BitVec.ofNat 32 (256 * r.val))
  | 1 => k0_off7 d (BitVec.ofNat 32 (256 * r.val))
  | 2 => k0_off9 d (BitVec.ofNat 32 (256 * r.val))
def offU (s : Fin 3) (d : Dev nD) (r : Fin 4) : Fin 2 → ℕ :=
  match s with
  | 0 => k0_off10 d (BitVec.ofNat 32 (256 * r.val))
  | 1 => k0_off14 d (BitVec.ofNat 32 (256 * r.val))
  | 2 => k0_off18 d (BitVec.ofNat 32 (256 * r.val))
def offUr (s : Fin 3) (d : Dev nD) (r : Fin 4) : Fin 3 → ℕ :=
  match s with
  | 0 => k0_off11 d (BitVec.ofNat 32 (2 * r.val))
  | 1 => k0_off15 d (BitVec.ofNat 32 (2 * r.val))
  | 2 => k0_off19 d (BitVec.ofNat 32 (2 * r.val))
def offF (s : Fin 3) (d : Dev nD) (r : Fin 4) : Fin 2 → ℕ :=
  match s with
  | 0 => k0_off12 d (BitVec.ofNat 32 (256 * r.val))
  | 1 => k0_off16 d (BitVec.ofNat 32 (256 * r.val))
  | 2 => k0_off20 d (BitVec.ofNat 32 (256 * r.val))
def offFr (s : Fin 3) (d : Dev nD) (r : Fin 4) : Fin 3 → ℕ :=
  match s with
  | 0 => k0_off13 d (BitVec.ofNat 32 (2 * r.val))
  | 1 => k0_off17 d (BitVec.ofNat 32 (2 * r.val))
  | 2 => k0_off21 d (BitVec.ofNat 32 (2 * r.val))
def offZ (s : Fin 3) (d : Dev nD) (r : Fin 4) : Fin 2 → ℕ :=
  match s with
  | 0 => k0_off25 d (BitVec.ofNat 32 (4 * r.val))
  | 1 => k0_off29 d (BitVec.ofNat 32 (4 * r.val))
  | 2 => k0_off32 d (BitVec.ofNat 32 (4 * r.val))
def offZd (s : Fin 3) (d : Dev nD) (k : Fin 3) : Fin 3 → ℕ :=
  match s with
  | 0 => k0_off27 d (BitVec.ofNat 32 k.val) (BitVec.ofNat 32 k.val)
  | 1 => k0_off30 d (BitVec.ofNat 32 k.val) (BitVec.ofNat 32 k.val)
  | 2 => k0_off33 d (BitVec.ofNat 32 k.val) (BitVec.ofNat 32 k.val)
def offZs (s : Fin 3) (d : Dev nD) (k : Fin 3) : Fin 3 → ℕ :=
  match s with
  | 0 => k0_off28 d (BitVec.ofNat 32 k.val) (BitVec.ofNat 32 k.val)
  | 1 => k0_off31 d (BitVec.ofNat 32 k.val) (BitVec.ofNat 32 k.val)
  | 2 => k0_off34 d (BitVec.ofNat 32 k.val) (BitVec.ofNat 32 k.val)
def offO (s : Fin 3) (d : Dev nD) : Fin 3 → ℕ :=
  match s with
  | 0 => k0_off39 d
  | 1 => k0_off40 d
  | 2 => k0_off41 d
def offZm (s : Fin 3) (d : Dev nD) (k : Fin 3) : Fin 1 → ℕ :=
  k0_off26 d (BitVec.ofNat 32 k.val) (BitVec.ofNat 32 k.val) (BitVec.ofNat 32 s.val)
def offCa (d : Dev nD) (k : Fin 3) : Fin 2 → ℕ := k0_off1 d (BitVec.ofNat 32 k.val) (BitVec.ofNat 32 k.val)
def offCm (d : Dev nD) (k : Fin 3) : Fin 1 → ℕ := k0_off2 d (BitVec.ofNat 32 k.val) (BitVec.ofNat 32 k.val)
def offCd (d : Dev nD) (k : Fin 3) : Fin 3 → ℕ := k0_off3 d (BitVec.ofNat 32 k.val) (BitVec.ofNat 32 k.val)

/-! ## Devices by strip -/

def devB (d : Dev nD) (i : Fin 5) : Dev nD :=
  match i with
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩
def devC (d : Dev nD) (k : Fin 3) : Dev nD :=
  match k with
  | 0 => ⟨k0_dev6 d, k0_dev6_lt d⟩
  | 1 => ⟨k0_dev7 d, k0_dev7_lt d⟩
  | 2 => ⟨k0_dev8 d, k0_dev8_lt d⟩
def dev1 (s : Fin 3) (d : Dev nD) : Dev nD :=
  match s with
  | 0 => ⟨k0_dev9 d, k0_dev9_lt d⟩
  | 1 => ⟨k0_dev10 d, k0_dev10_lt d⟩
  | 2 => ⟨k0_dev11 d, k0_dev11_lt d⟩
def dev2 (s : Fin 3) (d : Dev nD) : Dev nD :=
  match s with
  | 0 => ⟨k0_dev12 d, k0_dev12_lt d⟩
  | 1 => ⟨k0_dev13 d, k0_dev13_lt d⟩
  | 2 => ⟨k0_dev14 d, k0_dev14_lt d⟩
def devZ (s : Fin 3) (d : Dev nD) (k : Fin 3) : Dev nD :=
  match s, k with
  | 0, 0 => ⟨k0_dev16 d, k0_dev16_lt d⟩
  | 0, 1 => ⟨k0_dev17 d, k0_dev17_lt d⟩
  | 0, 2 => ⟨k0_dev18 d, k0_dev18_lt d⟩
  | 1, 0 => ⟨k0_dev19 d, k0_dev19_lt d⟩
  | 1, 1 => ⟨k0_dev20 d, k0_dev20_lt d⟩
  | 1, 2 => ⟨k0_dev21 d, k0_dev21_lt d⟩
  | 2, 0 => ⟨k0_dev22 d, k0_dev22_lt d⟩
  | 2, 1 => ⟨k0_dev23 d, k0_dev23_lt d⟩
  | 2, 2 => ⟨k0_dev24 d, k0_dev24_lt d⟩

/-! ## Where on the mesh -/

/-- The plane, the place in it, and the three other places of the plane. -/
def zN (d : Dev nD) : ℕ := d.val / 4
def cN (d : Dev nD) : ℕ := d.val % 4
def xN (d : Dev nD) : ℕ := if d.val % 2 = 0 then d.val % 4 + 1 else d.val % 4 - 1
/-- The block handed on in the second exchange of strip `s`. -/
def fN (s : Fin 3) (d : Dev nD) : ℕ := if s.val % 2 = 0 then 3 - cN d else xN d
/-- The lower and the upper of the two blocks handed on in the first exchange of strip `s`. -/
def bN (s : Fin 3) (d : Dev nD) (h : ℕ) : ℕ :=
  if s.val % 2 = 0 then (if h = 0 then min (xN d) (3 - xN d) else max (xN d) (3 - xN d))
  else (if h = 0 then min (3 - cN d) (3 - xN d) else max (3 - cN d) (3 - xN d))
/-- Which of the two received blocks is the one kept. -/
def uN (s : Fin 3) (d : Dev nD) : ℕ := if fN s d < cN d then 1 else 0
/-- The plane of the `k`-th copy over planes, and the place it lands in. -/
def zdN (d : Dev nD) (k : Fin 3) : ℕ := if zN d ≤ k.val then k.val + 1 else k.val
def slN (d : Dev nD) (k : Fin 3) : ℕ := if zdN d k < zN d then zN d - 1 else zN d

def px (d : Dev nD) : Dev nD := ⟨(4 * zN d + xN d) % 16, Nat.mod_lt _ (by decide)⟩
def py (d : Dev nD) : Dev nD := ⟨(4 * zN d + (3 - cN d)) % 16, Nat.mod_lt _ (by decide)⟩
def pz (d : Dev nD) (k : Fin 3) : Dev nD := ⟨(4 * zdN d k + cN d) % 16, Nat.mod_lt _ (by decide)⟩
def slot (d : Dev nD) (k : Fin 3) : Fin 3 := ⟨slN d k % 3, Nat.mod_lt _ (by decide)⟩
def peer1 (s : Fin 3) (d : Dev nD) : Dev nD := if s.val % 2 = 0 then px d else py d
def peer2 (s : Fin 3) (d : Dev nD) : Dev nD := if s.val % 2 = 0 then py d else px d

theorem offLo_eq : ∀ (s : Fin 3) (d : Dev nD) (r : Fin 4), offLo s d r = ![256 * r.val + 64 * bN s d 0, 256 * s.val] := by decide +kernel
theorem offHi_eq : ∀ (s : Fin 3) (d : Dev nD) (r : Fin 4), offHi s d r = ![256 * r.val + 64 * bN s d 1, 256 * s.val] := by decide +kernel
theorem offU_eq : ∀ (s : Fin 3) (d : Dev nD) (r : Fin 4), offU s d r = ![256 * r.val + 64 * cN d, 256 * s.val] := by decide +kernel
theorem offUr_eq : ∀ (s : Fin 3) (d : Dev nD) (r : Fin 4), offUr s d r = ![s.val, 128 * r.val + 64 * uN s d, 0] := by decide +kernel
theorem offF_eq : ∀ (s : Fin 3) (d : Dev nD) (r : Fin 4), offF s d r = ![256 * r.val + 64 * fN s d, 256 * s.val] := by decide +kernel
theorem offFr_eq : ∀ (s : Fin 3) (d : Dev nD) (r : Fin 4), offFr s d r = ![s.val, 128 * r.val + 64 * (1 - uN s d), 0] := by decide +kernel
theorem offZ_eq : ∀ (s : Fin 3) (d : Dev nD) (r : Fin 4), offZ s d r = ![256 * r.val + 64 * cN d, 256 * s.val] := by decide +kernel
theorem offZd_eq : ∀ (s : Fin 3) (d : Dev nD) (k : Fin 3), offZd s d k = ![(slot d k).val, 0, 256 * s.val] := by decide +kernel
theorem offZs_eq : ∀ (s : Fin 3) (d : Dev nD) (k : Fin 3), offZs s d k = ![zdN d k, 0, 256 * s.val] := by decide +kernel
theorem offO_eq : ∀ (s : Fin 3) (d : Dev nD), offO s d = ![zN d, 0, 256 * s.val] := by decide +kernel
theorem offZm_eq : ∀ (s : Fin 3) (d : Dev nD) (k : Fin 3), offZm s d k = ![3 * (slot d k).val + s.val] := by decide +kernel
theorem offCa_eq : ∀ (d : Dev nD) (k : Fin 3), offCa d k = ![256 * zdN d k, 768] := by decide +kernel
theorem offCm_eq : ∀ (d : Dev nD) (k : Fin 3), offCm d k = ![(slot d k).val] := by decide +kernel
theorem offCd_eq : ∀ (d : Dev nD) (k : Fin 3), offCd d k = ![(slot d k).val, 0, 0] := by decide +kernel
theorem off22_eq : ∀ (d : Dev nD), k0_off22 d = ![256 * zN d, 768] := by decide +kernel
theorem off23_eq : ∀ (d : Dev nD), k0_off23 d = ![256 * zN d + 64 * bN 1 d 0, 768] := by decide +kernel
theorem off24_eq : ∀ (d : Dev nD), k0_off24 d = ![256 * zN d + 64 * bN 1 d 1, 768] := by decide +kernel
theorem off35_eq : ∀ (d : Dev nD), k0_off35 d = ![256 * zN d + 64 * cN d, 768] := by decide +kernel
theorem off36_eq : ∀ (d : Dev nD), k0_off36 d = ![64 * uN 1 d, 0] := by decide +kernel
theorem off37_eq : ∀ (d : Dev nD), k0_off37 d = ![256 * zN d + 64 * fN 1 d, 768] := by decide +kernel
theorem off38_eq : ∀ (d : Dev nD), k0_off38 d = ![64 * (1 - uN 1 d), 0] := by decide +kernel
theorem devC_eq : ∀ (d : Dev nD) (k : Fin 3), devC d k = pz d k := by decide +kernel
theorem dev1_eq : ∀ (s : Fin 3) (d : Dev nD), dev1 s d = peer1 s d := by decide +kernel
theorem dev2_eq : ∀ (s : Fin 3) (d : Dev nD), dev2 s d = peer2 s d := by decide +kernel
theorem devZ_eq : ∀ (s : Fin 3) (d : Dev nD) (k : Fin 3), devZ s d k = pz d k := by decide +kernel
theorem dev15_eq : ∀ (d : Dev nD), (⟨k0_dev15 d, k0_dev15_lt d⟩ : Dev nD) = py d := by decide +kernel
theorem dev25_eq : ∀ (d : Dev nD), (⟨k0_dev25 d, k0_dev25_lt d⟩ : Dev nD) = px d := by decide +kernel
theorem devB_eq : ∀ (d : Dev nD), devB d 0 = px d ∧ devB d 1 = py d ∧ ∀ k : Fin 3, devB d ⟨k.val + 2, by omega⟩ = pz d k := by decide +kernel

end Cert.KernelIdeal.Tile
-- ==== Proof.BodyProg.lean ====
module

public import proofs.«01_k».proof.Proof.Prog

@[expose] public section

set_option synthInstance.maxSize 4096

/-! # The body as a program of phases -/

noncomputable section

namespace Cert.KernelIdeal.Tile

open Idealize.ShloMosaic Idealize.SL.Sem Cert.KernelIdeal Cert.KernelIdeal.Gen

variable {F : FTy → Type} [FloatOps F]

/-! ## Bounds -/

theorem inbLo : ∀ (s : Fin 3) (d : Dev nD) (r : Fin 4), ∀ a, offLo s d r a + S64x256.size a ≤ S1024x1024.size a := by decide +kernel
theorem inbHi : ∀ (s : Fin 3) (d : Dev nD) (r : Fin 4), ∀ a, offHi s d r a + S64x256.size a ≤ S1024x1024.size a := by decide +kernel
theorem inbU : ∀ (s : Fin 3) (d : Dev nD) (r : Fin 4), ∀ a, offU s d r a + S64x256.size a ≤ S1024x1024.size a := by decide +kernel
theorem inbUr : ∀ (s : Fin 3) (d : Dev nD) (r : Fin 4), ∀ a, offUr s d r a + S1x64x256.size a ≤ S3x512x256.size a := by decide +kernel
theorem inbF : ∀ (s : Fin 3) (d : Dev nD) (r : Fin 4), ∀ a, offF s d r a + S64x256.size a ≤ S1024x1024.size a := by decide +kernel
theorem inbFr : ∀ (s : Fin 3) (d : Dev nD) (r : Fin 4), ∀ a, offFr s d r a + S1x64x256.size a ≤ S3x512x256.size a := by decide +kernel
theorem inbZ : ∀ (s : Fin 3) (d : Dev nD) (r : Fin 4), ∀ a, offZ s d r a + S64x256.size a ≤ S1024x1024.size a := by decide +kernel
theorem inbZd : ∀ (s : Fin 3) (d : Dev nD) (k : Fin 3), ∀ a, offZd s d k a + S1x64x256.size a ≤ S3x64x768.size a := by decide +kernel
theorem inbZs : ∀ (s : Fin 3) (d : Dev nD) (k : Fin 3), ∀ a, offZs s d k a + S1x64x256.size a ≤ S4x64x768.size a := by decide +kernel
theorem inbO : ∀ (s : Fin 3) (d : Dev nD), ∀ a, offO s d a + S1x64x256.size a ≤ S4x64x768.size a := by decide +kernel
theorem inbZm : ∀ (s : Fin 3) (d : Dev nD) (k : Fin 3), ∀ a, offZm s d k a + S1.size a ≤ S9.size a := by decide +kernel
theorem inbCa : ∀ (d : Dev nD) (k : Fin 3), ∀ a, offCa d k a + S256x256.size a ≤ S1024x1024.size a := by decide +kernel
theorem inbCm : ∀ (d : Dev nD) (k : Fin 3), ∀ a, offCm d k a + S1.size a ≤ S3.size a := by decide +kernel
theorem inbCd : ∀ (d : Dev nD) (k : Fin 3), ∀ a, offCd d k a + S1x256x256.size a ≤ S3x256x256.size a := by decide +kernel
theorem inbAcc : ∀ (s : Fin 4), ∀ a, (![0, 256 * s.val] : Fin 2 → ℕ) a + S1024x256.size a ≤ S1024x1024.size a := by decide +kernel
theorem inbOut : ∀ (s : Fin 4), ∀ a, (![0, 256 * s.val] : Fin 2 → ℕ) a + S64x256.size a ≤ S64x1024.size a := by decide +kernel
theorem inbP1 : ∀ (s : Fin 3) (t : Fin 8), ∀ a, (![s.val, 64 * t.val, 0] : Fin 3 → ℕ) a + S1x64x256.size a ≤ S3x512x256.size a := by decide +kernel
theorem inbP2 : ∀ (s : Fin 3) (t : Fin 4), ∀ a, (![s.val, 64 * t.val, 0] : Fin 3 → ℕ) a + S1x64x256.size a ≤ S3x256x256.size a := by decide +kernel
theorem inbZf : ∀ (s : Fin 3) (t : Fin 4), ∀ a, (![t.val, 0, 256 * s.val] : Fin 3 → ℕ) a + S1x64x256.size a ≤ S4x64x768.size a := by decide +kernel
theorem inbZr : ∀ (s : Fin 3) (k : Fin 3), ∀ a, (![k.val, 0, 256 * s.val] : Fin 3 → ℕ) a + S1x64x256.size a ≤ S3x64x768.size a := by decide +kernel
theorem inbS1 : ∀ (s : Fin 3), ∀ a, (![s.val, 0, 0] : Fin 3 → ℕ) a + S1x512x256.size a ≤ S3x512x256.size a := by decide +kernel
theorem inbS2 : ∀ (s : Fin 3), ∀ a, (![s.val, 0, 0] : Fin 3 → ℕ) a + S1x256x256.size a ≤ S3x256x256.size a := by decide +kernel
theorem inbC1 : ∀ (h : Fin 2), ∀ a, (![64 * h.val, 0] : Fin 2 → ℕ) a + S64x256.size a ≤ S128x256.size a := by decide +kernel
theorem inbM3 : ∀ (s : Fin 3), ∀ a, (![s.val] : Fin 1 → ℕ) a + S1.size a ≤ S3.size a := by decide +kernel
theorem inbM9 : ∀ (k s : Fin 3), ∀ a, (![3 * k.val + s.val] : Fin 1 → ℕ) a + S1.size a ≤ S9.size a := by decide +kernel

theorem packP1 : ∀ (s : Fin 3) (t : Fin 8), (Rect.unit (s := S3x512x256) ![s.val, 64 * t.val, 0] S1x64x256.size (inbP1 s t)).PackedRows (EltTy.packing .bf16) := by decide +kernel
theorem packP2 : ∀ (s : Fin 3) (t : Fin 4), (Rect.unit (s := S3x256x256) ![s.val, 64 * t.val, 0] S1x64x256.size (inbP2 s t)).PackedRows (EltTy.packing .bf16) := by decide +kernel
theorem packZf : ∀ (s : Fin 3) (t : Fin 4), (Rect.unit (s := S4x64x768) ![t.val, 0, 256 * s.val] S1x64x256.size (inbZf s t)).PackedRows (EltTy.packing .bf16) := by decide +kernel
theorem packCz : ∀ (s : Fin 3), (Rect.unit (s := S3x256x256) ![s.val, 0, 0] S1x256x256.size (inbS2 s)).PackedRows (EltTy.packing .bf16) := by decide +kernel
theorem packC1 : ∀ (h : Fin 2), (Rect.unit (s := S128x256) ![64 * h.val, 0] S64x256.size (inbC1 h)).PackedRows (EltTy.packing .bf16) := by decide +kernel

theorem wwS1 : ∀ (s : Fin 3), (Rect.unit (s := S3x512x256) ![s.val, 0, 0] S1x512x256.size (inbS1 s)).WholeWords (EltTy.packing .bf16) := by decide +kernel
theorem wwS2 : ∀ (s : Fin 3), (Rect.unit (s := S3x256x256) ![s.val, 0, 0] S1x256x256.size (inbS2 s)).WholeWords (EltTy.packing .bf16) := by decide +kernel
theorem wwCd : ∀ (d : Dev nD) (k : Fin 3), (Rect.unit (s := S3x256x256) (offCd d k) S1x256x256.size (inbCd d k)).WholeWords (EltTy.packing .bf16) := by decide +kernel
theorem wwZd : ∀ (s : Fin 3) (d : Dev nD) (k : Fin 3), (Rect.unit (s := S3x64x768) (offZd s d k) S1x64x256.size (inbZd s d k)).WholeWords (EltTy.packing .bf16) := by decide +kernel
theorem wwZs : ∀ (s : Fin 3) (d : Dev nD) (k : Fin 3), (Rect.unit (s := S4x64x768) (offZs s d k) S1x64x256.size (inbZs s d k)).WholeWords (EltTy.packing .bf16) := by decide +kernel
theorem wwZr : ∀ (s k : Fin 3), (Rect.unit (s := S3x64x768) ![k.val, 0, 256 * s.val] S1x64x256.size (inbZr s k)).WholeWords (EltTy.packing .bf16) := by decide +kernel
theorem wwZf : ∀ (s : Fin 3) (t : Fin 4), (Rect.unit (s := S4x64x768) ![t.val, 0, 256 * s.val] S1x64x256.size (inbZf s t)).WholeWords (EltTy.packing .bf16) := by decide +kernel

/-! ## Views and semaphores of the copies -/

abbrev p1sV (s : Fin 3) : Memref sig .tc .vmem S512x256 .bf16 :=
  (p1sM.slice (Rect.unit (s := S3x512x256) ![s.val, 0, 0] S1x512x256.size (inbS1 s)) (fun _ => rfl)).squeeze S512x256 squeezes_S1x512x256_S512x256
abbrev p1rV (s : Fin 3) : Memref sig .tc .vmem S512x256 .bf16 :=
  (p1rM.slice (Rect.unit (s := S3x512x256) ![s.val, 0, 0] S1x512x256.size (inbS1 s)) (fun _ => rfl)).squeeze S512x256 squeezes_S1x512x256_S512x256
abbrev p2sV (s : Fin 3) : Memref sig .tc .vmem S256x256 .bf16 :=
  (p2sM.slice (Rect.unit (s := S3x256x256) ![s.val, 0, 0] S1x256x256.size (inbS2 s)) (fun _ => rfl)).squeeze S256x256 squeezes_S1x256x256_S256x256
abbrev p2rV (s : Fin 3) : Memref sig .tc .vmem S256x256 .bf16 :=
  (p2rM.slice (Rect.unit (s := S3x256x256) ![s.val, 0, 0] S1x256x256.size (inbS2 s)) (fun _ => rfl)).squeeze S256x256 squeezes_S1x256x256_S256x256
abbrev czsV (k : Fin 3) : Memref sig .tc .vmem S256x256 .bf16 :=
  (czsM.slice (Rect.unit (s := S3x256x256) ![k.val, 0, 0] S1x256x256.size (inbS2 k)) (fun _ => rfl)).squeeze S256x256 squeezes_S1x256x256_S256x256
abbrev czrV (k : Fin 3) : Memref sig .tc .vmem S256x256 .bf16 :=
  (czrM.slice (Rect.unit (s := S3x256x256) ![k.val, 0, 0] S1x256x256.size (inbS2 k)) (fun _ => rfl)).squeeze S256x256 squeezes_S1x256x256_S256x256
abbrev czdV (d : Dev nD) (k : Fin 3) : Memref sig .tc .vmem S256x256 .bf16 :=
  (czrM.slice (Rect.unit (s := S3x256x256) (offCd d k) S1x256x256.size (inbCd d k)) (fun _ => rfl)).squeeze S256x256 squeezes_S1x256x256_S256x256
abbrev zsV (s : Fin 3) (d : Dev nD) (k : Fin 3) : Memref sig .tc .vmem S64x256 .bf16 :=
  (zfM.slice (Rect.unit (s := S4x64x768) (offZs s d k) S1x64x256.size (inbZs s d k)) (fun _ => rfl)).squeeze S64x256 squeezes_S1x64x256_S64x256
abbrev zdV (s : Fin 3) (d : Dev nD) (k : Fin 3) : Memref sig .tc .vmem S64x256 .bf16 :=
  (zrM.slice (Rect.unit (s := S3x64x768) (offZd s d k) S1x64x256.size (inbZd s d k)) (fun _ => rfl)).squeeze S64x256 squeezes_S1x64x256_S64x256
abbrev zrV (s k : Fin 3) : Memref sig .tc .vmem S64x256 .bf16 :=
  (zrM.slice (Rect.unit (s := S3x64x768) ![k.val, 0, 256 * s.val] S1x64x256.size (inbZr s k)) (fun _ => rfl)).squeeze S64x256 squeezes_S1x64x256_S64x256
abbrev zfV (s : Fin 3) (t : Fin 4) : Memref sig .tc .vmem S64x256 .bf16 :=
  (zfM.slice (Rect.unit (s := S4x64x768) ![t.val, 0, 256 * s.val] S1x64x256.size (inbZf s t)) (fun _ => rfl)).squeeze S64x256 squeezes_S1x64x256_S64x256

abbrev sm3 (A : DmaSems sig S3) (s : Fin 3) : DmaSem sig :=
  ((A.slice (Rect.unit (s := S3) ![s.val] S1.size (inbM3 s))).squeeze S_ squeezes_S1_S_).sem
abbrev sm9 (A : DmaSems sig S9) (k s : Fin 3) : DmaSem sig :=
  ((A.slice (Rect.unit (s := S9) ![3 * k.val + s.val] S1.size (inbM9 k s))).squeeze S_ squeezes_S1_S_).sem
abbrev sm1 (A : DmaSems sig S1) : DmaSem sig :=
  ((A.slice (Rect.unit (s := S1) ![0] S1.size inb_S1_S1_0)).squeeze S_ squeezes_S1_S_).sem
abbrev smC (d : Dev nD) (k : Fin 3) : DmaSem sig :=
  ((cc0_scratch20.slice (Rect.unit (s := S3) (offCm d k) S1.size (inbCm d k))).squeeze S_ squeezes_S1_S_).sem
abbrev smZ (s : Fin 3) (d : Dev nD) (k : Fin 3) : DmaSem sig :=
  ((cc0_scratch18.slice (Rect.unit (s := S9) (offZm s d k) S1.size (inbZm s d k))).squeeze S_ squeezes_S1_S_).sem

/-! ## Values -/

/-- A block of 64 rows cut to half precision. -/
def cutP (v : Vec F S64x256 .f32) : FVec F S1x64x256 .bf16 := k0_pay8 v
/-- A block plus a received one. -/
def addP (a : Vec F S64x256 .f32) (b : Vec F S1x64x256 .bf16) : FVec F S64x256 .f32 := k0_pay37 a b
/-- The same, cut to half precision. -/
def fwdP (a : Vec F S64x256 .f32) (b : Vec F S1x64x256 .bf16) : FVec F S1x64x256 .bf16 := k0_pay38 a b
def cut2P (v : Vec F S64x256 .f32) : FVec F S64x256 .bf16 := k0_pay66 v

/-- The part-product of strip `s`. -/
def mmP (s : Fin 4) (x : Vec F S1024x64 .bf16) (w : Vec F S64x1024 .bf16) : FVec F S1024x256 .f32 :=
  match s with
  | 0 => k0_pay7 (k0_pay1 x) (k0_pay2 w)
  | 1 => k0_pay16 (k0_pay1 x) (k0_pay2 w)
  | 2 => k0_pay26 (k0_pay25 (k0_pay1 x) (k0_pay2 w))
  | 3 => k0_pay3 x w

/-! ## The steps -/

abbrev ldS (m : Memref sig .tc .vmem S1024x1024 .f32) (off : Fin 2 → ℕ) (h : ∀ a, off a + S64x256.size a ≤ S1024x1024.size a) :
    Pg F (Vec F S64x256 .f32) :=
  Prog.lift (.load m (Rect.unit (s := S1024x1024) off S64x256.size h).toLoadRect (View.loadsAt_vmem h_S64x256))

def sndT {s : Shape} (sm rm : DmaSem sig) (src dst : Memref sig .tc .vmem s .bf16) (n : Dev nD)
    (h1 : src.view.WordExact) (h2 : dst.view.WordExact) : Pg F PUnit :=
  Prog.lift (.enqueueDma src (.remote (Dev.tc n) dst (.dma sm)) (.dma rm) h1 h2 ⟨⟨rfl, Or.inl rfl⟩, trivial⟩)

def wtT {s : Shape} (sm : DmaSem sig) (src dst : Memref sig .tc .vmem s .bf16)
    (h1 : src.view.WordExact) (h2 : dst.view.WordExact) : Pg F PUnit :=
  Prog.lift (.waitDma2 sm src dst h1 h2)

/-- A strip of the accumulator set to a part-product. -/
def mmS (s : Fin 4) (v : FVec F S1024x256 .f32) : Pg F PUnit := do
  let _ : Vec F S1024x256 .f32 ← Prog.lift (.load accM (Rect.unit (s := S1024x1024) ![0, 256 * s.val] S1024x256.size (inbAcc s)).toLoadRect (View.loadsAt_vmem h_S1024x256))
  Prog.lift (.store accM (Rect.unit (s := S1024x1024) ![0, 256 * s.val] S1024x256.size (inbAcc s)) v Finset.univ (View.stores_vmem_bits_univ h_S1024x256 rfl) (.inl rfl))

/-- One slab of the buffer of the copies of the last strip over planes. -/
def czF (d : Dev nD) (k : Fin 3) : Pg F PUnit := do
  let v : Vec F S256x256 .f32 ← Prog.lift (.load accM (Rect.unit (s := S1024x1024) (offCa d k) S256x256.size (inbCa d k)).toLoadRect (View.loadsAt_vmem h_S256x256))
  let _ : Vec F S1x256x256 .bf16 ← Prog.lift (.load czsM (Rect.unit (s := S3x256x256) ![k.val, 0, 0] S1x256x256.size (inbS2 k)).toLoadRect (View.loadsAt_vmem h_S1x256x256))
  Prog.lift (.store czsM (Rect.unit (s := S3x256x256) ![k.val, 0, 0] S1x256x256.size (inbS2 k)) (k0_pay4 v) Finset.univ (View.stores_vmem h_S1x256x256 ((Memref.isWhole_whole _).storeExact_slice rfl _ (packCz k)) (fun _ => rfl)) (.inl rfl))

/-- One block of the first buffer. -/
def p1F (s : Fin 3) (t : Fin 8) (off : Fin 2 → ℕ) (h : ∀ a, off a + S64x256.size a ≤ S1024x1024.size a) : Pg F PUnit := do
  let v ← ldS accM off h
  let _ : Vec F S1x64x256 .bf16 ← Prog.lift (.load p1sM (Rect.unit (s := S3x512x256) ![s.val, 64 * t.val, 0] S1x64x256.size (inbP1 s t)).toLoadRect (View.loadsAt_vmem h_S1x64x256))
  Prog.lift (.store p1sM (Rect.unit (s := S3x512x256) ![s.val, 64 * t.val, 0] S1x64x256.size (inbP1 s t)) (cutP v) Finset.univ (View.stores_vmem h_S1x64x256 ((Memref.isWhole_whole _).storeExact_slice rfl _ (packP1 s t)) (fun _ => rfl)) (.inl rfl))

def t2 (r : Fin 4) (h : Fin 2) : Fin 8 := ⟨2 * r.val + h.val, by omega⟩

/-- The two blocks of row group `r`. -/
def p1G (s : Fin 3) (d : Dev nD) (r : Fin 4) : Pg F PUnit := do
  p1F s (t2 r 0) (offLo s d r) (inbLo s d r)
  p1F s (t2 r 1) (offHi s d r) (inbHi s d r)

def p1Snd (s : Fin 3) (d : Dev nD) : Pg F PUnit :=
  sndT (sm3 cc0_scratch13 s) (sm3 cc0_scratch14 s) (p1sV s) (p1rV s) (dev1 s d)
    (((Memref.isWhole_whole _).wordExact_slice rfl _ (wwS1 s)).reshape _ _) (((Memref.isWhole_whole _).wordExact_slice rfl _ (wwS1 s)).reshape _ _)

def ph1 (s : Fin 3) (d : Dev nD) (v : FVec F S1024x256 .f32) : Pg F PUnit := do
  mmS s.castSucc v
  p1G s d 0
  p1G s d 1
  p1G s d 2
  p1G s d 3
  p1Snd s d

/-- The kept block of row group `r` added to; the block handed on written out. -/
def upd (s : Fin 3) (d : Dev nD) (r : Fin 4) : Pg F PUnit := do
  let a ← ldS accM (offU s d r) (inbU s d r)
  let b : Vec F S1x64x256 .bf16 ← Prog.lift (.load p1rM (Rect.unit (s := S3x512x256) (offUr s d r) S1x64x256.size (inbUr s d r)).toLoadRect (View.loadsAt_vmem h_S1x64x256))
  let _ ← ldS (F := F) accM (offU s d r) (inbU s d r)
  Prog.lift (.store accM (Rect.unit (s := S1024x1024) (offU s d r) S64x256.size (inbU s d r)) (addP a b) Finset.univ (View.stores_vmem_bits_univ h_S64x256 rfl) (.inl rfl))

def fwd (s : Fin 3) (d : Dev nD) (r : Fin 4) : Pg F PUnit := do
  let a ← ldS accM (offF s d r) (inbF s d r)
  let b : Vec F S1x64x256 .bf16 ← Prog.lift (.load p1rM (Rect.unit (s := S3x512x256) (offFr s d r) S1x64x256.size (inbFr s d r)).toLoadRect (View.loadsAt_vmem h_S1x64x256))
  let _ : Vec F S1x64x256 .bf16 ← Prog.lift (.load p2sM (Rect.unit (s := S3x256x256) ![s.val, 64 * r.val, 0] S1x64x256.size (inbP2 s r)).toLoadRect (View.loadsAt_vmem h_S1x64x256))
  Prog.lift (.store p2sM (Rect.unit (s := S3x256x256) ![s.val, 64 * r.val, 0] S1x64x256.size (inbP2 s r)) (fwdP a b) Finset.univ (View.stores_vmem h_S1x64x256 ((Memref.isWhole_whole _).storeExact_slice rfl _ (packP2 s r)) (fun _ => rfl)) (.inl rfl))

def p1Ws (s : Fin 3) : Pg F PUnit :=
  wtT (sm3 cc0_scratch13 s) (p1rV s) (p1sV s)
    (((Memref.isWhole_whole _).wordExact_slice rfl _ (wwS1 s)).reshape _ _) (((Memref.isWhole_whole _).wordExact_slice rfl _ (wwS1 s)).reshape _ _)
def p1Wr (s : Fin 3) : Pg F PUnit :=
  wtT (sm3 cc0_scratch14 s) (p1sV s) (p1rV s)
    (((Memref.isWhole_whole _).wordExact_slice rfl _ (wwS1 s)).reshape _ _) (((Memref.isWhole_whole _).wordExact_slice rfl _ (wwS1 s)).reshape _ _)
def p2Snd (s : Fin 3) (d : Dev nD) : Pg F PUnit :=
  sndT (sm3 cc0_scratch15 s) (sm3 cc0_scratch16 s) (p2sV s) (p2rV s) (dev2 s d)
    (((Memref.isWhole_whole _).wordExact_slice rfl _ (wwS2 s)).reshape _ _) (((Memref.isWhole_whole _).wordExact_slice rfl _ (wwS2 s)).reshape _ _)
def p2Ws (s : Fin 3) : Pg F PUnit :=
  wtT (sm3 cc0_scratch15 s) (p2rV s) (p2sV s)
    (((Memref.isWhole_whole _).wordExact_slice rfl _ (wwS2 s)).reshape _ _) (((Memref.isWhole_whole _).wordExact_slice rfl _ (wwS2 s)).reshape _ _)
def p2Wr (s : Fin 3) : Pg F PUnit :=
  wtT (sm3 cc0_scratch16 s) (p2sV s) (p2rV s)
    (((Memref.isWhole_whole _).wordExact_slice rfl _ (wwS2 s)).reshape _ _) (((Memref.isWhole_whole _).wordExact_slice rfl _ (wwS2 s)).reshape _ _)

def uf (s : Fin 3) (d : Dev nD) (r : Fin 4) : Pg F PUnit := do
  upd s d r
  fwd s d r

def ph2 (s : Fin 3) (d : Dev nD) : Pg F PUnit := do
  p1Ws s
  p1Wr s
  uf s d 0
  uf s d 1
  uf s d 2
  uf s d 3
  p2Snd s d

def czSnd (d : Dev nD) (k : Fin 3) : Pg F PUnit :=
  sndT (sm3 cc0_scratch19 k) (smC d k) (czsV k) (czdV d k) (devC d k)
    (((Memref.isWhole_whole _).wordExact_slice rfl _ (wwS2 k)).reshape _ _) (((Memref.isWhole_whole _).wordExact_slice rfl _ (wwCd d k)).reshape _ _)
def czWr (k : Fin 3) : Pg F PUnit :=
  wtT (sm3 cc0_scratch20 k) (czsV k) (czrV k)
    (((Memref.isWhole_whole _).wordExact_slice rfl _ (wwS2 k)).reshape _ _) (((Memref.isWhole_whole _).wordExact_slice rfl _ (wwS2 k)).reshape _ _)
def czWs (d : Dev nD) (k : Fin 3) : Pg F PUnit :=
  wtT (sm3 cc0_scratch19 k) (czdV d k) (czsV k)
    (((Memref.isWhole_whole _).wordExact_slice rfl _ (wwCd d k)).reshape _ _) (((Memref.isWhole_whole _).wordExact_slice rfl _ (wwS2 k)).reshape _ _)

abbrev ldC (k : Fin 3) : Pg F (Vec F S1x256x256 .bf16) :=
  Prog.lift (.load czrM (Rect.unit (s := S3x256x256) ![k.val, 0, 0] S1x256x256.size (inbS2 k)).toLoadRect (View.loadsAt_vmem h_S1x256x256))

/-- The last strip: the three planes' parts added. -/
def czAdd (d : Dev nD) : Pg F PUnit := do
  let a : Vec F S256x256 .f32 ← Prog.lift (.load accM (Rect.unit (s := S1024x1024) (k0_off22 d) S256x256.size (k0_off22_inb d)).toLoadRect (View.loadsAt_vmem h_S256x256))
  let b0 ← ldC 0
  let b1 ← ldC 1
  let b2 ← ldC 2
  let _ : Vec F S256x256 .f32 ← Prog.lift (.load accM (Rect.unit (s := S1024x1024) (k0_off22 d) S256x256.size (k0_off22_inb d)).toLoadRect (View.loadsAt_vmem h_S256x256))
  Prog.lift (.store accM (Rect.unit (s := S1024x1024) (k0_off22 d) S256x256.size (k0_off22_inb d)) (k0_pay65 a b0 b1 b2) Finset.univ (View.stores_vmem_bits_univ h_S256x256 rfl) (.inl rfl))

def c1F (h : Fin 2) (off : Fin 2 → ℕ) (hb : ∀ a, off a + S64x256.size a ≤ S1024x1024.size a) : Pg F PUnit := do
  let v ← ldS accM off hb
  let _ : Vec F S64x256 .bf16 ← Prog.lift (.load c1sM (Rect.unit (s := S128x256) ![64 * h.val, 0] S64x256.size (inbC1 h)).toLoadRect (View.loadsAt_vmem h_S64x256))
  Prog.lift (.store c1sM (Rect.unit (s := S128x256) ![64 * h.val, 0] S64x256.size (inbC1 h)) (cut2P v) Finset.univ (View.stores_vmem h_S64x256 ((Memref.isWhole_whole _).storeExact_slice rfl _ (packC1 h)) (fun _ => rfl)) (.inl rfl))

def c1Snd (d : Dev nD) : Pg F PUnit :=
  sndT (sm1 cc0_scratch21) (sm1 cc0_scratch22) c1sM c1rM ⟨k0_dev15 d, k0_dev15_lt d⟩ (Memref.isWhole_whole _).wordExact (Memref.isWhole_whole _).wordExact
def c1Ws : Pg F PUnit := wtT (sm1 cc0_scratch21) c1rM c1sM (Memref.isWhole_whole _).wordExact (Memref.isWhole_whole _).wordExact
def c1Wr : Pg F PUnit := wtT (sm1 cc0_scratch22) c1sM c1rM (Memref.isWhole_whole _).wordExact (Memref.isWhole_whole _).wordExact
def c2Snd (d : Dev nD) : Pg F PUnit :=
  sndT (sm1 cc0_scratch23) (sm1 cc0_scratch24) c2sM c2rM ⟨k0_dev25 d, k0_dev25_lt d⟩ (Memref.isWhole_whole _).wordExact (Memref.isWhole_whole _).wordExact
def c2Ws : Pg F PUnit := wtT (sm1 cc0_scratch23) c2rM c2sM (Memref.isWhole_whole _).wordExact (Memref.isWhole_whole _).wordExact
def c2Wr : Pg F PUnit := wtT (sm1 cc0_scratch24) c2sM c2rM (Memref.isWhole_whole _).wordExact (Memref.isWhole_whole _).wordExact

/-- One block of the buffer of the copies over planes. -/
def zF (s : Fin 3) (d : Dev nD) (r : Fin 4) : Pg F PUnit := do
  let a ← ldS accM (offZ s d r) (inbZ s d r)
  let b : Vec F S1x64x256 .bf16 ← Prog.lift (.load p2rM (Rect.unit (s := S3x256x256) ![s.val, 64 * r.val, 0] S1x64x256.size (inbP2 s r)).toLoadRect (View.loadsAt_vmem h_S1x64x256))
  let _ : Vec F S1x64x256 .bf16 ← Prog.lift (.load zfM (Rect.unit (s := S4x64x768) ![r.val, 0, 256 * s.val] S1x64x256.size (inbZf s r)).toLoadRect (View.loadsAt_vmem h_S1x64x256))
  Prog.lift (.store zfM (Rect.unit (s := S4x64x768) ![r.val, 0, 256 * s.val] S1x64x256.size (inbZf s r)) (fwdP a b) Finset.univ (View.stores_vmem h_S1x64x256 ((Memref.isWhole_whole _).storeExact_slice rfl _ (packZf s r)) (fun _ => rfl)) (.inl rfl))

def zSnd (s : Fin 3) (d : Dev nD) (k : Fin 3) : Pg F PUnit :=
  sndT (sm9 cc0_scratch17 k s) (smZ s d k) (zsV s d k) (zdV s d k) (devZ s d k)
    (((Memref.isWhole_whole _).wordExact_slice rfl _ (wwZs s d k)).reshape _ _) (((Memref.isWhole_whole _).wordExact_slice rfl _ (wwZd s d k)).reshape _ _)
def zWr (s k : Fin 3) : Pg F PUnit :=
  wtT (sm9 cc0_scratch18 k s) (zfV s k.castSucc) (zrV s k)
    (((Memref.isWhole_whole _).wordExact_slice rfl _ (wwZf s k.castSucc)).reshape _ _) (((Memref.isWhole_whole _).wordExact_slice rfl _ (wwZr s k)).reshape _ _)
def zWs (s : Fin 3) (d : Dev nD) (k : Fin 3) : Pg F PUnit :=
  wtT (sm9 cc0_scratch17 k s) (zdV s d k) (zsV s d k)
    (((Memref.isWhole_whole _).wordExact_slice rfl _ (wwZd s d k)).reshape _ _) (((Memref.isWhole_whole _).wordExact_slice rfl _ (wwZs s d k)).reshape _ _)

def ph3 (s : Fin 3) (d : Dev nD) : Pg F PUnit := do
  p2Ws s
  p2Wr s
  zF s d 0
  zF s d 1
  zF s d 2
  zF s d 3
  zSnd s d 0
  zSnd s d 1
  zSnd s d 2

/-- The last strip: the exchange within the plane. -/
def c1Add (d : Dev nD) : Pg F PUnit := do
  let a ← ldS accM (k0_off35 d) (k0_off35_inb d)
  let b : Vec F S64x256 .bf16 ← Prog.lift (.load c1rM (Rect.unit (s := S128x256) (k0_off36 d) S64x256.size (k0_off36_inb d)).toLoadRect (View.loadsAt_vmem h_S64x256))
  let _ ← ldS (F := F) accM (k0_off35 d) (k0_off35_inb d)
  Prog.lift (.store accM (Rect.unit (s := S1024x1024) (k0_off35 d) S64x256.size (k0_off35_inb d)) (k0_pay81 a b) Finset.univ (View.stores_vmem_bits_univ h_S64x256 rfl) (.inl rfl))
def c2F (d : Dev nD) : Pg F PUnit := do
  let a ← ldS accM (k0_off37 d) (k0_off37_inb d)
  let b : Vec F S64x256 .bf16 ← Prog.lift (.load c1rM (Rect.unit (s := S128x256) (k0_off38 d) S64x256.size (k0_off38_inb d)).toLoadRect (View.loadsAt_vmem h_S64x256))
  let _ : Vec F S64x256 .bf16 ← Prog.lift (.load c2sM (Rect.unit (s := S64x256) ![0, 0] S64x256.size inb_S64x256_S64x256_0_0).toLoadRect (View.loadsAt_vmem h_S64x256))
  Prog.lift (.store c2sM (Rect.unit (s := S64x256) ![0, 0] S64x256.size inb_S64x256_S64x256_0_0) (k0_pay83 (k0_pay82 a b)) Finset.univ (View.stores_vmem h_S64x256 ((Memref.isWhole_whole _).storeExact_slice rfl _ packedbf16_S64x256_S64x256_0_0) (fun _ => rfl)) (.inl rfl))

abbrev ldR (s k : Fin 3) : Pg F (Vec F S1x64x256 .bf16) :=
  Prog.lift (.load zrM (Rect.unit (s := S3x64x768) ![k.val, 0, 256 * s.val] S1x64x256.size (inbZr s k)).toLoadRect (View.loadsAt_vmem h_S1x64x256))

/-- What a strip of the result is of its four parts. -/
def outP (v b0 b1 b2 : Vec F S1x64x256 .bf16) : FVec F S64x256 .f32 := k0_pay85 (k0_pay84 v b0) b1 b2
def outCP (a : Vec F S64x256 .f32) (b : Vec F S64x256 .bf16) : FVec F S64x256 .f32 :=
  k0_pay94 (k0_pay91 a b) (k0_pay92 a b) (k0_pay93 a b)

def stO (s : Fin 4) (v : FVec F S64x256 .f32) : Pg F PUnit := do
  let _ : Vec F S64x256 .f32 ← Prog.lift (.load oM (Rect.unit (s := S64x1024) ![0, 256 * s.val] S64x256.size (inbOut s)).toLoadRect (View.loadsAt_vmem h_S64x256))
  Prog.lift (.store oM (Rect.unit (s := S64x1024) ![0, 256 * s.val] S64x256.size (inbOut s)) v Finset.univ (View.stores_vmem_bits_univ h_S64x256 rfl) (.inl rfl))

def ph4 (s : Fin 3) (d : Dev nD) : Pg F PUnit := do
  let v : Vec F S1x64x256 .bf16 ← Prog.lift (.load zfM (Rect.unit (s := S4x64x768) (offO s d) S1x64x256.size (inbO s d)).toLoadRect (View.loadsAt_vmem h_S1x64x256))
  zWr s 0
  let b0 ← ldR s 0
  zWr s 1
  let b1 ← ldR s 1
  zWr s 2
  let b2 ← ldR s 2
  stO s.castSucc (outP v b0 b1 b2)

def outC (d : Dev nD) : Pg F PUnit := do
  let a ← ldS accM (k0_off35 d) (k0_off35_inb d)
  let b : Vec F S64x256 .bf16 ← Prog.lift (.load c2rM (Rect.unit (s := S64x256) ![0, 0] S64x256.size inb_S64x256_S64x256_0_0).toLoadRect (View.loadsAt_vmem h_S64x256))
  stO 3 (outCP a b)

abbrev barS : Sem sig := (SemArray.scalar (sig.barrier 0 rfl) : Sems sig S_).sem

/-- The barrier's signals. -/
def sigs (d : Dev nD) : Pg F PUnit := do
  semSignalWord (devB d 0) barS 1#32
  semSignalWord (devB d 1) barS 1#32
  semSignalWord (devB d 2) barS 1#32
  semSignalWord (devB d 3) barS 1#32
  semSignalWord (devB d 4) barS 1#32

/-- The body of device `d`, from the loads of its two operands. -/
def bodyD (d : Dev nD) : Pg F PUnit := do
  let x : Vec F S1024x64 .bf16 ← Prog.lift (.load xM (Rect.unit (s := S1024x64) ![0, 0] S1024x64.size inb_S1024x64_S1024x64_0_0).toLoadRect (View.loadsAt_vmem h_S1024x64))
  let w : Vec F S64x1024 .bf16 ← Prog.lift (.load wM (Rect.unit (s := S64x1024) ![0, 0] S64x1024.size inb_S64x1024_S64x1024_0_0).toLoadRect (View.loadsAt_vmem h_S64x1024))
  mmS 3 (mmP 3 x w)
  sigs d
  czF d 0
  czF d 1
  czF d 2
  semWaitWord barS 5#32
  czSnd d 0
  czSnd d 1
  czSnd d 2
  ph1 0 d (mmP 0 x w)
  ph1 1 d (mmP 1 x w)
  ph1 2 d (mmP 2 x w)
  ph2 0 d
  ph2 1 d
  ph2 2 d
  czWr 0
  czWr 1
  czWr 2
  czAdd d
  c1F 0 (k0_off23 d) (k0_off23_inb d)
  c1F 1 (k0_off24 d) (k0_off24_inb d)
  c1Snd d
  ph3 0 d
  ph3 1 d
  ph3 2 d
  c1Ws
  c1Wr
  c1Add d
  c2F d
  c2Snd d
  ph4 0 d
  ph4 1 d
  ph4 2 d
  c2Ws
  c2Wr
  outC d
  czWs d 0
  czWs d 1
  czWs d 2
  zWs 0 d 0
  zWs 0 d 1
  zWs 0 d 2
  zWs 1 d 0
  zWs 1 d 1
  zWs 1 d 2
  zWs 2 d 0
  zWs 2 d 1
  zWs 2 d 2

/-- The body. -/
def bodyS : Pg F PUnit := do
  let d : Dev nD ← Prog.lift .deviceId
  bodyD d

end Cert.KernelIdeal.Tile
-- ==== Proof.Access.lean ====
module

public import proofs.«01_k».proof.Proof.BodyProg
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

/-! # Reading and writing part of a buffer, by natural-number coordinates -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's resource algebra: a cell's duties are numbered below five. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A program run by device `d`'s core, with a postcondition. -/
abbrev WP (d : Dev nD) {α : Type} (p : Pg F α) (Q : α → sProp 𝕄) : sProp 𝕄 :=
  wp frame (wpE (defs₀ (F := F)) 𝒱₀ (d : Thread nD τ) none) Set.univ p Q

/-- The elements `S` of memref `m` on device `d`, holding `f` there. -/
def own (d : Dev nD) {s : Shape} {e : EltTy} (m : Memref sig .tc .vmem s e) (S : Finset s.Idx) (f : s.Idx → Elt F e) : sProp 𝕄 :=
  iprop(∃ g : Buf (Elt F) (m.view.loc (d : Thread nD τ)), ⌜∀ x ∈ S, m.view.read (Elt F) g x = f x⌝ ∗ (m.view.loc (d : Thread nD τ)) ↦[m.view.setOn S]{fullShare} g)
/-- The same, holding anything. -/
def ownA (d : Dev nD) {s : Shape} {e : EltTy} (m : Memref sig .tc .vmem s e) (S : Finset s.Idx) : sProp 𝕄 := iprop(∃ f, own d m S f)

section Own

variable {d : Dev nD} {s : Shape} {e : EltTy} {m : Memref sig .tc .vmem s e} {S T : Finset s.Idx} {f g : s.Idx → Elt F e}

omit [FloatOps F] in
instance own_storable : BI.Storable (upEmb : UEmb _ 𝕄) (own d m S f) := by unfold own; infer_instance
omit [FloatOps F] in
instance ownA_storable : BI.Storable (upEmb : UEmb _ 𝕄) (ownA (F := F) d m S) := by unfold ownA; infer_instance

omit [FloatOps F] in
theorem own_weaken : (own d m S f : sProp 𝕄) ⊢ ownA d m S := by
  unfold ownA; iintro H; iexists f; iexact H

omit [FloatOps F] in
theorem own_congr (h : ∀ x ∈ S, f x = g x) : (own d m S f : sProp 𝕄) ⊢ own d m S g := by
  unfold own; iintro ⟨%u, %hu, H⟩; iexists u
  isplitr; · ipureintro; exact fun x hx => (hu x hx).trans (h x hx)
  iexact H

omit [FloatOps F] in
theorem setOn_disjoint (hd : Disjoint S T) : Disjoint (m.view.setOn S) (m.view.setOn T) := (Finset.disjoint_map m.view.emb).mpr hd

omit [FloatOps F] in
theorem own_split (hd : Disjoint S T) : (own d m (S ∪ T) f : sProp 𝕄) ⊢ iprop(own d m S f ∗ own d m T f) := by
  unfold own; iintro ⟨%u, %hu, H⟩
  have hs : m.view.setOn (S ∪ T) = m.view.setOn S ∪ m.view.setOn T := Finset.map_union _ _
  rw [hs]
  ihave H' := (pointsTo_union (setOn_disjoint (m := m) hd)).1 $$ H
  icases H' with ⟨H1, H2⟩
  isplitl [H1]
  · iexists u; isplitr; · ipureintro; exact fun x hx => hu x (Finset.mem_union_left _ hx)
    iexact H1
  · iexists u; isplitr; · ipureintro; exact fun x hx => hu x (Finset.mem_union_right _ hx)
    iexact H2

omit [FloatOps F] in
theorem own_join (hd : Disjoint S T) : iprop(own d m S f ∗ own d m T g) ⊢ (ownA d m (S ∪ T) : sProp 𝕄) := by
  unfold own ownA; iintro ⟨⟨%u, %hu, H1⟩, ⟨%v, %hv, H2⟩⟩
  have hs : m.view.setOn (S ∪ T) = m.view.setOn S ∪ m.view.setOn T := Finset.map_union _ _
  have hj : Disjoint (m.view.setOn S) (m.view.setOn T) := setOn_disjoint hd
  ihave H := (pointsTo_join (ℓ := m.view.loc (d : Thread nD τ)) (q := fullShare) (f := u) (g := v) hj) $$ [H1 H2]
  · isplitl [H1] <;> iassumption
  unfold own; rw [hs]
  iexists _; iexists _
  isplitr [H]; swap; · iexact H
  ipureintro; intro x _; rfl

theorem ld {r : LoadRect s} {hl : m.view.LoadsAt r} (v : r.shape.Idx → Elt F e) (hS : r.set ⊆ S) (hv : ∀ x, f (r.idx x) = v x)
    {Q : (r.shape.Idx → Elt F e) → sProp 𝕄} :
    own d m S f ⊢ iprop((own d m S f -∗ Q v) -∗ WP d (Prog.lift (.load m r hl)) Q) := by
  unfold own
  iintro ⟨%u, %hu, H⟩ Hk
  have hv' : m.view.readAt (Elt F) r u = v := funext fun x => (hu _ (hS (r.idx_mem x))).trans (hv x)
  iapply (wp_load 𝒱₀ (d : Thread nD τ) none Set.univ (m := m) (show m.view.setOn r.set ⊆ m.view.setOn S from Finset.map_subset_map.mpr hS)) $$ H
  iintro H
  rw [hv', wp_ret]; imodintro
  iapply Hk; iexists u
  isplitr; · ipureintro; exact hu
  iexact H

theorem st {r : Rect s} {w : r.shape.Idx → Elt F e} {hx : (m.access r).Stores Finset.univ}
    {hm : (Finset.univ : Finset r.shape.Idx) = Finset.univ ∨ ∀ a, r.stride a = 1}
    (hS : r.set ⊆ S) (h1 : ∀ x, g (r.idx x) = w x) (h2 : ∀ i ∈ S, i ∉ r.set → g i = f i) {Q : PUnit → sProp 𝕄} :
    own d m S f ⊢ iprop((own d m S g -∗ Q ⟨⟩) -∗ WP d (Prog.lift (.store m r w Finset.univ hx hm)) Q) := by
  unfold own
  iintro ⟨%u, %hu, H⟩ Hk
  have hset : (m.access r : View sig .tc _ _ _).setOn Finset.univ = m.view.setOn r.set := View.set_slice _ r
  iapply (wp_store 𝒱₀ (d : Thread nD τ) none Set.univ (m := m) (r := r) (Mk := Finset.univ) (S := m.view.setOn S)
    (by rw [hset]; exact Finset.map_subset_map.mpr hS)) $$ H
  iintro H
  rw [wp_ret]; imodintro
  iapply Hk
  iexists ((m.access r).write (Elt F) u w Finset.univ)
  isplitr [H]; swap; · iexact H
  ipureintro; intro i hi
  by_cases hr : i ∈ r.set
  · obtain ⟨x, hx⟩ := r.exists_idx_of_mem hr
    subst hx
    rw [h1]
    exact congrFun ((m.access r).read_write_univ u w) x
  · rw [h2 i hi hr, ← hu i hi, View.read_apply, View.read_apply]
    refine congrArg _ (View.write_of_not_mem _ _ _ ?_)
    rw [hset]; exact fun h => hr ((Finset.mem_map' _).mp h)

end Own

/-! ## Coordinates -/

abbrev S2 (n m : ℕ) : Shape := ⟨2, ![n, m]⟩
abbrev S3 (k n m : ℕ) : Shape := ⟨3, ![k, n, m]⟩

def c2 {n m : ℕ} {α : Type} (A : ℕ → ℕ → α) : (S2 n m).Idx → α := fun i => A (i 0).val (i 1).val
def c3 {k n m : ℕ} {α : Type} (A : ℕ → ℕ → ℕ → α) : (S3 k n m).Idx → α := fun i => A (i 0).val (i 1).val (i 2).val

/-- Boxes: from `a`, `h` of them, on each axis. -/
def bx2 {n m : ℕ} (a h b w : ℕ) : Finset (S2 n m).Idx :=
  Finset.univ.filter fun i => (a ≤ (i 0).val ∧ (i 0).val < a + h) ∧ b ≤ (i 1).val ∧ (i 1).val < b + w
def bx3 {k n m : ℕ} (p l a h b w : ℕ) : Finset (S3 k n m).Idx :=
  Finset.univ.filter fun i => (p ≤ (i 0).val ∧ (i 0).val < p + l) ∧ (a ≤ (i 1).val ∧ (i 1).val < a + h) ∧ b ≤ (i 2).val ∧ (i 2).val < b + w

theorem mem_bx2 {n m a h b w : ℕ} (i : (S2 n m).Idx) :
    i ∈ bx2 a h b w ↔ (a ≤ (i 0).val ∧ (i 0).val < a + h) ∧ b ≤ (i 1).val ∧ (i 1).val < b + w := by simp [bx2]
theorem mem_bx3 {k n m p l a h b w : ℕ} (i : (S3 k n m).Idx) :
    i ∈ bx3 p l a h b w ↔ (p ≤ (i 0).val ∧ (i 0).val < p + l) ∧ (a ≤ (i 1).val ∧ (i 1).val < a + h) ∧ b ≤ (i 2).val ∧ (i 2).val < b + w := by simp [bx3]

section Two

variable {n m h w : ℕ} {off : Fin 2 → ℕ} {inb : ∀ a, off a + (S2 h w).size a ≤ (S2 n m).size a} {a b : ℕ} {α : Type}

theorem set2 (ho : off = ![a, b]) : (Rect.unit (s := S2 n m) off (S2 h w).size inb).set = bx2 a h b w := by
  subst ho; ext i; rw [Rect.mem_set_unit, mem_bx2]; exact Fin.forall_fin_two

theorem sub2 (ho : off = ![a, b]) {a' h' b' w' : ℕ} (hh : a' ≤ a ∧ a + h ≤ a' + h' ∧ b' ≤ b ∧ b + w ≤ b' + w') :
    (Rect.unit (s := S2 n m) off (S2 h w).size inb).set ⊆ bx2 a' h' b' w' := by
  rw [set2 ho]; intro i; rw [mem_bx2, mem_bx2]; omega

theorem rd2 (ho : off = ![a, b]) {A V : ℕ → ℕ → α} (hv : ∀ x y, x < h → y < w → A (a + x) (b + y) = V x y)
    (x : (S2 h w).Idx) : c2 A ((Rect.unit (s := S2 n m) off (S2 h w).size inb).idx x) = c2 V x := by
  subst ho
  have := hv (x 0).val (x 1).val (x 0).isLt (x 1).isLt
  show A (a + 1 * _) (b + 1 * _) = V _ _
  rw [Nat.one_mul, Nat.one_mul]; exact this

theorem wr2 (ho : off = ![a, b]) {a' h' b' w' : ℕ} {A A' : ℕ → ℕ → α}
    (hv : ∀ x y, a' ≤ x → x < a' + h' → b' ≤ y → y < b' + w' → ¬ ((a ≤ x ∧ x < a + h) ∧ b ≤ y ∧ y < b + w) → A' x y = A x y) :
    ∀ i ∈ (bx2 a' h' b' w' : Finset (S2 n m).Idx), i ∉ (Rect.unit (s := S2 n m) off (S2 h w).size inb).set → c2 A' i = c2 A i := by
  intro i hi hn
  rw [set2 ho, mem_bx2] at hn; rw [mem_bx2] at hi
  exact hv _ _ hi.1.1 hi.1.2 hi.2.1 hi.2.2 hn

end Two

section Three

variable {k n m l h w : ℕ} {off : Fin 3 → ℕ} {inb : ∀ a, off a + (S3 l h w).size a ≤ (S3 k n m).size a} {p a b : ℕ} {α : Type}

theorem set3 (ho : off = ![p, a, b]) : (Rect.unit (s := S3 k n m) off (S3 l h w).size inb).set = bx3 p l a h b w := by
  subst ho; ext i; rw [Rect.mem_set_unit, mem_bx3]
  constructor
  · intro H; exact ⟨H 0, H 1, H 2⟩
  · rintro ⟨h0, h1, h2⟩ j; fin_cases j; exacts [h0, h1, h2]

theorem sub3 (ho : off = ![p, a, b]) {p' l' a' h' b' w' : ℕ}
    (hh : (p' ≤ p ∧ p + l ≤ p' + l') ∧ a' ≤ a ∧ a + h ≤ a' + h' ∧ b' ≤ b ∧ b + w ≤ b' + w') :
    (Rect.unit (s := S3 k n m) off (S3 l h w).size inb).set ⊆ bx3 p' l' a' h' b' w' := by
  rw [set3 ho]; intro i; rw [mem_bx3, mem_bx3]; omega

theorem rd3 (ho : off = ![p, a, b]) {A V : ℕ → ℕ → ℕ → α} (hv : ∀ z x y, z < l → x < h → y < w → A (p + z) (a + x) (b + y) = V z x y)
    (x : (S3 l h w).Idx) : c3 A ((Rect.unit (s := S3 k n m) off (S3 l h w).size inb).idx x) = c3 V x := by
  subst ho
  have := hv (x 0).val (x 1).val (x 2).val (x 0).isLt (x 1).isLt (x 2).isLt
  show A (p + 1 * _) (a + 1 * _) (b + 1 * _) = V _ _ _
  rw [Nat.one_mul, Nat.one_mul, Nat.one_mul]; exact this

theorem wr3 (ho : off = ![p, a, b]) {p' l' a' h' b' w' : ℕ} {A A' : ℕ → ℕ → ℕ → α}
    (hv : ∀ z x y, p' ≤ z → z < p' + l' → a' ≤ x → x < a' + h' → b' ≤ y → y < b' + w' →
      ¬ ((p ≤ z ∧ z < p + l) ∧ (a ≤ x ∧ x < a + h) ∧ b ≤ y ∧ y < b + w) → A' z x y = A z x y) :
    ∀ i ∈ (bx3 p' l' a' h' b' w' : Finset (S3 k n m).Idx), i ∉ (Rect.unit (s := S3 k n m) off (S3 l h w).size inb).set → c3 A' i = c3 A i := by
  intro i hi hn
  rw [set3 ho, mem_bx3] at hn; rw [mem_bx3] at hi
  exact hv _ _ _ hi.1.1 hi.1.2 hi.2.1.1 hi.2.1.2 hi.2.2.1 hi.2.2.2 hn

end Three

/-! ## Loads and stores by coordinates -/

section Rules

variable {d : Dev nD} {e : EltTy}

section R2

variable {n n' h w : ℕ} {m : Memref sig .tc .vmem (S2 n n') e} {off : Fin 2 → ℕ} {inb : ∀ a, off a + (S2 h w).size a ≤ (S2 n n').size a} {a b : ℕ}

theorem ld2 (ho : off = ![a, b]) (A V : ℕ → ℕ → Elt F e) {a' h' b' w' : ℕ} {hl : m.view.LoadsAt (Rect.unit (s := S2 n n') off (S2 h w).size inb).toLoadRect}
    (hh : a' ≤ a ∧ a + h ≤ a' + h' ∧ b' ≤ b ∧ b + w ≤ b' + w')
    (hv : ∀ x y, x < h → y < w → A (a + x) (b + y) = V x y) {Q : ((S2 h w).Idx → Elt F e) → sProp 𝕄} :
    own d m (bx2 a' h' b' w') (c2 A) ⊢ iprop((own d m (bx2 a' h' b' w') (c2 A) -∗ Q (c2 V))
      -∗ WP d (Prog.lift (.load m (Rect.unit (s := S2 n n') off (S2 h w).size inb).toLoadRect hl)) Q) :=
  ld (r := (Rect.unit (s := S2 n n') off (S2 h w).size inb).toLoadRect) (c2 V) (sub2 ho hh) (rd2 ho hv)

theorem st2 (ho : off = ![a, b]) (A A' V : ℕ → ℕ → Elt F e) {a' h' b' w' : ℕ}
    {hx : (m.access (Rect.unit (s := S2 n n') off (S2 h w).size inb)).Stores Finset.univ}
    {hm : (Finset.univ : Finset (Rect.unit (s := S2 n n') off (S2 h w).size inb).shape.Idx) = Finset.univ ∨ ∀ a, (Rect.unit (s := S2 n n') off (S2 h w).size inb).stride a = 1}
    (hh : a' ≤ a ∧ a + h ≤ a' + h' ∧ b' ≤ b ∧ b + w ≤ b' + w')
    (h1 : ∀ x y, x < h → y < w → A' (a + x) (b + y) = V x y)
    (h2 : ∀ x y, a' ≤ x → x < a' + h' → b' ≤ y → y < b' + w' → ¬ ((a ≤ x ∧ x < a + h) ∧ b ≤ y ∧ y < b + w) → A' x y = A x y) {Q : PUnit → sProp 𝕄} :
    own d m (bx2 a' h' b' w') (c2 A) ⊢ iprop((own d m (bx2 a' h' b' w') (c2 A') -∗ Q ⟨⟩)
      -∗ WP d (Prog.lift (.store m (Rect.unit (s := S2 n n') off (S2 h w).size inb) (c2 V) Finset.univ hx hm)) Q) :=
  by
  have a1 := sub2 (inb := inb) ho hh
  have a2 := rd2 (inb := inb) ho h1
  have a3 := wr2 (inb := inb) ho h2
  exact st (d := d) (m := m) (S := bx2 a' h' b' w') (f := c2 A) (g := c2 A') (r := Rect.unit (s := S2 n n') off (S2 h w).size inb) (w := c2 V) (hx := hx) (hm := hm) (Q := Q) a1 a2 a3

end R2

section R3

variable {k n n' l h w : ℕ} {m : Memref sig .tc .vmem (S3 k n n') e} {off : Fin 3 → ℕ} {inb : ∀ a, off a + (S3 l h w).size a ≤ (S3 k n n').size a} {p a b : ℕ}

theorem ld3 (ho : off = ![p, a, b]) (A V : ℕ → ℕ → ℕ → Elt F e) {p' l' a' h' b' w' : ℕ} {hl : m.view.LoadsAt (Rect.unit (s := S3 k n n') off (S3 l h w).size inb).toLoadRect}
    (hh : (p' ≤ p ∧ p + l ≤ p' + l') ∧ a' ≤ a ∧ a + h ≤ a' + h' ∧ b' ≤ b ∧ b + w ≤ b' + w')
    (hv : ∀ z x y, z < l → x < h → y < w → A (p + z) (a + x) (b + y) = V z x y) {Q : ((S3 l h w).Idx → Elt F e) → sProp 𝕄} :
    own d m (bx3 p' l' a' h' b' w') (c3 A) ⊢ iprop((own d m (bx3 p' l' a' h' b' w') (c3 A) -∗ Q (c3 V))
      -∗ WP d (Prog.lift (.load m (Rect.unit (s := S3 k n n') off (S3 l h w).size inb).toLoadRect hl)) Q) :=
  ld (r := (Rect.unit (s := S3 k n n') off (S3 l h w).size inb).toLoadRect) (c3 V) (sub3 ho hh) (rd3 ho hv)

theorem st3 (ho : off = ![p, a, b]) (A A' V : ℕ → ℕ → ℕ → Elt F e) {p' l' a' h' b' w' : ℕ}
    {hx : (m.access (Rect.unit (s := S3 k n n') off (S3 l h w).size inb)).Stores Finset.univ}
    {hm : (Finset.univ : Finset (Rect.unit (s := S3 k n n') off (S3 l h w).size inb).shape.Idx) = Finset.univ ∨ ∀ a, (Rect.unit (s := S3 k n n') off (S3 l h w).size inb).stride a = 1}
    (hh : (p' ≤ p ∧ p + l ≤ p' + l') ∧ a' ≤ a ∧ a + h ≤ a' + h' ∧ b' ≤ b ∧ b + w ≤ b' + w')
    (h1 : ∀ z x y, z < l → x < h → y < w → A' (p + z) (a + x) (b + y) = V z x y)
    (h2 : ∀ z x y, p' ≤ z → z < p' + l' → a' ≤ x → x < a' + h' → b' ≤ y → y < b' + w' →
      ¬ ((p ≤ z ∧ z < p + l) ∧ (a ≤ x ∧ x < a + h) ∧ b ≤ y ∧ y < b + w) → A' z x y = A z x y) {Q : PUnit → sProp 𝕄} :
    own d m (bx3 p' l' a' h' b' w') (c3 A) ⊢ iprop((own d m (bx3 p' l' a' h' b' w') (c3 A') -∗ Q ⟨⟩)
      -∗ WP d (Prog.lift (.store m (Rect.unit (s := S3 k n n') off (S3 l h w).size inb) (c3 V) Finset.univ hx hm)) Q) :=
  by
  have a1 := sub3 (inb := inb) ho hh
  have a2 := rd3 (inb := inb) ho h1
  have a3 := wr3 (inb := inb) ho h2
  exact st (d := d) (m := m) (S := bx3 p' l' a' h' b' w') (f := c3 A) (g := c3 A') (r := Rect.unit (s := S3 k n n') off (S3 l h w).size inb) (w := c3 V) (hx := hx) (hm := hm) (Q := Q) a1 a2 a3

end R3

end Rules

/-! ## Any contents are contents by coordinates -/

theorem exists_c2 {n m : ℕ} (hn : 0 < n) (hm : 0 < m) {α : Type} (f : (S2 n m).Idx → α) : ∃ A, f = c2 A :=
  ⟨fun x y => f fun a => match a with
      | 0 => ⟨x % n, Nat.mod_lt _ hn⟩
      | 1 => ⟨y % m, Nat.mod_lt _ hm⟩,
    funext fun i => congrArg f (funext fun a => Fin.ext (by
      fin_cases a
      · exact (Nat.mod_eq_of_lt (i 0).isLt).symm
      · exact (Nat.mod_eq_of_lt (i 1).isLt).symm))⟩

theorem exists_c3 {k n m : ℕ} (hk : 0 < k) (hn : 0 < n) (hm : 0 < m) {α : Type} (f : (S3 k n m).Idx → α) : ∃ A, f = c3 A :=
  ⟨fun z x y => f fun a => match a with
      | 0 => ⟨z % k, Nat.mod_lt _ hk⟩
      | 1 => ⟨x % n, Nat.mod_lt _ hn⟩
      | 2 => ⟨y % m, Nat.mod_lt _ hm⟩,
    funext fun i => congrArg f (funext fun a => Fin.ext (by
      fin_cases a
      · exact (Nat.mod_eq_of_lt (i 0).isLt).symm
      · exact (Nat.mod_eq_of_lt (i 1).isLt).symm
      · exact (Nat.mod_eq_of_lt (i 2).isLt).symm))⟩

omit [FloatOps F] in
theorem ownA_c2 {d : Dev nD} {e : EltTy} {n n' : ℕ} {m : Memref sig .tc .vmem (S2 n n') e} {S} (hn : 0 < n) (hm : 0 < n') :
    (ownA d m S : sProp 𝕄) ⊢ iprop(∃ A : ℕ → ℕ → Elt F e, own d m S (c2 A)) := by
  unfold ownA; iintro ⟨%f, H⟩
  obtain ⟨A, rfl⟩ := exists_c2 hn hm f
  iexists A; iexact H
omit [FloatOps F] in
theorem ownA_c3 {d : Dev nD} {e : EltTy} {k n n' : ℕ} {m : Memref sig .tc .vmem (S3 k n n') e} {S} (hk : 0 < k) (hn : 0 < n) (hm : 0 < n') :
    (ownA d m S : sProp 𝕄) ⊢ iprop(∃ A : ℕ → ℕ → ℕ → Elt F e, own d m S (c3 A)) := by
  unfold ownA; iintro ⟨%f, H⟩
  obtain ⟨A, rfl⟩ := exists_c3 hk hn hm f
  iexists A; iexact H

end Cert.KernelIdeal.Tile
-- ==== Proof.Contents.lean ====
module

public import proofs.«01_k».proof.Proof.Access

@[expose] public section

set_option synthInstance.maxSize 4096

/-! # What every buffer holds, by natural-number coordinates -/

noncomputable section

namespace Cert.KernelIdeal.Tile

open Cert.KernelIdeal Cert.KernelIdeal.Gen
open Idealize.ShloMosaic

variable {F : FTy → Type} [FloatOps F]

/-! ## Scalars -/

def tr (a : F .f32) : F .bf16 := FloatOps.truncf .bf16 bitsLt_bf16_f32 a
def ex (a : F .bf16) : F .f32 := FloatOps.extf .f32 bitsLt_bf16_f32 a
def ad (a b : F .f32) : F .f32 := FloatOps.addf a b
def ml (a b : F .f32) : F .f32 := FloatOps.mulf a b
/-- The activation, as the kernel computes it. -/
def gl (v : F .f32) : F .f32 :=
  ml (ml (Scalar.ofBits .f32 0x3F000000#32) v)
    (ad (Scalar.ofBits .f32 0x3F800000#32) (FloatOps.tanh (ml (Scalar.ofBits .f32 0x3F4C422A#32)
      (ad v (ml (ml (ml (Scalar.ofBits .f32 0x3D372713#32) v) v) v)))))

/-! ## A shape cast by coordinates -/

section Cast

variable {n m : ℕ} {α : Type}

theorem cast_dn (V : ℕ → ℕ → ℕ → α) (h : (S3 1 n m).ShapeCasts (S2 n m)) : shapeCast (S2 n m) (c3 V : (S3 1 n m).Idx → α) h = c2 (V 0) :=
  funext fun j => by
    show c3 V (Shape.reshapeEquiv (s := S3 1 n m) (s' := S2 n m) h j) = _
    rw [show Shape.reshapeEquiv (s := S3 1 n m) (s' := S2 n m) h j = Fin.cons ⟨0, Nat.one_pos⟩ j from Shape.reshapeEquiv_cons_one _ j]
    rfl

theorem cast_up (V : ℕ → ℕ → α) (h : (S2 n m).ShapeCasts (S3 1 n m)) : shapeCast (S3 1 n m) (c2 V : (S2 n m).Idx → α) h = c3 fun _ => V :=
  funext fun j => by
    obtain ⟨x, rfl⟩ := (Shape.reshapeEquiv (s := S3 1 n m) (s' := S2 n m) (Eq.symm h)).surjective j
    show c2 V (Shape.reshapeEquiv (s := S2 n m) (s' := S3 1 n m) h _) = _
    rw [Shape.reshapeEquiv_reshapeEquiv, Shape.reshapeEquiv_self,
      show Shape.reshapeEquiv (s := S3 1 n m) (s' := S2 n m) (Eq.symm h) x = Fin.cons ⟨0, Nat.one_pos⟩ x from Shape.reshapeEquiv_cons_one _ x]
    rfl

theorem cast_id {s : Shape} (x : s.Idx → α) (h : s.ShapeCasts s) : shapeCast s x h = x :=
  funext fun j => by
    show x (Shape.reshapeEquiv h j) = _
    rw [Shape.reshapeEquiv_self]

end Cast

/-! ## The payloads -/

theorem cutP_eq (V : ℕ → ℕ → F .f32) : cutP (F := F) (c2 V) = c3 fun _ x y => tr (V x y) :=
  cast_up (fun x y => tr (V x y)) shapeCasts_S64x256_S1x64x256
theorem czP_eq (V : ℕ → ℕ → F .f32) : k0_pay4 (F := F) (c2 V) = c3 fun _ x y => tr (V x y) :=
  cast_up (fun x y => tr (V x y)) shapeCasts_S256x256_S1x256x256
theorem cut2P_eq (V : ℕ → ℕ → F .f32) : cut2P (F := F) (c2 V) = c2 fun x y => tr (V x y) :=
  cast_id (c2 fun x y => tr (V x y)) shapeCasts_S64x256_S64x256
theorem addP_eq (A : ℕ → ℕ → F .f32) (B : ℕ → ℕ → ℕ → F .bf16) : addP (F := F) (c2 A) (c3 B) = c2 fun x y => ad (A x y) (ex (B 0 x y)) := by
  unfold addP k0_pay37
  simp only [cast_id, cast_dn]
  rfl
theorem fwdP_eq (A : ℕ → ℕ → F .f32) (B : ℕ → ℕ → ℕ → F .bf16) : fwdP (F := F) (c2 A) (c3 B) = c3 fun _ x y => tr (ad (A x y) (ex (B 0 x y))) := by
  unfold fwdP k0_pay38
  simp only [cast_dn]
  exact cast_up (fun x y => tr (ad (A x y) (ex (B 0 x y)))) shapeCasts_S64x256_S1x64x256
theorem czAddP_eq (A : ℕ → ℕ → F .f32) (B B' B'' : ℕ → ℕ → ℕ → F .bf16) :
    k0_pay65 (F := F) (c2 A) (c3 B) (c3 B') (c3 B'') = c2 fun x y => ad (ad (ad (A x y) (ex (B 0 x y))) (ex (B' 0 x y))) (ex (B'' 0 x y)) := by
  unfold k0_pay65
  simp only [cast_id, cast_dn]
  rfl
theorem c1P_eq (A : ℕ → ℕ → F .f32) (B : ℕ → ℕ → F .bf16) : k0_pay81 (F := F) (c2 A) (c2 B) = c2 fun x y => ad (A x y) (ex (B x y)) := by
  unfold k0_pay81
  simp only [cast_id]
  rfl
theorem c2P_eq (A : ℕ → ℕ → F .f32) (B : ℕ → ℕ → F .bf16) : k0_pay83 (k0_pay82 (F := F) (c2 A) (c2 B)) = c2 fun x y => tr (ad (A x y) (ex (B x y))) := by
  unfold k0_pay83 k0_pay82
  simp only [cast_id]
  rfl
theorem outP_eq (V B B' B'' : ℕ → ℕ → ℕ → F .bf16) :
    outP (F := F) (c3 V) (c3 B) (c3 B') (c3 B'') = c2 fun x y => gl (ad (ad (ad (ex (V 0 x y)) (ex (B 0 x y))) (ex (B' 0 x y))) (ex (B'' 0 x y))) := by
  unfold outP k0_pay85 k0_pay84
  simp only [cast_dn]
  rfl
theorem outCP_eq (A : ℕ → ℕ → F .f32) (B : ℕ → ℕ → F .bf16) : outCP (F := F) (c2 A) (c2 B) = c2 fun x y => gl (ad (A x y) (ex (B x y))) := rfl

/-! ## The contents -/

/-- A vector read at natural-number coordinates. -/
def g2 {n m : ℕ} [NeZero n] [NeZero m] {α : Type} (v : (S2 n m).Idx → α) (x y : ℕ) : α := v fun a => match a with
  | 0 => ⟨x % n, Nat.mod_lt _ (NeZero.pos n)⟩
  | 1 => ⟨y % m, Nat.mod_lt _ (NeZero.pos m)⟩

theorem c2_g2 {n m : ℕ} [NeZero n] [NeZero m] {α : Type} (v : (S2 n m).Idx → α) : c2 (g2 v) = v :=
  funext fun i => congrArg v (funext fun a => Fin.ext (by
    fin_cases a
    · exact Nat.mod_eq_of_lt (i 0).isLt
    · exact Nat.mod_eq_of_lt (i 1).isLt))

section Data

variable (X : Dev nD → Vec F S1024x64 .bf16) (W : Dev nD → Vec F S64x1024 .bf16)

/-- Device `d`'s part-product. -/
def PP (d : Dev nD) (r c : ℕ) : F .f32 := g2 (n := 1024) (m := 256) (mmP ⟨c / 256 % 4, Nat.mod_lt _ (by decide)⟩ (X d) (W d)) r (c % 256)
/-- What `d` sends in the first exchange of strip `s`. -/
def D1 (d : Dev nD) (s : Fin 3) (r c : ℕ) : F .bf16 := tr (PP X W d (256 * (r / 128) + 64 * bN s d (r / 64 % 2) + r % 64) (256 * s.val + c))
/-- The accumulator after it. -/
def A1 (d : Dev nD) (s : Fin 3) (r c : ℕ) : F .f32 :=
  if r % 256 / 64 = cN d then ad (PP X W d r c) (ex (D1 X W (peer1 s d) s (128 * (r / 256) + 64 * uN s d + r % 64) (c % 256))) else PP X W d r c
/-- What `d` sends in the second exchange of strip `s`. -/
def D2 (d : Dev nD) (s : Fin 3) (r c : ℕ) : F .bf16 :=
  tr (ad (PP X W d (256 * (r / 64) + 64 * fN s d + r % 64) (256 * s.val + c)) (ex (D1 X W (peer1 s d) s (128 * (r / 64) + 64 * (1 - uN s d) + r % 64) c)))
/-- The four planes' blocks of the plane's sum. -/
def DZ (d : Dev nD) (s : Fin 3) (z i c : ℕ) : F .bf16 :=
  tr (ad (A1 X W d s (256 * z + 64 * cN d + i) (256 * s.val + c)) (ex (D2 X W (peer2 s d) s (64 * z + i) c)))
/-- Strip `s` of the result. -/
def DO (d : Dev nD) (s : Fin 3) (i c : ℕ) : F .f32 :=
  gl (ad (ad (ad (ex (DZ X W d s (zN d) i c)) (ex (DZ X W (pz d 0) s (zN d) i c))) (ex (DZ X W (pz d 1) s (zN d) i c))) (ex (DZ X W (pz d 2) s (zN d) i c)))
/-- The last strip: the copies over planes, and their sum. -/
def DC (d : Dev nD) (z i c : ℕ) : F .bf16 := tr (PP X W d (256 * z + i) (768 + c))
def C1 (d : Dev nD) (i c : ℕ) : F .f32 :=
  ad (ad (ad (PP X W d (256 * zN d + i) (768 + c)) (ex (DC X W (pz d 0) (zN d) i c))) (ex (DC X W (pz d 1) (zN d) i c))) (ex (DC X W (pz d 2) (zN d) i c))
/-- The last strip's two exchanges within the plane. -/
def D3 (d : Dev nD) (r c : ℕ) : F .bf16 := tr (C1 X W d (64 * bN 1 d (r / 64) + r % 64) c)
def C2 (d : Dev nD) (i c : ℕ) : F .f32 := ad (C1 X W d (64 * cN d + i) c) (ex (D3 X W (py d) (64 * uN 1 d + i) c))
def D4 (d : Dev nD) (i c : ℕ) : F .bf16 := tr (ad (C1 X W d (64 * fN 1 d + i) c) (ex (D3 X W (py d) (64 * (1 - uN 1 d) + i) c)))
def OC (d : Dev nD) (i c : ℕ) : F .f32 := gl (ad (C2 X W d i c) (ex (D4 X W (px d) i c)))
/-- The result. -/
def OUT (d : Dev nD) (i c : ℕ) : F .f32 := if c < 768 then DO X W d ⟨c / 256 % 3, Nat.mod_lt _ (by decide)⟩ i (c % 256) else OC X W d i (c % 256)

theorem mmP_eq (d : Dev nD) (s : Fin 4) : mmP s (X d) (W d) = c2 fun x y => PP X W d x (256 * s.val + y % 256) := by
  rw [← c2_g2 (n := 1024) (m := 256) (mmP s (X d) (W d))]
  congr 1
  funext x y
  unfold PP
  have h1 : (256 * s.val + y % 256) / 256 % 4 = s.val := by omega
  have h2 : (256 * s.val + y % 256) % 256 = y % 256 := by omega
  have h3 : (⟨(256 * s.val + y % 256) / 256 % 4, Nat.mod_lt _ (by decide)⟩ : Fin 4) = s := Fin.ext h1
  rw [h3, h2]
  unfold g2
  congr 1
  funext a
  fin_cases a
  · rfl
  · exact Fin.ext (by show y % 256 = y % 256 % 256; omega)

end Data

end Cert.KernelIdeal.Tile
-- ==== Proof.Sched.lean ====
module

public import proofs.«01_k».proof.Proof.Contents
public import Mathlib.Tactic.DeriveFintype

@[expose] public section

set_option synthInstance.maxSize 4096

/-! # The copies, their semaphores and who pays what

Twenty copies leave each device and twenty arrive. A copy leaving `d` is named by where `d` issues it; the copy it is for
the device it reaches has a name there too, and the pairing is an involution. -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Names -/

/-- A copy: the two exchanges of strip `s`, strip `s` over planes, the last strip over planes, and its two exchanges. -/
inductive Tr where
  | p1 (s : Fin 3)
  | p2 (s : Fin 3)
  | z (k s : Fin 3)
  | cz (k : Fin 3)
  | c1
  | c2
deriving DecidableEq, Fintype

def peerT (d : Dev nD) : Tr → Dev nD
  | .p1 s => peer1 s d
  | .p2 s => peer2 s d
  | .z k _ => pz d k
  | .cz k => pz d k
  | .c1 => py d
  | .c2 => px d
def mateT (d : Dev nD) : Tr → Tr
  | .z k s => .z (slot d k) s
  | .cz k => .cz (slot d k)
  | t => t

theorem peer_peer : ∀ (d : Dev nD) (t : Tr), peerT (peerT d t) (mateT d t) = d := by decide +kernel
theorem mate_mate : ∀ (d : Dev nD) (t : Tr), mateT (peerT d t) (mateT d t) = t := by decide +kernel

/-- The five devices a device meets at the barrier, and which of theirs it is. -/
def nbr (d : Dev nD) (i : Fin 5) : Dev nD :=
  match i with
  | 0 => px d
  | 1 => py d
  | 2 => pz d 0
  | 3 => pz d 1
  | 4 => pz d 2
def opp (d : Dev nD) (i : Fin 5) : Fin 5 :=
  match i with
  | 0 => 0
  | 1 => 1
  | 2 => ⟨2 + (slot d 0).val, by have := (slot d 0).isLt; omega⟩
  | 3 => ⟨2 + (slot d 1).val, by have := (slot d 1).isLt; omega⟩
  | 4 => ⟨2 + (slot d 2).val, by have := (slot d 2).isLt; omega⟩

theorem nbr_nbr : ∀ (d : Dev nD) (i : Fin 5), nbr (nbr d i) (opp d i) = d := by decide +kernel
theorem opp_opp : ∀ (d : Dev nD) (i : Fin 5), opp (nbr d i) (opp d i) = i := by decide +kernel

/-! ## Semaphores and cells -/

def sIx : Tr → DmaSem sig
  | .p1 s => ⟨3 + s.val, by have := s.isLt; show _ < 43; omega⟩
  | .p2 s => ⟨9 + s.val, by have := s.isLt; show _ < 43; omega⟩
  | .z k s => ⟨15 + 3 * k.val + s.val, by have := s.isLt; have := k.isLt; show _ < 43; omega⟩
  | .cz k => ⟨33 + k.val, by have := k.isLt; show _ < 43; omega⟩
  | .c1 => ⟨39, by show _ < 43; omega⟩
  | .c2 => ⟨41, by show _ < 43; omega⟩
def rIx : Tr → DmaSem sig
  | .p1 s => ⟨6 + s.val, by have := s.isLt; show _ < 43; omega⟩
  | .p2 s => ⟨12 + s.val, by have := s.isLt; show _ < 43; omega⟩
  | .z k s => ⟨24 + 3 * k.val + s.val, by have := s.isLt; have := k.isLt; show _ < 43; omega⟩
  | .cz k => ⟨36 + k.val, by have := k.isLt; show _ < 43; omega⟩
  | .c1 => ⟨40, by show _ < 43; omega⟩
  | .c2 => ⟨42, by show _ < 43; omega⟩

/-- A cell of a device: its barrier, the end of a copy leaving it, the arrival of a copy. -/
inductive Cx where
  | bar
  | snd (t : Tr)
  | rcv (t : Tr)
deriving DecidableEq, Fintype

@[reducible] def semOf : Cx → SemLoc sig
  | .bar => .reg barS
  | .snd t => .dma (sIx t)
  | .rcv t => .dma (rIx t)

def allT : List Tr := [.p1 0, .p1 1, .p1 2, .p2 0, .p2 1, .p2 2, .z 0 0, .z 0 1, .z 0 2, .z 1 0, .z 1 1, .z 1 2, .z 2 0, .z 2 1, .z 2 2,
  .cz 0, .cz 1, .cz 2, .c1, .c2]
/-- Which cell a semaphore is. -/
def cxOf : SemLoc sig → Option Cx
  | .reg b => if b = barS then some .bar else none
  | .dma i => match allT.find? (fun t => decide (sIx t = i)) with
    | some t => some (.snd t)
    | none => (allT.find? (fun t => decide (rIx t = i))).map .rcv

theorem cxOf_semOf : ∀ x : Cx, cxOf (semOf x) = some x := by decide +kernel

abbrev cell (d : Dev nD) (x : Cx) : GSem nD τ sig := ((d : Thread nD τ), semOf x)

theorem cell_inj {d d' : Dev nD} {x x' : Cx} (h : cell d x = cell d' x') : d = d' ∧ x = x' := by
  have h1 : d = d' := congrArg (fun g : GSem nD τ sig => g.1.1) h
  have h2 : semOf x = semOf x' := congrArg Prod.snd h
  exact ⟨h1, Option.some.inj (by rw [← cxOf_semOf x, ← cxOf_semOf x', h2])⟩

/-! ## Amounts -/

def amt : Tr → ℕ
  | .p1 s => (p1rV s).view.dmaCredit
  | .p2 s => (p2rV s).view.dmaCredit
  | .z k s => (zrV s k).view.dmaCredit
  | .cz k => (czrV k).view.dmaCredit
  | .c1 => c1rM.view.dmaCredit
  | .c2 => c2rM.view.dmaCredit

theorem amt_pos : ∀ t, 0 < amt t := by decide +kernel
theorem amt_mate : ∀ (d : Dev nD) (t : Tr), amt (mateT d t) = amt t := fun d t => by cases t <;> rfl

/-! ## What is handed over -/

section Pay

variable (X : Dev nD → Vec F S1024x64 .bf16) (W : Dev nD → Vec F S64x1024 .bf16)

/-- The source of a copy leaving `d`, back with its owner. -/
def sPay (d : Dev nD) : Tr → sProp 𝕄
  | .p1 s => ownA d p1sM (bx3 s.val 1 0 512 0 256)
  | .p2 s => ownA d p2sM (bx3 s.val 1 0 256 0 256)
  | .z k s => ownA d zfM (bx3 (zdN d k) 1 0 64 (256 * s.val) 256)
  | .cz k => ownA d czsM (bx3 k.val 1 0 256 0 256)
  | .c1 => ownA d c1sM (bx2 0 128 0 256)
  | .c2 => ownA d c2sM (bx2 0 64 0 256)

/-- Where a copy arriving at `d` lands. -/
def land (d : Dev nD) : Tr → sProp 𝕄
  | .p1 s => ownA d p1rM (bx3 s.val 1 0 512 0 256)
  | .p2 s => ownA d p2rM (bx3 s.val 1 0 256 0 256)
  | .z k s => ownA d zrM (bx3 k.val 1 0 64 (256 * s.val) 256)
  | .cz k => ownA d czrM (bx3 k.val 1 0 256 0 256)
  | .c1 => ownA d c1rM (bx2 0 128 0 256)
  | .c2 => ownA d c2rM (bx2 0 64 0 256)

/-- The same, holding what was sent. -/
def rPay (d : Dev nD) : Tr → sProp 𝕄
  | .p1 s => own d p1rM (bx3 s.val 1 0 512 0 256) (c3 fun _ r c => D1 X W (peer1 s d) s r c)
  | .p2 s => own d p2rM (bx3 s.val 1 0 256 0 256) (c3 fun _ r c => D2 X W (peer2 s d) s r c)
  | .z k s => own d zrM (bx3 k.val 1 0 64 (256 * s.val) 256) (c3 fun _ i c => DZ X W (pz d k) s (zN d) i (c % 256))
  | .cz k => own d czrM (bx3 k.val 1 0 256 0 256) (c3 fun _ i c => DC X W (pz d k) (zN d) i c)
  | .c1 => own d c1rM (bx2 0 128 0 256) (c2 (D3 X W (py d)))
  | .c2 => own d c2rM (bx2 0 64 0 256) (c2 (D4 X W (px d)))

/-- Where the copies leaving `d` for its `i`-th neighbour land. -/
def lnd (d : Dev nD) (t : Tr) : sProp 𝕄 := land (peerT d t) (mateT d t)
def bPay (d : Dev nD) (i : Fin 5) : sProp 𝕄 :=
  match i with
  | 0 => iprop(lnd d (.p1 0) ∗ lnd d (.p1 2) ∗ lnd d (.p2 1) ∗ lnd d .c2)
  | 1 => iprop(lnd d (.p1 1) ∗ lnd d (.p2 0) ∗ lnd d (.p2 2) ∗ lnd d .c1)
  | 2 => iprop(lnd d (.cz 0) ∗ lnd d (.z 0 0) ∗ lnd d (.z 0 1) ∗ lnd d (.z 0 2))
  | 3 => iprop(lnd d (.cz 1) ∗ lnd d (.z 1 0) ∗ lnd d (.z 1 1) ∗ lnd d (.z 1 2))
  | 4 => iprop(lnd d (.cz 2) ∗ lnd d (.z 2 0) ∗ lnd d (.z 2 1) ∗ lnd d (.z 2 2))

instance sPay_storable (d : Dev nD) (t : Tr) : BI.Storable (upEmb : UEmb _ 𝕄) (sPay (F := F) d t) := by
  cases t <;> (unfold sPay; infer_instance)
instance land_storable (d : Dev nD) (t : Tr) : BI.Storable (upEmb : UEmb _ 𝕄) (land (F := F) d t) := by
  cases t <;> (unfold land; infer_instance)
instance rPay_storable (d : Dev nD) (t : Tr) : BI.Storable (upEmb : UEmb _ 𝕄) (rPay (F := F) X W d t) := by
  cases t <;> (unfold rPay; infer_instance)
instance bPay_storable (d : Dev nD) (i : Fin 5) : BI.Storable (upEmb : UEmb _ 𝕄) (bPay (F := F) d i) := by
  unfold bPay lnd; split <;> infer_instance

/-- One round. A barrier cell has five duties of one unit, one from each neighbour; a copy's two cells one duty each. -/
def Rd : Rounds.Schedule (GSem nD τ sig) (Fin 5) 𝕄 where
  duties g r := if r = 0 ∧ g.1.2 = .tc then (match cxOf g.2 with
    | some .bar => Finset.univ
    | some (.snd _) => {0}
    | some (.rcv _) => {0}
    | none => ∅) else ∅
  unitless _ := False
  amount g _ _ := match cxOf g.2 with
    | some (.snd t) => amt t
    | some (.rcv t) => amt t
    | _ => 1
  payload g _ i := match cxOf g.2 with
    | some .bar => bPay g.1.1 i
    | some (.snd t) => sPay g.1.1 t
    | some (.rcv t) => rPay X W g.1.1 t
    | none => iprop(emp)
  amount_pos g _ _ _ := by
    split
    · exact amt_pos _
    · exact amt_pos _
    · exact Nat.one_pos

instance Rd_storable (g : GSem nD τ sig) (r : ℕ) (i : Fin 5) : BI.Storable (upEmb : UEmb _ 𝕄) ((Rd (F := F) X W).payload g r i) := by
  unfold Rd; dsimp only; split <;> infer_instance

variable (d : Dev nD) (t : Tr)

theorem duties_bar : (Rd X W).duties (cell d .bar) 0 = Finset.univ := by
  dsimp only [Rd, cell]; rw [if_pos ⟨rfl, rfl⟩, cxOf_semOf]
theorem duties_snd : (Rd X W).duties (cell d (.snd t)) 0 = {0} := by
  dsimp only [Rd, cell]; rw [if_pos ⟨rfl, rfl⟩, cxOf_semOf]
theorem duties_rcv : (Rd X W).duties (cell d (.rcv t)) 0 = {0} := by
  dsimp only [Rd, cell]; rw [if_pos ⟨rfl, rfl⟩, cxOf_semOf]
theorem duties_later (g : GSem nD τ sig) : ∀ r, 1 ≤ r → (Rd X W).duties g r = ∅ :=
  fun r hr => by dsimp only [Rd]; rw [if_neg fun h => by omega]
theorem amount_bar (i : Fin 5) : (Rd X W).amount (cell d .bar) 0 i = 1 := by dsimp only [Rd, cell]; rw [cxOf_semOf]
theorem amount_snd (i : Fin 5) : (Rd X W).amount (cell d (.snd t)) 0 i = amt t := by dsimp only [Rd, cell]; rw [cxOf_semOf]
theorem amount_rcv (i : Fin 5) : (Rd X W).amount (cell d (.rcv t)) 0 i = amt t := by dsimp only [Rd, cell]; rw [cxOf_semOf]
theorem payload_bar (i : Fin 5) : (Rd X W).payload (cell d .bar) 0 i = bPay d i := by dsimp only [Rd, cell]; rw [cxOf_semOf]
theorem payload_snd (i : Fin 5) : (Rd X W).payload (cell d (.snd t)) 0 i = sPay d t := by dsimp only [Rd, cell]; rw [cxOf_semOf]
theorem payload_rcv (i : Fin 5) : (Rd X W).payload (cell d (.rcv t)) 0 i = rPay X W d t := by dsimp only [Rd, cell]; rw [cxOf_semOf]

theorem expect_bar : (Rd X W).expect (cell d .bar) 0 = 5 := by
  unfold Schedule.expect Schedule.amountOf
  rw [duties_bar, Finset.sum_congr rfl fun i _ => amount_bar X W d i, Finset.sum_const, Finset.card_univ, Fintype.card_fin, smul_eq_mul]
theorem expect_snd : (Rd X W).expect (cell d (.snd t)) 0 = amt t := by
  unfold Schedule.expect Schedule.amountOf; rw [duties_snd, Finset.sum_singleton, amount_snd]
theorem expect_rcv : (Rd X W).expect (cell d (.rcv t)) 0 = amt t := by
  unfold Schedule.expect Schedule.amountOf; rw [duties_rcv, Finset.sum_singleton, amount_rcv]

theorem rest_bar : bigSep ((Rd X W).duties (cell d .bar) 0 \ ∅) (fun i => (Rd X W).payload (cell d .bar) 0 i)
    = iprop(bPay d 0 ∗ bPay d 1 ∗ bPay d 2 ∗ bPay d 3 ∗ bPay d 4) := by
  rw [Finset.sdiff_empty, duties_bar, bigSep_univ_eq_bigSepL [0, 1, 2, 3, 4] (by decide) (by decide)]
  simp only [bigSepL_cons_cons, bigSepL_singleton, payload_bar]
  rfl
theorem rest_snd : bigSep ((Rd X W).duties (cell d (.snd t)) 0 \ ∅) (fun i => (Rd X W).payload (cell d (.snd t)) 0 i) = sPay d t := by
  rw [Finset.sdiff_empty, duties_snd, bigSep_singleton, payload_snd]
theorem rest_rcv : bigSep ((Rd X W).duties (cell d (.rcv t)) 0 \ ∅) (fun i => (Rd X W).payload (cell d (.rcv t)) 0 i) = rPay X W d t := by
  rw [Finset.sdiff_empty, duties_rcv, bigSep_singleton, payload_rcv]

end Pay

/-! ## Dues and levels -/

/-- A due: a unit to a neighbour's barrier, or a copy's arrival. -/
inductive Du where
  | bar (i : Fin 5)
  | cp (t : Tr)
deriving DecidableEq, Fintype

/-- Where it is paid, and how much. -/
def tgt (d : Dev nD) : Du → GSem nD τ sig
  | .bar i => cell (nbr d i) .bar
  | .cp t => cell (peerT d t) (.rcv (mateT d t))
def dAmt : Du → ℕ
  | .bar _ => 1
  | .cp t => amt t

def due (d : Dev nD) : List Du → CellTallies nD τ sig Unit
  | [] => 0
  | x :: l => due d l + tallyAt (tgt d x) () (dAmt x)

/-- The dues in the order they are paid. -/
def dues : List Du := [.bar 0, .bar 1, .bar 2, .bar 3, .bar 4, .cp (.cz 0), .cp (.cz 1), .cp (.cz 2), .cp (.p1 0), .cp (.p1 1), .cp (.p1 2),
  .cp (.p2 0), .cp (.p2 1), .cp (.p2 2), .cp .c1, .cp (.z 0 0), .cp (.z 1 0), .cp (.z 2 0), .cp (.z 0 1), .cp (.z 1 1), .cp (.z 2 1),
  .cp (.z 0 2), .cp (.z 1 2), .cp (.z 2 2), .cp .c2]

def L (g : GSem nD τ sig) : Finset Unit := if g.1.2 = .tc then {()} else ∅
def lvC : Cx → ℕ
  | .bar => 1
  | .snd _ => 0
  | .rcv (.p1 _) => 2
  | .rcv (.cz _) => 2
  | .rcv (.p2 _) => 3
  | .rcv .c1 => 3
  | .rcv (.z _ _) => 4
  | .rcv .c2 => 4
def lvS (q : SemLoc sig) : ℕ := match cxOf q with
  | some x => lvC x
  | none => 0
def lv (g : GSem nD τ sig) (_ : Unit) : ℕ := lvS g.2
def lvD : Du → ℕ
  | .bar _ => 1
  | .cp t => lvC (.rcv t)

theorem L_of_ne (g : GSem nD τ sig) (h : g.1.2 ≠ .tc) : L g = ∅ := if_neg h
theorem L_tc (c : Dev nD) (sm : SemLoc sig) : L ((c : Thread nD τ), sm) = {()} := if_pos rfl

theorem lv_tgt (d : Dev nD) (x : Du) : lv (tgt d x) () = lvD x := by
  rcases x with i | t
  · dsimp only [lv, lvS, tgt, cell]; rw [cxOf_semOf]; rfl
  · dsimp only [lv, lvS, tgt, cell]; rw [cxOf_semOf]; cases t <;> rfl
theorem lvS_cell (x : Cx) : lvS (semOf x) = lvC x := by unfold lvS; rw [cxOf_semOf]

theorem due_pos {d : Dev nD} {l : List Du} {g : GSem nD τ sig} {u : Unit} (h : 0 < due d l g u) : ∃ x ∈ l, g = tgt d x := by
  induction l with
  | nil => exact absurd h (Nat.lt_irrefl 0)
  | cons x l ih =>
    rw [due, Pi.add_apply, Finsupp.add_apply] at h
    rcases Nat.add_pos_iff_pos_or_pos.mp h with h | h
    · obtain ⟨y, hy, e⟩ := ih h
      exact ⟨y, List.mem_cons_of_mem _ hy, e⟩
    · exact ⟨x, List.mem_cons_self, (Pipeline.tallyAt_pos h).1⟩

omit [FloatOps F] in
/-- Every due left lies above the semaphore waited on. -/
theorem mayWait_due (d : Dev nD) (y : Cx) (l : List Du) (h : ∀ x ∈ l, lvC y < lvD x) :
    (levAts L lv : sProp 𝕄) ⊢ MayWait (d : Thread nD τ) (semOf y) () (due d l) :=
  MayOwe.of_cut (L := L) (lev := lv) (lvC y) (fun p hp => by rw [Finset.mem_singleton.mp hp, L_tc]; exact Finset.mem_singleton_self _)
    (fun g u hg => by
      obtain ⟨x, hx, rfl⟩ := due_pos hg
      cases u
      cases x <;> exact Finset.mem_singleton_self _)
    (fun p hp => by rw [Finset.mem_singleton.mp hp]; exact le_of_eq (lvS_cell y))
    (fun g u hg => by
      obtain ⟨x, hx, rfl⟩ := due_pos hg
      cases u
      rw [lv_tgt]
      exact h x hx)

end Cert.KernelIdeal.Tile
-- ==== Proof.Comm.lean ====
module

public import proofs.«01_k».proof.Proof.Sched

@[expose] public section

set_option synthInstance.maxSize 4096

/-! # Signals, copies and waits -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A copy's view as a box of its buffer -/

section Views

variable {d : Dev nD} {e : EltTy}

omit [FloatOps F] in
theorem setOn_sq {s s' : Shape} {m : Memref sig .tc .vmem s e} (r : Rect s) (hr : ∀ a, r.stride a = 1) (q : r.shape.Squeezes s') :
    ((m.slice r hr).squeeze s' q).view.setOn Finset.univ = m.view.setOn r.set :=
  (View.set_reshape _ _).trans (View.set_slice _ _)

omit [FloatOps F] in
theorem own_intro {s : Shape} {m : Memref sig .tc .vmem s e} {S : Finset s.Idx} {f : s.Idx → Elt F e} {g : Buf (Elt F) (m.view.loc (d : Thread nD τ))}
    (h : ∀ x ∈ S, m.view.read (Elt F) g x = f x) : ((m.view.loc (d : Thread nD τ) ↦[m.view.setOn S]{fullShare} g) : sProp 𝕄) ⊢ own d m S f := by
  unfold own; iintro H; iexists g
  isplitr; · ipureintro; exact h
  iexact H

omit [FloatOps F] in
/-- A sliced and squeezed memref whole is its rectangle of the memref. -/
theorem own_sq {s s' : Shape} {m : Memref sig .tc .vmem s e} {r : Rect s} {hr : ∀ a, r.stride a = 1} {q : r.shape.Squeezes s'}
    {f : s.Idx → Elt F e} : (own d m r.set f : sProp 𝕄) ⊢ own d ((m.slice r hr).squeeze s' q) Finset.univ (fun x => f (r.idx (Shape.reshapeEquiv q.numel_eq x))) := by
  unfold own; iintro ⟨%u, %hu, H⟩
  rw [setOn_sq]
  iexists u
  isplitr; · ipureintro; exact fun x _ => hu _ (r.idx_mem _)
  iexact H

omit [FloatOps F] in
theorem sq_own {s s' : Shape} {m : Memref sig .tc .vmem s e} {r : Rect s} {hr : ∀ a, r.stride a = 1} {q : r.shape.Squeezes s'}
    {f : s.Idx → Elt F e} : (own d ((m.slice r hr).squeeze s' q) Finset.univ (fun x => f (r.idx (Shape.reshapeEquiv q.numel_eq x))) : sProp 𝕄) ⊢ own d m r.set f := by
  unfold own; iintro ⟨%u, %hu, H⟩
  rw [setOn_sq]
  iexists u
  isplitr
  · ipureintro
    intro x hx
    obtain ⟨y, rfl⟩ := r.exists_idx_of_mem hx
    obtain ⟨z, rfl⟩ := (Shape.reshapeEquiv q.numel_eq).surjective y
    exact hu z (Finset.mem_univ z)
  iexact H

variable {k n n' h w : ℕ} {m : Memref sig .tc .vmem (S3 k n n') e} {off : Fin 3 → ℕ} {inb : ∀ a, off a + (S3 1 h w).size a ≤ (S3 k n n').size a} {p a b : ℕ}
  {hr : ∀ a, (Rect.unit (s := S3 k n n') off (S3 1 h w).size inb).stride a = 1} {q : (Rect.unit (s := S3 k n n') off (S3 1 h w).size inb).shape.Squeezes (S2 h w)}

theorem sq_idx (ho : off = ![p, a, b]) {α : Type} (A : ℕ → ℕ → ℕ → α) (x : (S2 h w).Idx) :
    c3 A ((Rect.unit (s := S3 k n n') off (S3 1 h w).size inb).idx (Shape.reshapeEquiv q.numel_eq x)) = c2 (fun i j => A p (a + i) (b + j)) x := by
  rw [show Shape.reshapeEquiv q.numel_eq x = (Fin.cons ⟨0, Nat.one_pos⟩ x : (S3 1 h w).Idx) from Shape.reshapeEquiv_cons_one _ x]
  subst ho
  show A (p + 1 * 0) (a + 1 * _) (b + 1 * _) = A _ (a + _) (b + _)
  simp only [Nat.one_mul, Nat.mul_zero, Nat.add_zero]; rfl

omit [FloatOps F] in
theorem to_sq (ho : off = ![p, a, b]) (A : ℕ → ℕ → ℕ → Elt F e) :
    (own d m (bx3 p 1 a h b w) (c3 A) : sProp 𝕄) ⊢ own d ((m.slice (Rect.unit (s := S3 k n n') off (S3 1 h w).size inb) hr).squeeze (S2 h w) q) Finset.univ (c2 fun i j => A p (a + i) (b + j)) := by
  rw [← set3 (inb := inb) ho]
  exact own_sq.trans (own_congr fun x _ => sq_idx (q := q) ho A x)

omit [FloatOps F] in
theorem of_sq (ho : off = ![p, a, b]) (A : ℕ → ℕ → ℕ → Elt F e) :
    (own d ((m.slice (Rect.unit (s := S3 k n n') off (S3 1 h w).size inb) hr).squeeze (S2 h w) q) Finset.univ (c2 fun i j => A p (a + i) (b + j)) : sProp 𝕄) ⊢ own d m (bx3 p 1 a h b w) (c3 A) := by
  rw [← set3 (inb := inb) ho]
  exact (own_congr fun x _ => (sq_idx (q := q) ho A x).symm).trans sq_own

omit [FloatOps F] in
theorem toA_sq (ho : off = ![p, a, b]) (hk : 0 < k) (hn : 0 < n) (hm : 0 < n') :
    (ownA d m (bx3 p 1 a h b w) : sProp 𝕄) ⊢ ownA d ((m.slice (Rect.unit (s := S3 k n n') off (S3 1 h w).size inb) hr).squeeze (S2 h w) q) Finset.univ := by
  iintro H
  ihave H := (ownA_c3 hk hn hm) $$ H
  icases H with ⟨%A, H⟩
  ihave H := (to_sq (inb := inb) (hr := hr) (q := q) ho A) $$ H
  iapply own_weaken; iexact H

end Views

/-! ## The records -/

section Comm

variable (X : Dev nD → Vec F S1024x64 .bf16) (W : Dev nD → Vec F S64x1024 .bf16) (K : Dev nD × Cx → ℕ)

/-- Every cell's invariant, that every cell is at its first round, and the levels. -/
def Recs : sProp 𝕄 :=
  iprop((bigSep Finset.univ fun p : Dev nD × Cx => cellInv ER (Rd X W) (K p) (cell p.1 p.2))
    ∗ (bigSep Finset.univ fun p : Dev nD × Cx => reached ER (cell p.1 p.2) 0) ∗ levAts L lv)

instance recs_persistent : BI.Persistent (Recs X W K) := by unfold Recs; infer_instance

theorem inv_at (p : Dev nD × Cx) :
    (bigSep Finset.univ fun p : Dev nD × Cx => (cellInv ER (Rd X W) (K p) (cell p.1 p.2) : sProp 𝕄)) ⊢ cellInv ER (Rd X W) (K p) (cell p.1 p.2) :=
  bigSep_elim (Finset.mem_univ p)
omit [FloatOps F] in
theorem reached_at (p : Dev nD × Cx) :
    (bigSep Finset.univ fun p : Dev nD × Cx => (reached ER (cell p.1 p.2) 0 : sProp 𝕄)) ⊢ reached ER (cell p.1 p.2) 0 :=
  bigSep_elim (Finset.mem_univ p)
theorem inv_of (d : Dev nD) (x : Cx) : Recs X W K ⊢ cellInv ER (Rd X W) (K (d, x)) (cell d x) := by
  unfold Recs; iintro ⟨H, -, -⟩
  iapply (inv_at X W K (d, x)); iexact H
theorem reached_of (d : Dev nD) (x : Cx) : Recs X W K ⊢ reached ER (cell d x) 0 := by
  unfold Recs; iintro ⟨-, H, -⟩
  iapply (reached_at (d, x)); iexact H
theorem lev_of : Recs X W K ⊢ levAts L lv := by
  unfold Recs; iintro ⟨-, -, H⟩; iexact H

set_option maxRecDepth 20000 in
theorem mayWait_of (d : Dev nD) (y : Cx) (l : List Du) (h : ∀ x ∈ l, lvC y < lvD x) :
    Recs X W K ⊢ MayWait (d : Thread nD τ) (semOf y) () (due d l) := (lev_of X W K).trans (mayWait_due d y l h)

/-- What is left to pay. -/
def Ow (d : Dev nD) (l : List Du) : sProp 𝕄 := iprop(∃ V, owes (d : Thread nD τ) (due d l) V)

variable {d : Dev nD}

theorem devB_nbr : ∀ (d : Dev nD) (i : Fin 5), devB d i = nbr d i := by decide +kernel

theorem wp_bar (i : Fin 5) (l : List Du) {Q : PUnit → sProp 𝕄} :
    iprop(Recs X W K ∗ Ow d (.bar i :: l) ∗ dutyTok ER (cell (nbr d i) .bar) 0 (opp d i) ∗ bPay (nbr d i) (opp d i))
      ⊢ iprop((Ow d l -∗ Q ⟨⟩) -∗ WP (F := F) d (semSignalWord (devB d i) barS 1#32) Q) := by
  rw [devB_nbr]
  simp only [semSignalWord, Prog.lift, Prog.bind_op, Prog.bind_ret, Prog.pure_eq_ret]
  iintro ⟨#HR, HO, Ht, Hp⟩ Hk
  unfold Ow
  icases HO with ⟨%V, HO⟩
  iapply (Rounds.wp_signal 𝒱₀ ER (Rd X W) (d : Thread nD τ) none (dst := (nbr d i : Thread nD τ)) (κ := K (nbr d i, .bar))
      (d := opp d i) (by rw [show ((nbr d i : Thread nD τ), SemLoc.reg barS) = cell (nbr d i) .bar from rfl, duties_bar]; exact Finset.mem_univ _)
      ((amount_bar X W (nbr d i) (opp d i)).trans (by decide)) () (due d l) rfl) $$ [HO Ht Hp]
  · isplitr; · iapply (inv_of X W K (nbr d i) .bar); iexact HR
    isplitl [HO]; · iexact HO
    isplitl [Ht]; · iexact Ht
    isplitl [Hp]
    · ihave Hp := (Entails.of_eq (payload_bar X W (nbr d i) (opp d i)).symm) $$ Hp
      iexact Hp
    iapply (reached_of X W K (nbr d i) .bar); iexact HR
  iintro HO
  rw [wp_ret]; imodintro
  iapply Hk; iexists V; iexact HO

theorem wp_barW (l : List Du) (hl : ∀ x ∈ l, 1 < lvD x) {Q : PUnit → sProp 𝕄} :
    iprop(Recs X W K ∗ Ow d l ∗ cred (tallyAt (cell d .bar) () 5) ∗ atPos ER (cell d .bar) 0 ∅ 0)
      ⊢ iprop(((Ow d l ∗ semVal (cell d .bar) 0 ∗ bPay d 0 ∗ bPay d 1 ∗ bPay d 2 ∗ bPay d 3 ∗ bPay d 4) -∗ Q ⟨⟩)
        -∗ WP (F := F) d (semWaitWord barS 5#32) Q) := by
  simp only [semWaitWord, Prog.lift, Prog.bind_op, Prog.bind_ret, Prog.pure_eq_ret]
  iintro ⟨#HR, HO, Hc, Ha⟩ Hk
  unfold Ow
  icases HO with ⟨%V, HO⟩
  iapply (Rounds.wp_wait_rest_token 𝒱₀ ER (Rd X W) (d : Thread nD τ) none (κ := K (d, .bar))
      (wpE_semWait_eq 𝒱₀ (d : Thread nD τ) none Set.univ) (Set.mem_univ _) () (O := due d l) (W := V) (R := 0) (m := 0) (T := ∅)
      (by rw [show ((d : Thread nD τ), SemLoc.reg barS) = cell d .bar from rfl, expect_bar]; decide)) $$ [Hc HO Ha]
  · isplitr; · iapply (inv_of X W K d .bar); iexact HR
    isplitl [Hc]; · iexact Hc
    isplitl [HO]; · iexact HO
    isplitr
    · iapply (mayWait_of X W K d .bar l hl); iexact HR
    iexact Ha
  iintro ⟨HO, Ha, -, Hp⟩
  ihave Hp := (Entails.of_eq (rest_bar X W d)) $$ Hp
  imod (Rounds.cell_close ER (Rd X W) (Set.mem_univ (K (d, .bar))) (fun h => h) (R := 0 + 1) (duties_later X W (cell d .bar))) $$ [Ha] with Hz
  · isplitr; · iapply (inv_of X W K d .bar); iexact HR
    iexact Ha
  rw [wp_ret]; imodintro
  iapply Hk
  isplitl [HO]; · iexists _; iexact HO
  isplitl [Hz]; · iexact Hz
  iexact Hp

section Xfer

set_option maxRecDepth 4000

variable {s : Shape} {sm rm : DmaSem sig} {src dst : Memref sig .tc .vmem s .bf16} {n : Dev nD} {h1 : src.view.WordExact} {h2 : dst.view.WordExact}

theorem wp_send {Q : PUnit → sProp 𝕄} (t : Tr) (l : List Du) (f : s.Idx → Elt F .bf16) (hn : n = peerT d t) (hsm : sm = sIx t) (hrm : rm = rIx (mateT d t))
    (ha : dst.view.dmaCredit = amt t)
    (hp1 : (own d src Finset.univ f : sProp 𝕄) ⊢ sPay d t)
    (hp2 : (own (peerT d t) dst Finset.univ f : sProp 𝕄) ⊢ rPay X W (peerT d t) (mateT d t)) :
    iprop(Recs X W K ∗ Ow d (.cp t :: l) ∗ dutyTok ER (cell d (.snd t)) 0 0 ∗ dutyTok ER (cell (peerT d t) (.rcv (mateT d t))) 0 0
        ∗ own d src Finset.univ f ∗ ownA (peerT d t) dst Finset.univ)
      ⊢ iprop(((Ow d l ∗ cred (tallyAt (cell d (.snd t)) () (amt t))) -∗ Q ⟨⟩) -∗ WP (F := F) d (sndT sm rm src dst n h1 h2) Q) := by
  subst hn hsm hrm
  unfold sndT
  iintro ⟨#HR, HO, Ht1, Ht2, Hs, Hd⟩ Hk
  unfold Ow ownA own
  icases HO with ⟨%V, HO⟩
  icases Hs with ⟨%fs, %hfs, Hs⟩
  icases Hd with ⟨%f', %fd, %hfd, Hd⟩
  iapply (Rounds.wp_send_pointsTo 𝒱₀ ER (Rd X W) (d : Thread nD τ) none (κ₁ := K (d, .snd t)) (κ₂ := K (peerT d t, .rcv (mateT d t)))
    (q := fullShare) (c' := (peerT d t : Thread nD τ)) (sS := .dma (sIx t)) (sem := .dma (rIx (mateT d t)))
    (r₁ := 0) (r₂ := 0) (d₁ := 0) (d₂ := 0) (fs := fs) (fd := fd)
    (by rw [show ((d : Thread nD τ), SemLoc.dma (sIx t)) = cell d (.snd t) from rfl, duties_snd]; exact Finset.mem_singleton_self _)
    (by rw [show ((peerT d t : Thread nD τ), SemLoc.dma (rIx (mateT d t))) = cell (peerT d t) (.rcv (mateT d t)) from rfl, duties_rcv]; exact Finset.mem_singleton_self _)
    () () (amt t) ha (amount_snd X W d t 0) ((amount_rcv X W (peerT d t) (mateT d t) 0).trans (amt_mate d t)) (due d l) rfl (W := V)
    (by
      rw [show ((d : Thread nD τ), SemLoc.dma (sIx t)) = cell d (.snd t) from rfl, payload_snd]
      exact (own_intro hfs).trans hp1)
    (by
      rw [show ((peerT d t : Thread nD τ), SemLoc.dma (rIx (mateT d t))) = cell (peerT d t) (.rcv (mateT d t)) from rfl, payload_rcv]
      refine (own_intro (fun x hx => ?_)).trans hp2
      rw [← hfs x hx]
      exact congrFun (dst.view.read_write_univ fd (src.view.read (Elt F) fs)) x)) $$ [HO Ht1 Ht2 Hs Hd]
  · isplitr; · iapply (inv_of X W K d (.snd t)); iexact HR
    isplitr; · iapply (inv_of X W K (peerT d t) (.rcv (mateT d t))); iexact HR
    isplitl [Hs]; · iexact Hs
    isplitl [Hd]; · iexact Hd
    isplitl [HO]; · iexact HO
    isplitl [Ht1]; · iexact Ht1
    isplitr; · iapply (reached_of X W K d (.snd t)); iexact HR
    isplitl [Ht2]; · iexact Ht2
    iapply (reached_of X W K (peerT d t) (.rcv (mateT d t))); iexact HR
  iintro ⟨Hc, HO⟩
  rw [wp_ret]; imodintro
  iapply Hk
  isplitl [HO]; · iexists V; iexact HO
  iexact Hc

theorem wp_waitS {Q : PUnit → sProp 𝕄} (t : Tr) (l : List Du) (hsm : sm = sIx t) (ha : dst.view.dmaCredit = amt t) (hl : ∀ x ∈ l, 0 < lvD x) :
    iprop(Recs X W K ∗ Ow d l ∗ cred (tallyAt (cell d (.snd t)) () (amt t)) ∗ atPos ER (cell d (.snd t)) 0 ∅ 0)
      ⊢ iprop(((Ow d l ∗ semVal (cell d (.snd t)) 0 ∗ sPay d t) -∗ Q ⟨⟩) -∗ WP (F := F) d (wtT sm src dst h1 h2) Q) := by
  subst hsm
  unfold wtT
  iintro ⟨#HR, HO, Hc, Ha⟩ Hk
  unfold Ow
  icases HO with ⟨%V, HO⟩
  iapply (Rounds.wp_wait_rest_token 𝒱₀ ER (Rd X W) (d : Thread nD τ) none (κ := K (d, .snd t))
      (wpE_waitDma2_eq 𝒱₀ (d : Thread nD τ) none Set.univ) (Set.mem_univ _) () (O := due d l) (W := V) (R := 0) (m := 0) (T := ∅)
      (by rw [show ((d : Thread nD τ), SemLoc.dma (sIx t)) = cell d (.snd t) from rfl, expect_snd, Nat.zero_add, ha])) $$ [Hc HO Ha]
  · isplitr; · iapply (inv_of X W K d (.snd t)); iexact HR
    isplitl [Hc]; · rw [ha]; iexact Hc
    isplitl [HO]; · iexact HO
    isplitr
    · iapply (mayWait_of X W K d (.snd t) l hl); iexact HR
    iexact Ha
  iintro ⟨HO, Ha, -, Hp⟩
  ihave Hp := (Entails.of_eq (rest_snd X W d t)) $$ Hp
  imod (Rounds.cell_close ER (Rd X W) (Set.mem_univ (K (d, .snd t))) (fun h => h) (R := 0 + 1) (duties_later X W (cell d (.snd t)))) $$ [Ha] with Hz
  · isplitr; · iapply (inv_of X W K d (.snd t)); iexact HR
    iexact Ha
  rw [wp_ret]; imodintro
  iapply Hk
  isplitl [HO]; · iexists _; iexact HO
  isplitl [Hz]; · iexact Hz
  iexact Hp

theorem wp_waitR {Q : PUnit → sProp 𝕄} (t : Tr) (l : List Du) (hsm : sm = rIx t) (ha : dst.view.dmaCredit = amt t) (hl : ∀ x ∈ l, lvC (.rcv t) < lvD x) :
    iprop(Recs X W K ∗ Ow d l ∗ cred (tallyAt (cell d (.rcv t)) () (amt t)) ∗ atPos ER (cell d (.rcv t)) 0 ∅ 0)
      ⊢ iprop(((Ow d l ∗ semVal (cell d (.rcv t)) 0 ∗ rPay X W d t) -∗ Q ⟨⟩) -∗ WP (F := F) d (wtT sm src dst h1 h2) Q) := by
  subst hsm
  unfold wtT
  iintro ⟨#HR, HO, Hc, Ha⟩ Hk
  unfold Ow
  icases HO with ⟨%V, HO⟩
  iapply (Rounds.wp_wait_rest_token 𝒱₀ ER (Rd X W) (d : Thread nD τ) none (κ := K (d, .rcv t))
      (wpE_waitDma2_eq 𝒱₀ (d : Thread nD τ) none Set.univ) (Set.mem_univ _) () (O := due d l) (W := V) (R := 0) (m := 0) (T := ∅)
      (by rw [show ((d : Thread nD τ), SemLoc.dma (rIx t)) = cell d (.rcv t) from rfl, expect_rcv, Nat.zero_add, ha])) $$ [Hc HO Ha]
  · isplitr; · iapply (inv_of X W K d (.rcv t)); iexact HR
    isplitl [Hc]; · rw [ha]; iexact Hc
    isplitl [HO]; · iexact HO
    isplitr
    · iapply (mayWait_of X W K d (.rcv t) l hl); iexact HR
    iexact Ha
  iintro ⟨HO, Ha, -, Hp⟩
  ihave Hp := (Entails.of_eq (rest_rcv X W d t)) $$ Hp
  imod (Rounds.cell_close ER (Rd X W) (Set.mem_univ (K (d, .rcv t))) (fun h => h) (R := 0 + 1) (duties_later X W (cell d (.rcv t)))) $$ [Ha] with Hz
  · isplitr; · iapply (inv_of X W K d (.rcv t)); iexact HR
    iexact Ha
  rw [wp_ret]; imodintro
  iapply Hk
  isplitl [HO]; · iexists _; iexact HO
  isplitl [Hz]; · iexact Hz
  iexact Hp

end Xfer

end Comm

end Cert.KernelIdeal.Tile
-- ==== Proof.Steps.lean ====
module

public import proofs.«01_k».proof.Proof.Comm

@[expose] public section

set_option synthInstance.maxSize 4096

/-! # The steps that compute -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Bounds on the mesh's numbers -/

theorem cN_lt : ∀ d : Dev nD, cN d < 4 := by decide +kernel
theorem zN_lt : ∀ d : Dev nD, zN d < 4 := by decide +kernel
theorem fN_lt : ∀ (s : Fin 3) (d : Dev nD), fN s d < 4 := by decide +kernel
theorem fN_ne : ∀ (s : Fin 3) (d : Dev nD), fN s d ≠ cN d := by decide +kernel
theorem bN_lt : ∀ (s : Fin 3) (d : Dev nD) (h : Fin 2), bN s d h.val < 4 := by decide +kernel
theorem uN_le : ∀ (s : Fin 3) (d : Dev nD), uN s d ≤ 1 := by decide +kernel
theorem zdN_lt : ∀ (d : Dev nD) (k : Fin 3), zdN d k < 4 := by decide +kernel

section Steps

variable (X : Dev nD → Vec F S1024x64 .bf16) (W : Dev nD → Vec F S64x1024 .bf16)
variable {d : Dev nD}

/-- A strip of the accumulator. -/
abbrev accB (s : ℕ) : Finset (S2 1024 1024).Idx := bx2 0 1024 (256 * s) 256

theorem wp_mm (s : Fin 4) {Q : PUnit → sProp 𝕄} :
    ownA d accM (accB s.val) ⊢ iprop((own d accM (accB s.val) (c2 (PP X W d)) -∗ Q ⟨⟩) -∗ WP d (mmS s (mmP s (X d) (W d))) Q) := by
  unfold mmS
  rw [mmP_eq]
  simp only [wp_bind]
  iintro H Hk
  ihave H := (ownA_c2 (n := 1024) (n' := 1024) (by decide) (by decide)) $$ H
  icases H with ⟨%A, H⟩
  iapply (ld2 (d := d) (m := accM) (h := 1024) (w := 256) rfl A (fun x y => A (0 + x) (256 * s.val + y)) (by omega) (fun _ _ _ _ => rfl)) $$ H
  iintro H
  iapply (st2 (d := d) (m := accM) (h := 1024) (w := 256) rfl A (PP X W d) (fun x y => PP X W d x (256 * s.val + y % 256)) (by omega)
    (fun x y hx hy => by rw [Nat.zero_add, Nat.mod_eq_of_lt hy]) (fun x y _ _ _ _ h => by omega)) $$ H
  iintro H
  iapply Hk; iexact H

/-- What a slab of the buffer of the copies of the last strip holds. -/
theorem wp_czF (k : Fin 3) {Q : PUnit → sProp 𝕄} :
    iprop(own d accM (accB 3) (c2 (PP X W d)) ∗ ownA d czsM (bx3 k.val 1 0 256 0 256))
      ⊢ iprop(((own d accM (accB 3) (c2 (PP X W d)) ∗ own d czsM (bx3 k.val 1 0 256 0 256) (c3 fun _ i c => DC X W d (zdN d k) i c)) -∗ Q ⟨⟩) -∗ WP d (czF d k) Q) := by
  unfold czF
  simp only [wp_bind]
  iintro ⟨H, G⟩ Hk
  ihave G := (ownA_c3 (k := 3) (n := 256) (n' := 256) (by decide) (by decide) (by decide)) $$ G
  icases G with ⟨%A, G⟩
  have hz := zdN_lt d k
  iapply (ld2 (d := d) (m := accM) (h := 256) (w := 256) (offCa_eq d k) (PP X W d) (fun x y => PP X W d (256 * zdN d k + x) (768 + y)) (by omega) (fun _ _ _ _ => rfl)) $$ H
  iintro H
  iapply (ld3 (d := d) (m := czsM) (l := 1) (h := 256) (w := 256) rfl A (fun z x y => A (k.val + z) (0 + x) (0 + y)) (by omega) (fun _ _ _ _ _ _ => rfl)) $$ G
  iintro G
  rw [czP_eq]
  iapply (st3 (d := d) (m := czsM) (l := 1) (h := 256) (w := 256) rfl A (fun _ i c => DC X W d (zdN d k) i c) (fun _ x y => tr (PP X W d (256 * zdN d k + x) (768 + y))) (by omega)
    (fun z x y _ _ _ => by rw [Nat.zero_add, Nat.zero_add]; rfl) (fun z x y _ _ _ _ _ _ h => by omega)) $$ G
  iintro G
  iapply Hk
  isplitl [H] <;> iassumption

/-- The first `k` blocks of a slab written, the rest as they were. -/
def fill (k : ℕ) (B : ℕ → ℕ → F .bf16) (A : ℕ → ℕ → ℕ → F .bf16) (z x y : ℕ) : F .bf16 := if x < 64 * k then B x y else A z x y

omit [FloatOps F] in
theorem fill_zero (B : ℕ → ℕ → F .bf16) (A : ℕ → ℕ → ℕ → F .bf16) : fill 0 B A = A := by
  funext z x y; unfold fill; rw [if_neg (by omega)]

theorem wp_p1F (s : Fin 3) (r : Fin 4) (h : Fin 2) (A : ℕ → ℕ → ℕ → F .bf16) {off : Fin 2 → ℕ} (ho : off = ![256 * r.val + 64 * bN s d h.val, 256 * s.val])
    {hb : ∀ a, off a + S64x256.size a ≤ S1024x1024.size a} {Q : PUnit → sProp 𝕄} :
    iprop(own d accM (accB s.val) (c2 (PP X W d)) ∗ own d p1sM (bx3 s.val 1 0 512 0 256) (c3 (fill (2 * r.val + h.val) (D1 X W d s) A)))
      ⊢ iprop(((own d accM (accB s.val) (c2 (PP X W d)) ∗ own d p1sM (bx3 s.val 1 0 512 0 256) (c3 (fill (2 * r.val + h.val + 1) (D1 X W d s) A))) -∗ Q ⟨⟩)
        -∗ WP d (p1F s (t2 r h) off hb) Q) := by
  unfold p1F
  simp only [wp_bind]
  iintro ⟨H, G⟩ Hk
  have hB := bN_lt s d h
  have hr := r.isLt
  have hh := h.isLt
  iapply (ld2 (d := d) (m := accM) (h := 64) (w := 256) ho (PP X W d) (fun x y => PP X W d (256 * r.val + 64 * bN s d h.val + x) (256 * s.val + y)) (by omega) (fun _ _ _ _ => rfl)) $$ H
  iintro H
  iapply (ld3 (d := d) (m := p1sM) (l := 1) (h := 64) (w := 256) (p := s.val) (a := 64 * (2 * r.val + h.val)) (b := 0) rfl (fill (2 * r.val + h.val) (D1 X W d s) A)
    (fun z x y => fill (2 * r.val + h.val) (D1 X W d s) A (s.val + z) (64 * (2 * r.val + h.val) + x) (0 + y)) (by omega) (fun _ _ _ _ _ _ => rfl)) $$ G
  iintro G
  rw [cutP_eq]
  iapply (st3 (d := d) (m := p1sM) (l := 1) (h := 64) (w := 256) (p := s.val) (a := 64 * (2 * r.val + h.val)) (b := 0) rfl (fill (2 * r.val + h.val) (D1 X W d s) A) (fill (2 * r.val + h.val + 1) (D1 X W d s) A)
    (fun _ x y => tr (PP X W d (256 * r.val + 64 * bN s d h.val + x) (256 * s.val + y))) (by omega)
    (fun z x y _ hx hy => by
      unfold fill D1
      rw [if_pos (by omega)]
      have e1 : (64 * (2 * r.val + h.val) + x) / 128 = r.val := by omega
      have e2 : (64 * (2 * r.val + h.val) + x) / 64 % 2 = h.val := by omega
      have e3 : (64 * (2 * r.val + h.val) + x) % 64 = x := by omega
      rw [e1, e2, e3, Nat.zero_add])
    (fun z x y _ _ _ _ _ _ hn => by
      unfold fill
      by_cases hx : x < 64 * (2 * r.val + h.val)
      · rw [if_pos (by omega), if_pos hx]
      · rw [if_neg (by omega), if_neg hx])) $$ G
  iintro G
  iapply Hk
  isplitl [H] <;> iassumption

theorem wp_p1G (s : Fin 3) (r : Fin 4) (A : ℕ → ℕ → ℕ → F .bf16) {Q : PUnit → sProp 𝕄} :
    iprop(own d accM (accB s.val) (c2 (PP X W d)) ∗ own d p1sM (bx3 s.val 1 0 512 0 256) (c3 (fill (2 * r.val) (D1 X W d s) A)))
      ⊢ iprop(((own d accM (accB s.val) (c2 (PP X W d)) ∗ own d p1sM (bx3 s.val 1 0 512 0 256) (c3 (fill (2 * (r.val + 1)) (D1 X W d s) A))) -∗ Q ⟨⟩)
        -∗ WP d (p1G s d r) Q) := by
  unfold p1G
  simp only [wp_bind]
  iintro H Hk
  iapply (wp_p1F X W s r 0 A (offLo_eq s d r)) $$ H
  iintro H
  iapply (wp_p1F X W s r 1 A (offHi_eq s d r)) $$ H
  iexact Hk

/-- The accumulator's strip, its first `k` row groups added to. -/
def updA (s : Fin 3) (d : Dev nD) (k r c : ℕ) : F .f32 := if r < 256 * k then A1 X W d s r c else PP X W d r c

theorem wp_upd (s : Fin 3) (r : Fin 4) {Q : PUnit → sProp 𝕄} :
    iprop(own d accM (accB s.val) (c2 (updA X W s d r.val)) ∗ own d p1rM (bx3 s.val 1 0 512 0 256) (c3 fun _ r c => D1 X W (peer1 s d) s r c))
      ⊢ iprop(((own d accM (accB s.val) (c2 (updA X W s d (r.val + 1))) ∗ own d p1rM (bx3 s.val 1 0 512 0 256) (c3 fun _ r c => D1 X W (peer1 s d) s r c)) -∗ Q ⟨⟩)
        -∗ WP d (upd s d r) Q) := by
  unfold upd
  simp only [wp_bind]
  iintro ⟨H, G⟩ Hk
  have hB := cN_lt d
  have hr := r.isLt
  have hu := uN_le s d
  iapply (ld2 (d := d) (m := accM) (h := 64) (w := 256) (offU_eq s d r) (updA X W s d r.val) (fun x y => PP X W d (256 * r.val + 64 * cN d + x) (256 * s.val + y)) (by omega)
    (fun x y _ _ => by unfold updA; rw [if_neg (by omega)])) $$ H
  iintro H
  iapply (ld3 (d := d) (m := p1rM) (l := 1) (h := 64) (w := 256) (offUr_eq s d r) (fun _ r c => D1 X W (peer1 s d) s r c)
    (fun z x y => D1 X W (peer1 s d) s (128 * r.val + 64 * uN s d + x) y) (by omega) (fun z x y _ _ _ => by rw [Nat.zero_add])) $$ G
  iintro G
  iapply (ld2 (d := d) (m := accM) (h := 64) (w := 256) (offU_eq s d r) (updA X W s d r.val) (fun x y => PP X W d (256 * r.val + 64 * cN d + x) (256 * s.val + y)) (by omega)
    (fun x y _ _ => by unfold updA; rw [if_neg (by omega)])) $$ H
  iintro H
  rw [addP_eq]
  iapply (st2 (d := d) (m := accM) (h := 64) (w := 256) (offU_eq s d r) (updA X W s d r.val) (updA X W s d (r.val + 1))
    (fun x y => ad (PP X W d (256 * r.val + 64 * cN d + x) (256 * s.val + y)) (ex (D1 X W (peer1 s d) s (128 * r.val + 64 * uN s d + x) y))) (by omega)
    (fun x y hx hy => by
      unfold updA A1
      rw [if_pos (by omega), if_pos (by omega)]
      have e1 : (256 * r.val + 64 * cN d + x) / 256 = r.val := by omega
      have e2 : (256 * r.val + 64 * cN d + x) % 64 = x := by omega
      have e3 : (256 * s.val + y) % 256 = y := by omega
      rw [e1, e2, e3])
    (fun x y _ _ _ _ hn => by
      unfold updA
      by_cases hx : x < 256 * r.val
      · rw [if_pos (by omega), if_pos hx]
      · rw [if_neg hx]
        by_cases hx' : x < 256 * (r.val + 1)
        · rw [if_pos hx']
          unfold A1
          rw [if_neg (by omega)]
        · rw [if_neg hx'])) $$ H
  iintro H
  iapply Hk
  isplitl [H] <;> iassumption

theorem wp_fwd (s : Fin 3) (r : Fin 4) (A : ℕ → ℕ → ℕ → F .bf16) {Q : PUnit → sProp 𝕄} :
    iprop(own d accM (accB s.val) (c2 (updA X W s d (r.val + 1))) ∗ own d p1rM (bx3 s.val 1 0 512 0 256) (c3 fun _ r c => D1 X W (peer1 s d) s r c)
        ∗ own d p2sM (bx3 s.val 1 0 256 0 256) (c3 (fill r.val (D2 X W d s) A)))
      ⊢ iprop(((own d accM (accB s.val) (c2 (updA X W s d (r.val + 1))) ∗ own d p1rM (bx3 s.val 1 0 512 0 256) (c3 fun _ r c => D1 X W (peer1 s d) s r c)
        ∗ own d p2sM (bx3 s.val 1 0 256 0 256) (c3 (fill (r.val + 1) (D2 X W d s) A))) -∗ Q ⟨⟩)
        -∗ WP d (fwd s d r) Q) := by
  unfold fwd
  simp only [wp_bind]
  iintro ⟨H, G, E⟩ Hk
  have hB := fN_lt s d
  have hC := cN_lt d
  have hne := fN_ne s d
  have hr := r.isLt
  have hu := uN_le s d
  iapply (ld2 (d := d) (m := accM) (h := 64) (w := 256) (offF_eq s d r) (updA X W s d (r.val + 1)) (fun x y => PP X W d (256 * r.val + 64 * fN s d + x) (256 * s.val + y)) (by omega)
    (fun x y _ _ => by unfold updA A1; rw [if_pos (by omega), if_neg (by omega)])) $$ H
  iintro H
  iapply (ld3 (d := d) (m := p1rM) (l := 1) (h := 64) (w := 256) (offFr_eq s d r) (fun _ r c => D1 X W (peer1 s d) s r c)
    (fun z x y => D1 X W (peer1 s d) s (128 * r.val + 64 * (1 - uN s d) + x) y) (by omega) (fun z x y _ _ _ => by rw [Nat.zero_add])) $$ G
  iintro G
  iapply (ld3 (d := d) (m := p2sM) (l := 1) (h := 64) (w := 256) (p := s.val) (a := 64 * r.val) (b := 0) rfl (fill r.val (D2 X W d s) A)
    (fun z x y => fill r.val (D2 X W d s) A (s.val + z) (64 * r.val + x) (0 + y)) (by omega) (fun _ _ _ _ _ _ => rfl)) $$ E
  iintro E
  rw [fwdP_eq]
  iapply (st3 (d := d) (m := p2sM) (l := 1) (h := 64) (w := 256) (p := s.val) (a := 64 * r.val) (b := 0) rfl (fill r.val (D2 X W d s) A) (fill (r.val + 1) (D2 X W d s) A)
    (fun _ x y => tr (ad (PP X W d (256 * r.val + 64 * fN s d + x) (256 * s.val + y)) (ex (D1 X W (peer1 s d) s (128 * r.val + 64 * (1 - uN s d) + x) y)))) (by omega)
    (fun z x y _ hx hy => by
      unfold fill D2
      rw [if_pos (by omega)]
      have e1 : (64 * r.val + x) / 64 = r.val := by omega
      have e2 : (64 * r.val + x) % 64 = x := by omega
      rw [e1, e2, Nat.zero_add])
    (fun z x y _ _ _ _ _ _ hn => by
      unfold fill
      by_cases hx : x < 64 * r.val
      · rw [if_pos (by omega), if_pos hx]
      · rw [if_neg (by omega), if_neg hx])) $$ E
  iintro E
  iapply Hk
  isplitl [H]; · iexact H
  isplitl [G] <;> iassumption

theorem wp_uf (s : Fin 3) (r : Fin 4) (A : ℕ → ℕ → ℕ → F .bf16) {Q : PUnit → sProp 𝕄} :
    iprop(own d accM (accB s.val) (c2 (updA X W s d r.val)) ∗ own d p1rM (bx3 s.val 1 0 512 0 256) (c3 fun _ r c => D1 X W (peer1 s d) s r c)
        ∗ own d p2sM (bx3 s.val 1 0 256 0 256) (c3 (fill r.val (D2 X W d s) A)))
      ⊢ iprop(((own d accM (accB s.val) (c2 (updA X W s d (r.val + 1))) ∗ own d p1rM (bx3 s.val 1 0 512 0 256) (c3 fun _ r c => D1 X W (peer1 s d) s r c)
        ∗ own d p2sM (bx3 s.val 1 0 256 0 256) (c3 (fill (r.val + 1) (D2 X W d s) A))) -∗ Q ⟨⟩)
        -∗ WP d (uf s d r) Q) := by
  unfold uf
  simp only [wp_bind]
  iintro ⟨H, G, E⟩ Hk
  iapply (wp_upd X W s r) $$ [H G]
  · isplitl [H] <;> iassumption
  iintro ⟨H, G⟩
  iapply (wp_fwd X W s r A) $$ [H G E]
  · isplitl [H]; · iexact H
    isplitl [G] <;> iassumption
  iexact Hk

/-- The first `k` planes' blocks written, the rest as they were. -/
def fillZ (k : ℕ) (B : ℕ → ℕ → ℕ → F .bf16) (A : ℕ → ℕ → ℕ → F .bf16) (z i c : ℕ) : F .bf16 := if z < k then B z i (c % 256) else A z i c

omit [FloatOps F] in
theorem fillZ_zero (B : ℕ → ℕ → ℕ → F .bf16) (A : ℕ → ℕ → ℕ → F .bf16) : fillZ 0 B A = A := by
  funext z x y; unfold fillZ; rw [if_neg (by omega)]

theorem wp_zF (s : Fin 3) (r : Fin 4) (A : ℕ → ℕ → ℕ → F .bf16) {Q : PUnit → sProp 𝕄} :
    iprop(own d accM (accB s.val) (c2 (A1 X W d s)) ∗ own d p2rM (bx3 s.val 1 0 256 0 256) (c3 fun _ r c => D2 X W (peer2 s d) s r c)
        ∗ own d zfM (bx3 0 4 0 64 (256 * s.val) 256) (c3 (fillZ r.val (DZ X W d s) A)))
      ⊢ iprop(((own d accM (accB s.val) (c2 (A1 X W d s)) ∗ own d p2rM (bx3 s.val 1 0 256 0 256) (c3 fun _ r c => D2 X W (peer2 s d) s r c)
        ∗ own d zfM (bx3 0 4 0 64 (256 * s.val) 256) (c3 (fillZ (r.val + 1) (DZ X W d s) A))) -∗ Q ⟨⟩)
        -∗ WP d (zF s d r) Q) := by
  unfold zF
  simp only [wp_bind]
  iintro ⟨H, G, E⟩ Hk
  have hC := cN_lt d
  have hr := r.isLt
  have hs := s.isLt
  iapply (ld2 (d := d) (m := accM) (h := 64) (w := 256) (offZ_eq s d r) (A1 X W d s) (fun x y => A1 X W d s (256 * r.val + 64 * cN d + x) (256 * s.val + y)) (by omega) (fun _ _ _ _ => rfl)) $$ H
  iintro H
  iapply (ld3 (d := d) (m := p2rM) (l := 1) (h := 64) (w := 256) (p := s.val) (a := 64 * r.val) (b := 0) rfl (fun _ r c => D2 X W (peer2 s d) s r c)
    (fun z x y => D2 X W (peer2 s d) s (64 * r.val + x) y) (by omega) (fun z x y _ _ _ => by rw [Nat.zero_add])) $$ G
  iintro G
  iapply (ld3 (d := d) (m := zfM) (l := 1) (h := 64) (w := 256) (p := r.val) (a := 0) (b := 256 * s.val) rfl (fillZ r.val (DZ X W d s) A)
    (fun z x y => fillZ r.val (DZ X W d s) A (r.val + z) (0 + x) (256 * s.val + y)) (by omega) (fun _ _ _ _ _ _ => rfl)) $$ E
  iintro E
  rw [fwdP_eq]
  iapply (st3 (d := d) (m := zfM) (l := 1) (h := 64) (w := 256) (p := r.val) (a := 0) (b := 256 * s.val) rfl (fillZ r.val (DZ X W d s) A) (fillZ (r.val + 1) (DZ X W d s) A)
    (fun _ x y => tr (ad (A1 X W d s (256 * r.val + 64 * cN d + x) (256 * s.val + y)) (ex (D2 X W (peer2 s d) s (64 * r.val + x) y)))) (by omega)
    (fun z x y hz hx hy => by
      unfold fillZ DZ
      rw [if_pos (by omega)]
      have e1 : r.val + z = r.val := by omega
      have e2 : (256 * s.val + y) % 256 = y := by omega
      rw [e1, e2, Nat.zero_add])
    (fun z x y _ _ _ _ _ _ hn => by
      unfold fillZ
      by_cases hx : z < r.val
      · rw [if_pos (by omega), if_pos hx]
      · rw [if_neg (by omega), if_neg hx])) $$ E
  iintro E
  iapply Hk
  isplitl [H]; · iexact H
  isplitl [G] <;> iassumption

/-! ## The last strip -/

/-- The accumulator's last strip after the sum over planes. -/
def accC (d : Dev nD) (r c : ℕ) : F .f32 := if 256 * zN d ≤ r ∧ r < 256 * zN d + 256 then C1 X W d (r - 256 * zN d) (c - 768) else PP X W d r c
/-- After the exchange within the plane. -/
def accD (d : Dev nD) (r c : ℕ) : F .f32 :=
  if 256 * zN d + 64 * cN d ≤ r ∧ r < 256 * zN d + 64 * cN d + 64 then C2 X W d (r - (256 * zN d + 64 * cN d)) (c - 768) else accC X W d r c

abbrev czrO (d : Dev nD) (k : Fin 3) : sProp 𝕄 := own d czrM (bx3 k.val 1 0 256 0 256) (c3 fun _ i c => DC X W (pz d k) (zN d) i c)

theorem wp_ldC (k : Fin 3) {Q : Vec F S1x256x256 .bf16 → sProp 𝕄} :
    czrO X W d k ⊢ iprop((czrO X W d k -∗ Q (c3 fun _ i c => DC X W (pz d k) (zN d) i c)) -∗ WP d (ldC (F := F) k) Q) :=
  ld3 (d := d) (m := czrM) (l := 1) (h := 256) (w := 256) (p := k.val) (a := 0) (b := 0) rfl (fun _ i c => DC X W (pz d k) (zN d) i c)
    (fun _ i c => DC X W (pz d k) (zN d) i c) (by omega) (fun z x y _ _ _ => by rw [Nat.zero_add, Nat.zero_add])

theorem wp_czAdd {Q : PUnit → sProp 𝕄} :
    iprop(own d accM (accB 3) (c2 (PP X W d)) ∗ czrO X W d 0 ∗ czrO X W d 1 ∗ czrO X W d 2)
      ⊢ iprop(((own d accM (accB 3) (c2 (accC X W d)) ∗ czrO X W d 0 ∗ czrO X W d 1 ∗ czrO X W d 2) -∗ Q ⟨⟩) -∗ WP d (czAdd d) Q) := by
  unfold czAdd
  simp only [wp_bind]
  iintro ⟨H, G0, G1, G2⟩ Hk
  have hz := zN_lt d
  iapply (ld2 (d := d) (m := accM) (h := 256) (w := 256) (off22_eq d) (PP X W d) (fun x y => PP X W d (256 * zN d + x) (768 + y)) (by omega) (fun _ _ _ _ => rfl)) $$ H
  iintro H
  iapply (wp_ldC X W 0) $$ G0; iintro G0
  iapply (wp_ldC X W 1) $$ G1; iintro G1
  iapply (wp_ldC X W 2) $$ G2; iintro G2
  iapply (ld2 (d := d) (m := accM) (h := 256) (w := 256) (off22_eq d) (PP X W d) (fun x y => PP X W d (256 * zN d + x) (768 + y)) (by omega) (fun _ _ _ _ => rfl)) $$ H
  iintro H
  rw [czAddP_eq]
  iapply (st2 (d := d) (m := accM) (h := 256) (w := 256) (off22_eq d) (PP X W d) (accC X W d)
    (fun x y => ad (ad (ad (PP X W d (256 * zN d + x) (768 + y)) (ex (DC X W (pz d 0) (zN d) x y))) (ex (DC X W (pz d 1) (zN d) x y))) (ex (DC X W (pz d 2) (zN d) x y))) (by omega)
    (fun x y hx hy => by
      unfold accC C1
      rw [if_pos (by omega), Nat.add_sub_cancel_left, Nat.add_sub_cancel_left])
    (fun x y _ _ _ _ hn => by unfold accC; rw [if_neg (by omega)])) $$ H
  iintro H
  iapply Hk
  isplitl [H]; · iexact H
  isplitl [G0]; · iexact G0
  isplitl [G1] <;> iassumption

theorem wp_c1F (h : Fin 2) (A : ℕ → ℕ → F .bf16) {off : Fin 2 → ℕ} (ho : off = ![256 * zN d + 64 * bN 1 d h.val, 768])
    {hb : ∀ a, off a + S64x256.size a ≤ S1024x1024.size a} {Q : PUnit → sProp 𝕄} :
    iprop(own d accM (accB 3) (c2 (accC X W d)) ∗ own d c1sM (bx2 0 128 0 256) (c2 (fill h.val (D3 X W d) (fun _ => A) 0)))
      ⊢ iprop(((own d accM (accB 3) (c2 (accC X W d)) ∗ own d c1sM (bx2 0 128 0 256) (c2 (fill (h.val + 1) (D3 X W d) (fun _ => A) 0))) -∗ Q ⟨⟩)
        -∗ WP d (c1F h off hb) Q) := by
  unfold c1F
  simp only [wp_bind]
  iintro ⟨H, G⟩ Hk
  have hB := bN_lt 1 d h
  have hz := zN_lt d
  have hh := h.isLt
  iapply (ld2 (d := d) (m := accM) (h := 64) (w := 256) ho (accC X W d) (fun x y => C1 X W d (64 * bN 1 d h.val + x) y) (by omega)
    (fun x y _ _ => by
      unfold accC
      rw [if_pos (by omega), show 256 * zN d + 64 * bN 1 d h.val + x - 256 * zN d = 64 * bN 1 d h.val + x by omega, Nat.add_sub_cancel_left])) $$ H
  iintro H
  iapply (ld2 (d := d) (m := c1sM) (h := 64) (w := 256) (a := 64 * h.val) (b := 0) rfl (fill h.val (D3 X W d) (fun _ => A) 0)
    (fun x y => fill h.val (D3 X W d) (fun _ => A) 0 (64 * h.val + x) (0 + y)) (by omega) (fun _ _ _ _ => rfl)) $$ G
  iintro G
  rw [cut2P_eq]
  iapply (st2 (d := d) (m := c1sM) (h := 64) (w := 256) (a := 64 * h.val) (b := 0) rfl (fill h.val (D3 X W d) (fun _ => A) 0) (fill (h.val + 1) (D3 X W d) (fun _ => A) 0)
    (fun x y => tr (C1 X W d (64 * bN 1 d h.val + x) y)) (by omega)
    (fun x y hx hy => by
      unfold fill D3
      rw [if_pos (by omega)]
      have e1 : (64 * h.val + x) / 64 = h.val := by omega
      have e2 : (64 * h.val + x) % 64 = x := by omega
      rw [e1, e2, Nat.zero_add])
    (fun x y _ _ _ _ hn => by
      unfold fill
      by_cases hx : x < 64 * h.val
      · rw [if_pos (by omega), if_pos hx]
      · rw [if_neg (by omega), if_neg hx])) $$ G
  iintro G
  iapply Hk
  isplitl [H] <;> iassumption

abbrev c1rO (d : Dev nD) : sProp 𝕄 := own d c1rM (bx2 0 128 0 256) (c2 (D3 X W (py d)))

theorem wp_c1Add {Q : PUnit → sProp 𝕄} :
    iprop(own d accM (accB 3) (c2 (accC X W d)) ∗ c1rO X W d)
      ⊢ iprop(((own d accM (accB 3) (c2 (accD X W d)) ∗ c1rO X W d) -∗ Q ⟨⟩) -∗ WP d (c1Add d) Q) := by
  unfold c1Add
  simp only [wp_bind]
  iintro ⟨H, G⟩ Hk
  have hz := zN_lt d
  have hc := cN_lt d
  have hu := uN_le 1 d
  have hrd : ∀ x y, x < 64 → y < 256 → accC X W d (256 * zN d + 64 * cN d + x) (768 + y) = C1 X W d (64 * cN d + x) y := fun x y _ _ => by
    unfold accC
    rw [if_pos (by omega), show 256 * zN d + 64 * cN d + x - 256 * zN d = 64 * cN d + x by omega, Nat.add_sub_cancel_left]
  iapply (ld2 (d := d) (m := accM) (h := 64) (w := 256) (off35_eq d) (accC X W d) (fun x y => C1 X W d (64 * cN d + x) y) (by omega) hrd) $$ H
  iintro H
  iapply (ld2 (d := d) (m := c1rM) (h := 64) (w := 256) (off36_eq d) (D3 X W (py d)) (fun x y => D3 X W (py d) (64 * uN 1 d + x) y) (by omega)
    (fun x y _ _ => by rw [Nat.zero_add])) $$ G
  iintro G
  iapply (ld2 (d := d) (m := accM) (h := 64) (w := 256) (off35_eq d) (accC X W d) (fun x y => C1 X W d (64 * cN d + x) y) (by omega) hrd) $$ H
  iintro H
  rw [c1P_eq]
  iapply (st2 (d := d) (m := accM) (h := 64) (w := 256) (off35_eq d) (accC X W d) (accD X W d)
    (fun x y => ad (C1 X W d (64 * cN d + x) y) (ex (D3 X W (py d) (64 * uN 1 d + x) y))) (by omega)
    (fun x y hx hy => by
      unfold accD C2
      rw [if_pos (by omega), Nat.add_sub_cancel_left, Nat.add_sub_cancel_left])
    (fun x y _ _ _ _ hn => by unfold accD; rw [if_neg (by omega)])) $$ H
  iintro H
  iapply Hk
  isplitl [H] <;> iassumption

theorem wp_c2F {Q : PUnit → sProp 𝕄} :
    iprop(own d accM (accB 3) (c2 (accD X W d)) ∗ c1rO X W d ∗ ownA d c2sM (bx2 0 64 0 256))
      ⊢ iprop(((own d accM (accB 3) (c2 (accD X W d)) ∗ c1rO X W d ∗ own d c2sM (bx2 0 64 0 256) (c2 (D4 X W d))) -∗ Q ⟨⟩) -∗ WP d (c2F d) Q) := by
  unfold c2F
  simp only [wp_bind]
  iintro ⟨H, G, E⟩ Hk
  ihave E := (ownA_c2 (n := 64) (n' := 256) (by decide) (by decide)) $$ E
  icases E with ⟨%A, E⟩
  have hz := zN_lt d
  have hc := cN_lt d
  have hf := fN_lt 1 d
  have hne := fN_ne 1 d
  have hu := uN_le 1 d
  iapply (ld2 (d := d) (m := accM) (h := 64) (w := 256) (off37_eq d) (accD X W d) (fun x y => C1 X W d (64 * fN 1 d + x) y) (by omega)
    (fun x y _ _ => by
      unfold accD accC
      rw [if_neg (by omega), if_pos (by omega), show 256 * zN d + 64 * fN 1 d + x - 256 * zN d = 64 * fN 1 d + x by omega, Nat.add_sub_cancel_left])) $$ H
  iintro H
  iapply (ld2 (d := d) (m := c1rM) (h := 64) (w := 256) (off38_eq d) (D3 X W (py d)) (fun x y => D3 X W (py d) (64 * (1 - uN 1 d) + x) y) (by omega)
    (fun x y _ _ => by rw [Nat.zero_add])) $$ G
  iintro G
  iapply (ld2 (d := d) (m := c2sM) (h := 64) (w := 256) (a := 0) (b := 0) rfl A (fun x y => A (0 + x) (0 + y)) (by omega) (fun _ _ _ _ => rfl)) $$ E
  iintro E
  rw [c2P_eq]
  iapply (st2 (d := d) (m := c2sM) (h := 64) (w := 256) (a := 0) (b := 0) rfl A (D4 X W d)
    (fun x y => tr (ad (C1 X W d (64 * fN 1 d + x) y) (ex (D3 X W (py d) (64 * (1 - uN 1 d) + x) y)))) (by omega)
    (fun x y hx hy => by rw [Nat.zero_add, Nat.zero_add]; rfl)
    (fun x y _ _ _ _ hn => by omega)) $$ E
  iintro E
  iapply Hk
  isplitl [H]; · iexact H
  isplitl [G] <;> iassumption

/-! ## The result -/

theorem wp_stO (s : Fin 4) (V : ℕ → ℕ → F .f32) (h : ∀ x y, x < 64 → y < 256 → OUT X W d x (256 * s.val + y) = V x y) {Q : PUnit → sProp 𝕄} :
    ownA d oM (bx2 0 64 (256 * s.val) 256)
      ⊢ iprop((own d oM (bx2 0 64 (256 * s.val) 256) (c2 (OUT X W d)) -∗ Q ⟨⟩) -∗ WP d (stO s (c2 V)) Q) := by
  unfold stO
  simp only [wp_bind]
  iintro E Hk
  ihave E := (ownA_c2 (n := 64) (n' := 1024) (by decide) (by decide)) $$ E
  icases E with ⟨%A, E⟩
  iapply (ld2 (d := d) (m := oM) (h := 64) (w := 256) (a := 0) (b := 256 * s.val) rfl A (fun x y => A (0 + x) (256 * s.val + y)) (by omega) (fun _ _ _ _ => rfl)) $$ E
  iintro E
  iapply (st2 (d := d) (m := oM) (h := 64) (w := 256) (a := 0) (b := 256 * s.val) rfl A (OUT X W d) V (by omega)
    (fun x y hx hy => by rw [Nat.zero_add]; exact h x y hx hy)
    (fun x y _ _ _ _ hn => by omega)) $$ E
  iexact Hk

abbrev c2rO (d : Dev nD) : sProp 𝕄 := own d c2rM (bx2 0 64 0 256) (c2 (D4 X W (px d)))

theorem wp_outC {Q : PUnit → sProp 𝕄} :
    iprop(own d accM (accB 3) (c2 (accD X W d)) ∗ c2rO X W d ∗ ownA d oM (bx2 0 64 768 256))
      ⊢ iprop(((own d accM (accB 3) (c2 (accD X W d)) ∗ c2rO X W d ∗ own d oM (bx2 0 64 768 256) (c2 (OUT X W d))) -∗ Q ⟨⟩) -∗ WP d (outC d) Q) := by
  unfold outC
  simp only [wp_bind]
  iintro ⟨H, G, E⟩ Hk
  have hz := zN_lt d
  have hc := cN_lt d
  iapply (ld2 (d := d) (m := accM) (h := 64) (w := 256) (off35_eq d) (accD X W d) (fun x y => C2 X W d x y) (by omega)
    (fun x y _ _ => by
      unfold accD
      rw [if_pos (by omega), Nat.add_sub_cancel_left, Nat.add_sub_cancel_left])) $$ H
  iintro H
  iapply (ld2 (d := d) (m := c2rM) (h := 64) (w := 256) (a := 0) (b := 0) rfl (D4 X W (px d)) (fun x y => D4 X W (px d) x y) (by omega)
    (fun x y _ _ => by rw [Nat.zero_add, Nat.zero_add])) $$ G
  iintro G
  rw [outCP_eq]
  iapply (wp_stO X W 3 (fun x y => gl (ad (C2 X W d x y) (ex (D4 X W (px d) x y)))) (fun x y hx hy => by
    unfold OUT OC
    rw [if_neg (by show ¬ (256 * 3 + y < 768); omega), show (256 * (3 : Fin 4).val + y) % 256 = y by show (256 * 3 + y) % 256 = y; omega])) $$ E
  iintro E
  iapply Hk
  isplitl [H]; · iexact H
  isplitl [G] <;> iassumption

end Steps

end Cert.KernelIdeal.Tile
-- ==== Proof.Xfers.lean ====
module

public import proofs.«01_k».proof.Proof.Steps

@[expose] public section

set_option synthInstance.maxSize 4096
set_option maxRecDepth 4000

/-! # The copies of the body, each by its name -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores by name -/

theorem p1_s : ∀ s, sm3 cc0_scratch13 s = sIx (.p1 s) := by decide +kernel
theorem p1_r : ∀ s, sm3 cc0_scratch14 s = rIx (.p1 s) := by decide +kernel
theorem p2_s : ∀ s, sm3 cc0_scratch15 s = sIx (.p2 s) := by decide +kernel
theorem p2_r : ∀ s, sm3 cc0_scratch16 s = rIx (.p2 s) := by decide +kernel
theorem z_s : ∀ k s, sm9 cc0_scratch17 k s = sIx (.z k s) := by decide +kernel
theorem z_r : ∀ k s, sm9 cc0_scratch18 k s = rIx (.z k s) := by decide +kernel
theorem z_d : ∀ s d k, smZ s d k = rIx (.z (slot d k) s) := by decide +kernel
theorem cz_s : ∀ k, sm3 cc0_scratch19 k = sIx (.cz k) := by decide +kernel
theorem cz_r : ∀ k, sm3 cc0_scratch20 k = rIx (.cz k) := by decide +kernel
theorem cz_d : ∀ d k, smC d k = rIx (.cz (slot d k)) := by decide +kernel
theorem c1_s : sm1 cc0_scratch21 = sIx .c1 := by decide +kernel
theorem c1_r : sm1 cc0_scratch22 = rIx .c1 := by decide +kernel
theorem c2_s : sm1 cc0_scratch23 = sIx .c2 := by decide +kernel
theorem c2_r : sm1 cc0_scratch24 = rIx .c2 := by decide +kernel

theorem pz_pz : ∀ (d : Dev nD) (k : Fin 3), pz (pz d k) (slot d k) = d := by decide +kernel
theorem zN_pz : ∀ (d : Dev nD) (k : Fin 3), zN (pz d k) = zdN d k := by decide +kernel
theorem peer1_peer1 : ∀ (s : Fin 3) (d : Dev nD), peer1 s (peer1 s d) = d := by decide +kernel
theorem peer2_peer2 : ∀ (s : Fin 3) (d : Dev nD), peer2 s (peer2 s d) = d := by decide +kernel
theorem py_py : ∀ d : Dev nD, py (py d) = d := by decide +kernel
theorem px_px : ∀ d : Dev nD, px (px d) = d := by decide +kernel

theorem bx2_univ {n m : ℕ} : (bx2 0 n 0 m : Finset (S2 n m).Idx) = Finset.univ := by
  ext i; rw [mem_bx2]
  have h0 : (i 0).val < n := (i 0).isLt
  have h1 : (i 1).val < m := (i 1).isLt
  simp only [Finset.mem_univ, iff_true]; omega
theorem bx3_univ {k n m : ℕ} : (bx3 0 k 0 n 0 m : Finset (S3 k n m).Idx) = Finset.univ := by
  ext i; rw [mem_bx3]
  have h0 : (i 0).val < k := (i 0).isLt
  have h1 : (i 1).val < n := (i 1).isLt
  have h2 : (i 2).val < m := (i 2).isLt
  simp only [Finset.mem_univ, iff_true]; omega

theorem credit_sq {s s' : Shape} {e : EltTy} {m : Memref sig .tc .vmem s e} {r r' : Rect s} {hr : ∀ a, r.stride a = 1} {hr' : ∀ a, r'.stride a = 1}
    {q : r.shape.Squeezes s'} {q' : r'.shape.Squeezes s'} :
    ((m.slice r hr).squeeze s' q).view.dmaCredit = ((m.slice r' hr').squeeze s' q').view.dmaCredit := rfl

section Xfers

variable (X : Dev nD → Vec F S1024x64 .bf16) (W : Dev nD → Vec F S64x1024 .bf16) (K : Dev nD × Cx → ℕ)

/-! ## The tokens of a copy -/

/-- What issuing a copy takes, and waiting for its end. -/
def Gs (d : Dev nD) (t : Tr) : sProp 𝕄 :=
  iprop(atPos ER (cell d (.snd t)) 0 ∅ 0 ∗ dutyTok ER (cell d (.snd t)) 0 0 ∗ dutyTok ER (cell (peerT d t) (.rcv (mateT d t))) 0 0)
/-- What waiting for an arrival takes. -/
def Gr (d : Dev nD) (t : Tr) : sProp 𝕄 := iprop(atPos ER (cell d (.rcv t)) 0 ∅ 0 ∗ cred (tallyAt (cell d (.rcv t)) () (amt t)))
/-- A copy under way. -/
def Sent (d : Dev nD) (t : Tr) : sProp 𝕄 := iprop(atPos ER (cell d (.snd t)) 0 ∅ 0 ∗ cred (tallyAt (cell d (.snd t)) () (amt t)))
/-- A copy's two cells closed and its buffers back. -/
def DnS (d : Dev nD) (t : Tr) : sProp 𝕄 := iprop(semVal (cell d (.snd t)) 0 ∗ sPay d t)
def DnR (d : Dev nD) (t : Tr) : sProp 𝕄 := iprop(semVal (cell d (.rcv t)) 0 ∗ land d t)

variable {d : Dev nD}

section Gen

variable {s : Shape} {sm rm : DmaSem sig} {src dst : Memref sig .tc .vmem s .bf16} {n : Dev nD} {h1 : src.view.WordExact} {h2 : dst.view.WordExact}

theorem wp_snd (t : Tr) (l : List Du) (P : sProp 𝕄) (f : s.Idx → Elt F .bf16) (hn : n = peerT d t) (hsm : sm = sIx t) (hrm : rm = rIx (mateT d t))
    (ha : dst.view.dmaCredit = amt t)
    (hp0 : P ⊢ own d src Finset.univ f)
    (hp1 : (own d src Finset.univ f : sProp 𝕄) ⊢ sPay d t)
    (hp2 : (own (peerT d t) dst Finset.univ f : sProp 𝕄) ⊢ rPay X W (peerT d t) (mateT d t))
    (hp3 : (land (peerT d t) (mateT d t) : sProp 𝕄) ⊢ ownA (peerT d t) dst Finset.univ) {Q : PUnit → sProp 𝕄} :
    iprop(Recs X W K ∗ Ow d (.cp t :: l) ∗ Gs d t ∗ lnd d t ∗ P)
      ⊢ iprop(((Ow d l ∗ Sent d t) -∗ Q ⟨⟩) -∗ WP (F := F) d (sndT sm rm src dst n h1 h2) Q) := by
  unfold Gs lnd Sent
  iintro ⟨#HR, HO, ⟨Ha, Ht1, Ht2⟩, HL, HP⟩ Hk
  ihave HP := hp0 $$ HP
  ihave HL := hp3 $$ HL
  iapply (wp_send X W K t l f hn hsm hrm ha hp1 hp2) $$ [HO Ht1 Ht2 HL HP]
  · isplitr; · iexact HR
    isplitl [HO]; · iexact HO
    isplitl [Ht1]; · iexact Ht1
    isplitl [Ht2]; · iexact Ht2
    isplitl [HP] <;> iassumption
  iintro ⟨HO, Hc⟩
  iapply Hk
  isplitl [HO]; · iexact HO
  isplitl [Ha] <;> iassumption

theorem wp_ws (t : Tr) (l : List Du) (hsm : sm = sIx t) (ha : dst.view.dmaCredit = amt t) (hl : ∀ x ∈ l, 0 < lvD x) {Q : PUnit → sProp 𝕄} :
    iprop(Recs X W K ∗ Ow d l ∗ Sent d t) ⊢ iprop(((Ow d l ∗ DnS d t) -∗ Q ⟨⟩) -∗ WP (F := F) d (wtT sm src dst h1 h2) Q) := by
  unfold Sent DnS
  iintro ⟨#HR, HO, Ha, Hc⟩
  iapply (wp_waitS X W K t l hsm ha hl)
  isplitr; · iexact HR
  isplitl [HO]; · iexact HO
  isplitl [Hc] <;> iassumption

theorem wp_wr (t : Tr) (l : List Du) (hsm : sm = rIx t) (ha : dst.view.dmaCredit = amt t) (hl : ∀ x ∈ l, lvC (.rcv t) < lvD x) {Q : PUnit → sProp 𝕄} :
    iprop(Recs X W K ∗ Ow d l ∗ Gr d t) ⊢ iprop(((Ow d l ∗ semVal (cell d (.rcv t)) 0 ∗ rPay X W d t) -∗ Q ⟨⟩) -∗ WP (F := F) d (wtT sm src dst h1 h2) Q) := by
  unfold Gr
  iintro ⟨#HR, HO, Ha, Hc⟩
  iapply (wp_waitR X W K t l hsm ha hl)
  isplitr; · iexact HR
  isplitl [HO]; · iexact HO
  isplitl [Hc] <;> iassumption

end Gen

/-! ## The copies leaving -/

theorem wp_p1Snd (s : Fin 3) (l : List Du) {Q : PUnit → sProp 𝕄} :
    iprop(Recs X W K ∗ Ow d (.cp (.p1 s) :: l) ∗ Gs d (.p1 s) ∗ lnd d (.p1 s) ∗ own d p1sM (bx3 s.val 1 0 512 0 256) (c3 fun _ r c => D1 X W d s r c))
      ⊢ iprop(((Ow d l ∗ Sent d (.p1 s)) -∗ Q ⟨⟩) -∗ WP (F := F) d (p1Snd s d) Q) :=
  wp_snd X W K (src := p1sV s) (dst := p1rV s) (.p1 s) l _ (c2 fun i j => D1 X W d s (0 + i) (0 + j)) (dev1_eq s d) (p1_s s) (p1_r s) credit_sq
    (to_sq (d := d) (e := .bf16) (k := 3) (n := 512) (n' := 256) rfl (fun _ r c => D1 X W d s r c))
    (by show _ ⊢ ownA d _ _; exact (of_sq (d := d) (e := .bf16) (k := 3) (n := 512) (n' := 256) rfl (fun _ r c => D1 X W d s r c)).trans own_weaken)
    (by
      show _ ⊢ own (peer1 s d) p1rM (bx3 s.val 1 0 512 0 256) (c3 fun _ r c => D1 X W (peer1 s (peer1 s d)) s r c)
      rw [peer1_peer1]
      exact of_sq (e := .bf16) (k := 3) (n := 512) (n' := 256) rfl (fun _ r c => D1 X W d s r c))
    (by show ownA _ _ _ ⊢ _; exact toA_sq (e := .bf16) (k := 3) (n := 512) (n' := 256) rfl (by decide) (by decide) (by decide))

theorem wp_p2Snd (s : Fin 3) (l : List Du) {Q : PUnit → sProp 𝕄} :
    iprop(Recs X W K ∗ Ow d (.cp (.p2 s) :: l) ∗ Gs d (.p2 s) ∗ lnd d (.p2 s) ∗ own d p2sM (bx3 s.val 1 0 256 0 256) (c3 fun _ r c => D2 X W d s r c))
      ⊢ iprop(((Ow d l ∗ Sent d (.p2 s)) -∗ Q ⟨⟩) -∗ WP (F := F) d (p2Snd s d) Q) :=
  wp_snd X W K (src := p2sV s) (dst := p2rV s) (.p2 s) l _ (c2 fun i j => D2 X W d s (0 + i) (0 + j)) (dev2_eq s d) (p2_s s) (p2_r s) credit_sq
    (to_sq (d := d) (e := .bf16) (k := 3) (n := 256) (n' := 256) rfl (fun _ r c => D2 X W d s r c))
    (by show _ ⊢ ownA d _ _; exact (of_sq (d := d) (e := .bf16) (k := 3) (n := 256) (n' := 256) rfl (fun _ r c => D2 X W d s r c)).trans own_weaken)
    (by
      show _ ⊢ own (peer2 s d) p2rM (bx3 s.val 1 0 256 0 256) (c3 fun _ r c => D2 X W (peer2 s (peer2 s d)) s r c)
      rw [peer2_peer2]
      exact of_sq (e := .bf16) (k := 3) (n := 256) (n' := 256) rfl (fun _ r c => D2 X W d s r c))
    (by show ownA _ _ _ ⊢ _; exact toA_sq (e := .bf16) (k := 3) (n := 256) (n' := 256) rfl (by decide) (by decide) (by decide))

theorem wp_czSnd (k : Fin 3) (l : List Du) {Q : PUnit → sProp 𝕄} :
    iprop(Recs X W K ∗ Ow d (.cp (.cz k) :: l) ∗ Gs d (.cz k) ∗ lnd d (.cz k) ∗ own d czsM (bx3 k.val 1 0 256 0 256) (c3 fun _ i c => DC X W d (zdN d k) i c))
      ⊢ iprop(((Ow d l ∗ Sent d (.cz k)) -∗ Q ⟨⟩) -∗ WP (F := F) d (czSnd d k) Q) :=
  wp_snd X W K (src := czsV k) (dst := czdV d k) (.cz k) l _ (c2 fun i j => DC X W d (zdN d k) (0 + i) (0 + j)) (devC_eq d k) (cz_s k) (cz_d d k) credit_sq
    (to_sq (d := d) (e := .bf16) (k := 3) (n := 256) (n' := 256) rfl (fun _ i c => DC X W d (zdN d k) i c))
    (by show _ ⊢ ownA d _ _; exact (of_sq (d := d) (e := .bf16) (k := 3) (n := 256) (n' := 256) rfl (fun _ i c => DC X W d (zdN d k) i c)).trans own_weaken)
    (by
      show _ ⊢ own (pz d k) czrM (bx3 (slot d k).val 1 0 256 0 256) (c3 fun _ i c => DC X W (pz (pz d k) (slot d k)) (zN (pz d k)) i c)
      rw [pz_pz, zN_pz]
      exact of_sq (e := .bf16) (k := 3) (n := 256) (n' := 256) (offCd_eq d k) (fun _ i c => DC X W d (zdN d k) i c))
    (by show ownA _ _ _ ⊢ _; exact toA_sq (e := .bf16) (k := 3) (n := 256) (n' := 256) (offCd_eq d k) (by decide) (by decide) (by decide))

theorem wp_zSnd (s k : Fin 3) (l : List Du) {Q : PUnit → sProp 𝕄} :
    iprop(Recs X W K ∗ Ow d (.cp (.z k s) :: l) ∗ Gs d (.z k s) ∗ lnd d (.z k s) ∗ own d zfM (bx3 (zdN d k) 1 0 64 (256 * s.val) 256) (c3 fun z i c => DZ X W d s z i (c % 256)))
      ⊢ iprop(((Ow d l ∗ Sent d (.z k s)) -∗ Q ⟨⟩) -∗ WP (F := F) d (zSnd s d k) Q) :=
  wp_snd X W K (src := zsV s d k) (dst := zdV s d k) (.z k s) l _ (c2 fun i j => DZ X W d s (zdN d k) (0 + i) ((256 * s.val + j) % 256)) (devZ_eq s d k) (z_s k s) (z_d s d k) credit_sq
    (to_sq (d := d) (e := .bf16) (k := 4) (n := 64) (n' := 768) (offZs_eq s d k) (fun z i c => DZ X W d s z i (c % 256)))
    (by show _ ⊢ ownA d _ _; exact (of_sq (d := d) (e := .bf16) (k := 4) (n := 64) (n' := 768) (offZs_eq s d k) (fun z i c => DZ X W d s z i (c % 256))).trans own_weaken)
    (by
      show _ ⊢ own (pz d k) zrM (bx3 (slot d k).val 1 0 64 (256 * s.val) 256) (c3 fun _ i c => DZ X W (pz (pz d k) (slot d k)) s (zN (pz d k)) i (c % 256))
      rw [pz_pz, zN_pz]
      exact of_sq (e := .bf16) (k := 3) (n := 64) (n' := 768) (offZd_eq s d k) (fun _ i c => DZ X W d s (zdN d k) i (c % 256)))
    (by show ownA _ _ _ ⊢ _; exact toA_sq (e := .bf16) (k := 3) (n := 64) (n' := 768) (offZd_eq s d k) (by decide) (by decide) (by decide))

theorem wp_c1Snd (l : List Du) {Q : PUnit → sProp 𝕄} :
    iprop(Recs X W K ∗ Ow d (.cp .c1 :: l) ∗ Gs d .c1 ∗ lnd d .c1 ∗ own d c1sM (bx2 0 128 0 256) (c2 (D3 X W d)))
      ⊢ iprop(((Ow d l ∗ Sent d .c1) -∗ Q ⟨⟩) -∗ WP (F := F) d (c1Snd d) Q) :=
  wp_snd X W K .c1 l _ (c2 (D3 X W d)) (dev15_eq d) c1_s c1_r rfl
    (by rw [bx2_univ])
    (by show _ ⊢ ownA d c1sM (bx2 0 128 0 256); rw [bx2_univ]; exact own_weaken)
    (by
      show _ ⊢ own (py d) c1rM (bx2 0 128 0 256) (c2 (D3 X W (py (py d))))
      rw [py_py, bx2_univ]; exact BI.Entails.refl _)
    (by show ownA (py d) c1rM (bx2 0 128 0 256) ⊢ _; rw [bx2_univ]; exact BI.Entails.refl _)

theorem wp_c2Snd (l : List Du) {Q : PUnit → sProp 𝕄} :
    iprop(Recs X W K ∗ Ow d (.cp .c2 :: l) ∗ Gs d .c2 ∗ lnd d .c2 ∗ own d c2sM (bx2 0 64 0 256) (c2 (D4 X W d)))
      ⊢ iprop(((Ow d l ∗ Sent d .c2) -∗ Q ⟨⟩) -∗ WP (F := F) d (c2Snd d) Q) :=
  wp_snd X W K .c2 l _ (c2 (D4 X W d)) (dev25_eq d) c2_s c2_r rfl
    (by rw [bx2_univ])
    (by show _ ⊢ ownA d c2sM (bx2 0 64 0 256); rw [bx2_univ]; exact own_weaken)
    (by
      show _ ⊢ own (px d) c2rM (bx2 0 64 0 256) (c2 (D4 X W (px (px d))))
      rw [px_px, bx2_univ]; exact BI.Entails.refl _)
    (by show ownA (px d) c2rM (bx2 0 64 0 256) ⊢ _; rw [bx2_univ]; exact BI.Entails.refl _)

end Xfers

end Cert.KernelIdeal.Tile
-- ==== Proof.Phases.lean ====
module

public import proofs.«01_k».proof.Proof.Xfers

@[expose] public section

set_option synthInstance.maxSize 4096
set_option maxRecDepth 4000

/-! # The phases of a strip, and of the last one -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the waits wait for -/

theorem am_p1s : ∀ s, (p1sV s).view.dmaCredit = amt (.p1 s) := by decide +kernel
theorem am_p1r : ∀ s, (p1rV s).view.dmaCredit = amt (.p1 s) := fun _ => rfl
theorem am_p2s : ∀ s, (p2sV s).view.dmaCredit = amt (.p2 s) := by decide +kernel
theorem am_p2r : ∀ s, (p2rV s).view.dmaCredit = amt (.p2 s) := fun _ => rfl
theorem am_zs : ∀ s d k, (zsV s d k).view.dmaCredit = amt (.z k s) := by decide +kernel
theorem am_zr : ∀ s k, (zrV s k).view.dmaCredit = amt (.z k s) := fun _ _ => rfl
theorem am_czs : ∀ k, (czsV k).view.dmaCredit = amt (.cz k) := by decide +kernel
theorem am_czr : ∀ k, (czrV k).view.dmaCredit = amt (.cz k) := fun _ => rfl
theorem am_c1s : c1sM.view.dmaCredit = amt .c1 := by decide +kernel
theorem am_c1r : c1rM.view.dmaCredit = amt .c1 := rfl
theorem am_c2s : c2sM.view.dmaCredit = amt .c2 := by decide +kernel
theorem am_c2r : c2rM.view.dmaCredit = amt .c2 := rfl

section Phases

variable (X : Dev nD → Vec F S1024x64 .bf16) (W : Dev nD → Vec F S64x1024 .bf16) (K : Dev nD × Cx → ℕ)
variable {d : Dev nD}

omit [FloatOps F] in
theorem rPay_land (t : Tr) [FloatOps F] : (rPay X W d t : sProp 𝕄) ⊢ land d t := by
  cases t <;> exact own_weaken

theorem toLand (t : Tr) {P : sProp 𝕄} (h : rPay X W d t = P) : P ⊢ land d t := h ▸ rPay_land X W t

abbrev zrO (s k : Fin 3) (d : Dev nD) : sProp 𝕄 := own d zrM (bx3 k.val 1 0 64 (256 * s.val) 256) (c3 fun _ i c => DZ X W (pz d k) s (zN d) i (c % 256))

theorem rp_p1 (s : Fin 3) : (rPay X W d (.p1 s) : sProp 𝕄) = own d p1rM (bx3 s.val 1 0 512 0 256) (c3 fun _ r c => D1 X W (peer1 s d) s r c) := rfl
theorem rp_p2 (s : Fin 3) : (rPay X W d (.p2 s) : sProp 𝕄) = own d p2rM (bx3 s.val 1 0 256 0 256) (c3 fun _ r c => D2 X W (peer2 s d) s r c) := rfl
theorem rp_z (k s : Fin 3) : (rPay X W d (.z k s) : sProp 𝕄) = zrO X W s k d := rfl
theorem rp_cz (k : Fin 3) : (rPay X W d (.cz k) : sProp 𝕄) = czrO X W d k := rfl
theorem rp_c1 : (rPay X W d .c1 : sProp 𝕄) = c1rO X W d := rfl
theorem rp_c2 : (rPay X W d .c2 : sProp 𝕄) = c2rO X W d := rfl

theorem wp_wrP (t : Tr) (l : List Du) {P : sProp 𝕄} (hP : rPay X W d t = P) {s : Shape} {sm : DmaSem sig} {src dst : Memref sig .tc .vmem s .bf16}
    {h1 : src.view.WordExact} {h2 : dst.view.WordExact} (hsm : sm = rIx t) (ha : dst.view.dmaCredit = amt t) (hl : ∀ x ∈ l, lvC (.rcv t) < lvD x) {Q : PUnit → sProp 𝕄} :
    iprop(Recs X W K ∗ Ow d l ∗ Gr d t) ⊢ iprop(((Ow d l ∗ semVal (cell d (.rcv t)) 0 ∗ P) -∗ Q ⟨⟩) -∗ WP (F := F) d (wtT sm src dst h1 h2) Q) := by
  subst hP
  exact wp_wr X W K t l hsm ha hl

theorem wp_p1N (s : Fin 3) (r : Fin 4) {n m : ℕ} (hn : 2 * r.val = n) (hm : n + 2 = m) (A : ℕ → ℕ → ℕ → F .bf16) {Q : PUnit → sProp 𝕄} :
    iprop(own d accM (accB s.val) (c2 (PP X W d)) ∗ own d p1sM (bx3 s.val 1 0 512 0 256) (c3 (fill n (D1 X W d s) A)))
      ⊢ iprop(((own d accM (accB s.val) (c2 (PP X W d)) ∗ own d p1sM (bx3 s.val 1 0 512 0 256) (c3 (fill m (D1 X W d s) A))) -∗ Q ⟨⟩)
        -∗ WP d (p1G s d r) Q) := by
  subst hn hm
  exact wp_p1G X W s r A

theorem wp_ufN (s : Fin 3) (r : Fin 4) {n m : ℕ} (hn : r.val = n) (hm : n + 1 = m) (A : ℕ → ℕ → ℕ → F .bf16) {Q : PUnit → sProp 𝕄} :
    iprop(own d accM (accB s.val) (c2 (updA X W s d n)) ∗ own d p1rM (bx3 s.val 1 0 512 0 256) (c3 fun _ r c => D1 X W (peer1 s d) s r c)
        ∗ own d p2sM (bx3 s.val 1 0 256 0 256) (c3 (fill n (D2 X W d s) A)))
      ⊢ iprop(((own d accM (accB s.val) (c2 (updA X W s d m)) ∗ own d p1rM (bx3 s.val 1 0 512 0 256) (c3 fun _ r c => D1 X W (peer1 s d) s r c)
        ∗ own d p2sM (bx3 s.val 1 0 256 0 256) (c3 (fill m (D2 X W d s) A))) -∗ Q ⟨⟩)
        -∗ WP d (uf s d r) Q) := by
  subst hn hm
  exact wp_uf X W s r A

theorem wp_zN (s : Fin 3) (r : Fin 4) {n m : ℕ} (hn : r.val = n) (hm : n + 1 = m) (A : ℕ → ℕ → ℕ → F .bf16) {Q : PUnit → sProp 𝕄} :
    iprop(own d accM (accB s.val) (c2 (A1 X W d s)) ∗ own d p2rM (bx3 s.val 1 0 256 0 256) (c3 fun _ r c => D2 X W (peer2 s d) s r c)
        ∗ own d zfM (bx3 0 4 0 64 (256 * s.val) 256) (c3 (fillZ n (DZ X W d s) A)))
      ⊢ iprop(((own d accM (accB s.val) (c2 (A1 X W d s)) ∗ own d p2rM (bx3 s.val 1 0 256 0 256) (c3 fun _ r c => D2 X W (peer2 s d) s r c)
        ∗ own d zfM (bx3 0 4 0 64 (256 * s.val) 256) (c3 (fillZ m (DZ X W d s) A))) -∗ Q ⟨⟩)
        -∗ WP d (zF s d r) Q) := by
  subst hn hm
  exact wp_zF X W s r A

/-! ## One strip -/

/-- A copy not yet issued, its landing place in hand. -/
def Tok (d : Dev nD) (t : Tr) : sProp 𝕄 := iprop(Gs d t ∗ Gr d t ∗ lnd d t)
/-- A copy under way. -/
def Fly (d : Dev nD) (t : Tr) : sProp 𝕄 := iprop(Sent d t ∗ Gr d t)
def Dn (d : Dev nD) (t : Tr) : sProp 𝕄 := iprop(DnS d t ∗ DnR d t)

abbrev slabP1 (s : Fin 3) : Finset (S3 3 512 256).Idx := bx3 s.val 1 0 512 0 256
abbrev slabP2 (s : Fin 3) : Finset (S3 3 256 256).Idx := bx3 s.val 1 0 256 0 256
abbrev stripZ (s : Fin 3) : Finset (S3 4 64 768).Idx := bx3 0 4 0 64 (256 * s.val) 256
abbrev boxZ (s : Fin 3) (z : ℕ) : Finset (S3 4 64 768).Idx := bx3 z 1 0 64 (256 * s.val) 256
abbrev stripO (s : ℕ) : Finset (S2 64 1024).Idx := bx2 0 64 (256 * s) 256

/-- Strip `s` before its part-product. -/
def St0 (s : Fin 3) (d : Dev nD) : sProp 𝕄 :=
  iprop(ownA d accM (accB s.val) ∗ ownA d p1sM (slabP1 s) ∗ Tok d (.p1 s) ∗ ownA d p2sM (slabP2 s) ∗ Tok d (.p2 s)
    ∗ ownA d zfM (stripZ s) ∗ Tok d (.z 0 s) ∗ Tok d (.z 1 s) ∗ Tok d (.z 2 s) ∗ ownA d oM (stripO s.val))
def St1 (s : Fin 3) (d : Dev nD) : sProp 𝕄 :=
  iprop(own d accM (accB s.val) (c2 (PP X W d)) ∗ Fly d (.p1 s) ∗ ownA d p2sM (slabP2 s) ∗ Tok d (.p2 s)
    ∗ ownA d zfM (stripZ s) ∗ Tok d (.z 0 s) ∗ Tok d (.z 1 s) ∗ Tok d (.z 2 s) ∗ ownA d oM (stripO s.val))
def St2 (s : Fin 3) (d : Dev nD) : sProp 𝕄 :=
  iprop(own d accM (accB s.val) (c2 (A1 X W d s)) ∗ Dn d (.p1 s) ∗ Fly d (.p2 s)
    ∗ ownA d zfM (stripZ s) ∗ Tok d (.z 0 s) ∗ Tok d (.z 1 s) ∗ Tok d (.z 2 s) ∗ ownA d oM (stripO s.val))
def St3 (s : Fin 3) (d : Dev nD) : sProp 𝕄 :=
  iprop(ownA d accM (accB s.val) ∗ Dn d (.p1 s) ∗ Dn d (.p2 s)
    ∗ own d zfM (boxZ s (zN d)) (c3 fun z i c => DZ X W d s z i (c % 256)) ∗ Fly d (.z 0 s) ∗ Fly d (.z 1 s) ∗ Fly d (.z 2 s) ∗ ownA d oM (stripO s.val))
def St4 (s : Fin 3) (d : Dev nD) : sProp 𝕄 :=
  iprop(ownA d accM (accB s.val) ∗ Dn d (.p1 s) ∗ Dn d (.p2 s) ∗ ownA d zfM (boxZ s (zN d))
    ∗ (Sent d (.z 0 s) ∗ DnR d (.z 0 s)) ∗ (Sent d (.z 1 s) ∗ DnR d (.z 1 s)) ∗ (Sent d (.z 2 s) ∗ DnR d (.z 2 s))
    ∗ own d oM (stripO s.val) (c2 (OUT X W d)))
def St5 (s : Fin 3) (d : Dev nD) : sProp 𝕄 :=
  iprop(ownA d accM (accB s.val) ∗ Dn d (.p1 s) ∗ Dn d (.p2 s) ∗ ownA d zfM (boxZ s (zN d))
    ∗ Dn d (.z 0 s) ∗ Dn d (.z 1 s) ∗ Dn d (.z 2 s)
    ∗ own d oM (stripO s.val) (c2 (OUT X W d)))

theorem wp_ph1 (s : Fin 3) (l : List Du) {Q : PUnit → sProp 𝕄} :
    iprop(Recs X W K ∗ Ow d (.cp (.p1 s) :: l) ∗ St0 s d)
      ⊢ iprop(((Ow d l ∗ St1 X W s d) -∗ Q ⟨⟩) -∗ WP (F := F) d (ph1 s d (mmP s.castSucc (X d) (W d))) Q) := by
  unfold ph1 St0 St1 Tok Fly
  simp only [wp_bind]
  iintro ⟨#HR, HO, Hacc, Hp1, ⟨Hs, Hr, Hl⟩, Hp2, Tp2, Hzf, Tz0, Tz1, Tz2, Ho⟩ Hk
  rw [show accB s.val = accB s.castSucc.val from rfl]
  iapply (wp_mm X W s.castSucc) $$ Hacc
  iintro Hacc
  ihave Hp1 := (ownA_c3 (k := 3) (n := 512) (n' := 256) (by decide) (by decide) (by decide)) $$ Hp1
  icases Hp1 with ⟨%A, Hp1⟩
  iapply (wp_p1N X W s 0 (n := 0) (m := 2) rfl rfl A) $$ [Hacc Hp1]
  · isplitl [Hacc]; · iexact Hacc
    rw [fill_zero]; iexact Hp1
  iintro H
  iapply (wp_p1N X W s 1 (n := 2) (m := 4) rfl rfl A) $$ H
  iintro H
  iapply (wp_p1N X W s 2 (n := 4) (m := 6) rfl rfl A) $$ H
  iintro H
  iapply (wp_p1N X W s 3 (n := 6) (m := 8) rfl rfl A) $$ H
  iintro ⟨Hacc, Hp1⟩
  ihave Hp1 := (own_congr (g := c3 fun _ r c => D1 X W d s r c) (fun x hx => by
    rw [mem_bx3] at hx
    show fill 8 _ _ _ _ _ = _
    unfold fill; rw [if_pos (by omega)]; rfl)) $$ Hp1
  iapply (wp_p1Snd X W K s l) $$ [HO Hs Hl Hp1]
  · isplitr; · iexact HR
    isplitl [HO]; · iexact HO
    isplitl [Hs]; · iexact Hs
    isplitl [Hl] <;> iassumption
  iintro ⟨HO, Hs⟩
  iapply Hk
  isplitl [HO]; · iexact HO
  isplitl [Hacc]; · iexact Hacc
  isplitl [Hs Hr]; · isplitl [Hs] <;> iassumption
  isplitl [Hp2]; · iexact Hp2
  isplitl [Tp2]; · iexact Tp2
  isplitl [Hzf]; · iexact Hzf
  isplitl [Tz0]; · iexact Tz0
  isplitl [Tz1]; · iexact Tz1
  isplitl [Tz2] <;> iassumption

theorem wp_ph2 (s : Fin 3) (l : List Du) (hl : ∀ x ∈ Du.cp (.p2 s) :: l, 2 < lvD x) {Q : PUnit → sProp 𝕄} :
    iprop(Recs X W K ∗ Ow d (.cp (.p2 s) :: l) ∗ St1 X W s d)
      ⊢ iprop(((Ow d l ∗ St2 X W s d) -∗ Q ⟨⟩) -∗ WP (F := F) d (ph2 s d) Q) := by
  unfold ph2 St1 St2 Tok Fly Dn
  simp only [wp_bind]
  iintro ⟨#HR, HO, Hacc, ⟨HS1, HR1⟩, Hp2, ⟨Hs, Hr, Hl⟩, Hrest⟩ Hk
  iapply (wp_ws X W K (.p1 s) (.cp (.p2 s) :: l) (p1_s s) (am_p1s s) (fun x hx => Nat.lt_of_lt_of_le (by decide) (hl x hx))) $$ [HO HS1]
  · isplitr; · iexact HR
    isplitl [HO] <;> iassumption
  iintro ⟨HO, HS1⟩
  iapply (wp_wrP X W K (.p1 s) (.cp (.p2 s) :: l) (rp_p1 X W s) (p1_r s) (am_p1r s) hl) $$ [HO HR1]
  · isplitr; · iexact HR
    isplitl [HO] <;> iassumption
  iintro ⟨HO, HV, Hp1r⟩
  ihave Hp2 := (ownA_c3 (k := 3) (n := 256) (n' := 256) (by decide) (by decide) (by decide)) $$ Hp2
  icases Hp2 with ⟨%A, Hp2⟩
  iapply (wp_ufN X W s 0 (n := 0) (m := 1) rfl rfl A) $$ [Hacc Hp1r Hp2]
  · isplitl [Hacc]
    · rw [show updA X W s d 0 = PP X W d from funext fun r => funext fun c => by unfold updA; rw [if_neg (by show ¬ r < 256 * 0; omega)]]
      iexact Hacc
    isplitl [Hp1r]; · iexact Hp1r
    rw [fill_zero]; iexact Hp2
  iintro H
  iapply (wp_ufN X W s 1 (n := 1) (m := 2) rfl rfl A) $$ H
  iintro H
  iapply (wp_ufN X W s 2 (n := 2) (m := 3) rfl rfl A) $$ H
  iintro H
  iapply (wp_ufN X W s 3 (n := 3) (m := 4) rfl rfl A) $$ H
  iintro ⟨Hacc, Hp1r, Hp2⟩
  ihave Hp2 := (own_congr (g := c3 fun _ r c => D2 X W d s r c) (fun x hx => by
    rw [mem_bx3] at hx
    show fill 4 _ _ _ _ _ = _
    unfold fill; rw [if_pos (by omega)]; rfl)) $$ Hp2
  ihave Hacc := (own_congr (g := c2 (A1 X W d s)) (fun x hx => by
    rw [mem_bx2] at hx
    show updA X W s d 4 _ _ = _
    unfold updA; rw [if_pos (by omega)]; rfl)) $$ Hacc
  iapply (wp_p2Snd X W K s l) $$ [HO Hs Hl Hp2]
  · isplitr; · iexact HR
    isplitl [HO]; · iexact HO
    isplitl [Hs]; · iexact Hs
    isplitl [Hl] <;> iassumption
  iintro ⟨HO, Hs⟩
  iapply Hk
  isplitl [HO]; · iexact HO
  isplitl [Hacc]; · iexact Hacc
  isplitl [HS1 HV Hp1r]
  · isplitl [HS1]; · iexact HS1
    unfold DnR
    isplitl [HV]; · iexact HV
    iapply (toLand X W (.p1 s) (rp_p1 X W s)); iexact Hp1r
  isplitl [Hs Hr]; · isplitl [Hs] <;> iassumption
  iexact Hrest

theorem mem_box4 {s : Fin 3} {a b c e : ℕ} (h : ∀ z, z < 4 ↔ (z = a ∨ z = b ∨ z = c ∨ z = e)) :
    stripZ s = boxZ s a ∪ (boxZ s b ∪ (boxZ s c ∪ boxZ s e)) := by
  ext i
  have h0 : (i 0).val < 4 := (i 0).isLt
  have := h (i 0).val
  simp only [Finset.mem_union, mem_bx3]
  omega
theorem zd_cases : ∀ (d : Dev nD) (z : Fin 16), z.val < 4 ↔ (z.val = zN d ∨ z.val = zdN d 0 ∨ z.val = zdN d 1 ∨ z.val = zdN d 2) := by decide +kernel
theorem zd_all (d : Dev nD) (z : ℕ) : z < 4 ↔ (z = zN d ∨ z = zdN d 0 ∨ z = zdN d 1 ∨ z = zdN d 2) := by
  by_cases hz : z < 16
  · exact zd_cases d ⟨z, hz⟩
  · have := zN_lt d; have := zdN_lt d 0; have := zdN_lt d 1; have := zdN_lt d 2
    omega
theorem zd_ne : ∀ d : Dev nD, zN d ≠ zdN d 0 ∧ zN d ≠ zdN d 1 ∧ zN d ≠ zdN d 2 ∧ zdN d 0 ≠ zdN d 1 ∧ zdN d 0 ≠ zdN d 2 ∧ zdN d 1 ≠ zdN d 2 := by decide +kernel

theorem box_disj (s : Fin 3) {a b : ℕ} (h : a ≠ b) : Disjoint (boxZ s a) (boxZ s b) :=
  Finset.disjoint_left.mpr fun i hi hj => by rw [mem_bx3] at hi hj; omega

omit [FloatOps F] in
theorem zf_split (s : Fin 3) (f : (S3 4 64 768).Idx → Elt F .bf16) :
    (own d zfM (stripZ s) f : sProp 𝕄) ⊢ iprop(own d zfM (boxZ s (zN d)) f ∗ own d zfM (boxZ s (zdN d 0)) f ∗ own d zfM (boxZ s (zdN d 1)) f ∗ own d zfM (boxZ s (zdN d 2)) f) := by
  obtain ⟨h1, h2, h3, h4, h5, h6⟩ := zd_ne d
  rw [mem_box4 (s := s) (zd_all d)]
  iintro H
  ihave H := (own_split (by simp only [Finset.disjoint_union_right]; exact ⟨box_disj s h1, box_disj s h2, box_disj s h3⟩)) $$ H
  icases H with ⟨H0, H⟩
  isplitl [H0]; · iexact H0
  ihave H := (own_split (by simp only [Finset.disjoint_union_right]; exact ⟨box_disj s h4, box_disj s h5⟩)) $$ H
  icases H with ⟨H0, H⟩
  isplitl [H0]; · iexact H0
  iapply (own_split (box_disj s h6)); iexact H

omit [FloatOps F] in
theorem own_joinA {s : Shape} {e : EltTy} {m : Memref sig .tc .vmem s e} {S T : Finset s.Idx} (hd : Disjoint S T) :
    iprop(ownA d m S ∗ ownA d m T) ⊢ (ownA d m (S ∪ T) : sProp 𝕄) := by
  iintro ⟨H, G⟩
  unfold ownA
  icases H with ⟨%f, H⟩
  icases G with ⟨%g, G⟩
  ihave J := (own_join hd) $$ [H G]
  · isplitl [H] <;> iassumption
  unfold ownA
  iexact J

omit [FloatOps F] in
theorem zf_join (s : Fin 3) :
    iprop(ownA d zfM (boxZ s (zN d)) ∗ ownA d zfM (boxZ s (zdN d 0)) ∗ ownA d zfM (boxZ s (zdN d 1)) ∗ ownA d zfM (boxZ s (zdN d 2))) ⊢ (ownA d zfM (stripZ s) : sProp 𝕄) := by
  obtain ⟨h1, h2, h3, h4, h5, h6⟩ := zd_ne d
  rw [mem_box4 (s := s) (zd_all d)]
  iintro ⟨H0, H1, H2, H3⟩
  iapply (own_joinA (by simp only [Finset.disjoint_union_right]; exact ⟨box_disj s h1, box_disj s h2, box_disj s h3⟩))
  isplitl [H0]; · iexact H0
  iapply (own_joinA (by simp only [Finset.disjoint_union_right]; exact ⟨box_disj s h4, box_disj s h5⟩))
  isplitl [H1]; · iexact H1
  iapply (own_joinA (box_disj s h6))
  isplitl [H2] <;> iassumption

theorem wp_ph3 (s : Fin 3) (l : List Du) (hl : ∀ x ∈ Du.cp (.z 0 s) :: .cp (.z 1 s) :: .cp (.z 2 s) :: l, 3 < lvD x) {Q : PUnit → sProp 𝕄} :
    iprop(Recs X W K ∗ Ow d (.cp (.z 0 s) :: .cp (.z 1 s) :: .cp (.z 2 s) :: l) ∗ St2 X W s d)
      ⊢ iprop(((Ow d l ∗ St3 X W s d) -∗ Q ⟨⟩) -∗ WP (F := F) d (ph3 s d) Q) := by
  unfold ph3 St2 St3 Tok Fly Dn
  simp only [wp_bind]
  iintro ⟨#HR, HO, Hacc, Hd1, ⟨HS1, HR1⟩, Hzf, ⟨Hs0, Hr0, Hl0⟩, ⟨Hs1, Hr1, Hl1⟩, ⟨Hs2, Hr2, Hl2⟩, Hout⟩ Hk
  iapply (wp_ws X W K (.p2 s) (.cp (.z 0 s) :: .cp (.z 1 s) :: .cp (.z 2 s) :: l) (p2_s s) (am_p2s s) (fun x hx => Nat.lt_of_lt_of_le (by decide) (hl x hx))) $$ [HO HS1]
  · isplitr; · iexact HR
    isplitl [HO] <;> iassumption
  iintro ⟨HO, HS1⟩
  iapply (wp_wrP X W K (.p2 s) (.cp (.z 0 s) :: .cp (.z 1 s) :: .cp (.z 2 s) :: l) (rp_p2 X W s) (p2_r s) (am_p2r s) hl) $$ [HO HR1]
  · isplitr; · iexact HR
    isplitl [HO] <;> iassumption
  iintro ⟨HO, HV, Hp2r⟩
  ihave Hzf := (ownA_c3 (k := 4) (n := 64) (n' := 768) (by decide) (by decide) (by decide)) $$ Hzf
  icases Hzf with ⟨%A, Hzf⟩
  iapply (wp_zN X W s 0 (n := 0) (m := 1) rfl rfl A) $$ [Hacc Hp2r Hzf]
  · isplitl [Hacc]; · iexact Hacc
    isplitl [Hp2r]; · iexact Hp2r
    rw [fillZ_zero]; iexact Hzf
  iintro H
  iapply (wp_zN X W s 1 (n := 1) (m := 2) rfl rfl A) $$ H
  iintro H
  iapply (wp_zN X W s 2 (n := 2) (m := 3) rfl rfl A) $$ H
  iintro H
  iapply (wp_zN X W s 3 (n := 3) (m := 4) rfl rfl A) $$ H
  iintro ⟨Hacc, Hp2r, Hzf⟩
  ihave Hzf := (own_congr (g := c3 fun z i c => DZ X W d s z i (c % 256)) (fun x hx => by
    rw [mem_bx3] at hx
    show fillZ 4 _ _ _ _ _ = _
    unfold fillZ; rw [if_pos (by omega)]; rfl)) $$ Hzf
  ihave Hzf := (zf_split s _) $$ Hzf
  icases Hzf with ⟨Hz, Hz0, Hz1, Hz2⟩
  iapply (wp_zSnd X W K s 0 (.cp (.z 1 s) :: .cp (.z 2 s) :: l)) $$ [HO Hs0 Hl0 Hz0]
  · isplitr; · iexact HR
    isplitl [HO]; · iexact HO
    isplitl [Hs0]; · iexact Hs0
    isplitl [Hl0] <;> iassumption
  iintro ⟨HO, Hs0⟩
  iapply (wp_zSnd X W K s 1 (.cp (.z 2 s) :: l)) $$ [HO Hs1 Hl1 Hz1]
  · isplitr; · iexact HR
    isplitl [HO]; · iexact HO
    isplitl [Hs1]; · iexact Hs1
    isplitl [Hl1] <;> iassumption
  iintro ⟨HO, Hs1⟩
  iapply (wp_zSnd X W K s 2 l) $$ [HO Hs2 Hl2 Hz2]
  · isplitr; · iexact HR
    isplitl [HO]; · iexact HO
    isplitl [Hs2]; · iexact Hs2
    isplitl [Hl2] <;> iassumption
  iintro ⟨HO, Hs2⟩
  iapply Hk
  isplitl [HO]; · iexact HO
  isplitl [Hacc]; · iapply own_weaken; iexact Hacc
  isplitl [Hd1]; · iexact Hd1
  isplitl [HS1 HV Hp2r]
  · isplitl [HS1]; · iexact HS1
    unfold DnR
    isplitl [HV]; · iexact HV
    iapply (toLand X W (.p2 s) (rp_p2 X W s)); iexact Hp2r
  isplitl [Hz]; · iexact Hz
  isplitl [Hs0 Hr0]; · isplitl [Hs0] <;> iassumption
  isplitl [Hs1 Hr1]; · isplitl [Hs1] <;> iassumption
  isplitl [Hs2 Hr2]; · isplitl [Hs2] <;> iassumption
  iexact Hout

theorem wp_ldR (s k : Fin 3) {Q : Vec F S1x64x256 .bf16 → sProp 𝕄} :
    zrO X W s k d ⊢ iprop((zrO X W s k d -∗ Q (c3 fun _ i c => DZ X W (pz d k) s (zN d) i c)) -∗ WP d (ldR (F := F) s k) Q) :=
  ld3 (d := d) (m := zrM) (l := 1) (h := 64) (w := 256) (p := k.val) (a := 0) (b := 256 * s.val) rfl (fun _ i c => DZ X W (pz d k) s (zN d) i (c % 256))
    (fun _ i c => DZ X W (pz d k) s (zN d) i c) (by omega) (fun z x y _ _ hy => by
      rw [Nat.zero_add, show (256 * s.val + y) % 256 = y by omega])

theorem wp_ph4 (s : Fin 3) (l : List Du) (hl : ∀ x ∈ l, 4 < lvD x) {Q : PUnit → sProp 𝕄} :
    iprop(Recs X W K ∗ Ow d l ∗ St3 X W s d)
      ⊢ iprop(((Ow d l ∗ St4 X W s d) -∗ Q ⟨⟩) -∗ WP (F := F) d (ph4 s d) Q) := by
  unfold ph4 St3 St4 Fly DnR
  simp only [wp_bind]
  iintro ⟨#HR, HO, Hacc, Hd1, Hd2, Hz, ⟨Hs0, Hr0⟩, ⟨Hs1, Hr1⟩, ⟨Hs2, Hr2⟩, Hout⟩ Hk
  have hz := zN_lt d
  iapply (ld3 (d := d) (m := zfM) (l := 1) (h := 64) (w := 256) (offO_eq s d) (fun z i c => DZ X W d s z i (c % 256))
    (fun _ i c => DZ X W d s (zN d) i c) (by omega) (fun z x y _ _ hy => by
      rw [Nat.zero_add, show (256 * s.val + y) % 256 = y by omega, show zN d + z = zN d by omega])) $$ Hz
  iintro Hz
  iapply (wp_wrP X W K (.z 0 s) l (rp_z X W 0 s) (z_r 0 s) (am_zr s 0) hl) $$ [HO Hr0]
  · isplitr; · iexact HR
    isplitl [HO] <;> iassumption
  iintro ⟨HO, HV0, Hr0⟩
  iapply (wp_ldR X W s 0) $$ Hr0
  iintro Hr0
  iapply (wp_wrP X W K (.z 1 s) l (rp_z X W 1 s) (z_r 1 s) (am_zr s 1) hl) $$ [HO Hr1]
  · isplitr; · iexact HR
    isplitl [HO] <;> iassumption
  iintro ⟨HO, HV1, Hr1⟩
  iapply (wp_ldR X W s 1) $$ Hr1
  iintro Hr1
  iapply (wp_wrP X W K (.z 2 s) l (rp_z X W 2 s) (z_r 2 s) (am_zr s 2) hl) $$ [HO Hr2]
  · isplitr; · iexact HR
    isplitl [HO] <;> iassumption
  iintro ⟨HO, HV2, Hr2⟩
  iapply (wp_ldR X W s 2) $$ Hr2
  iintro Hr2
  rw [outP_eq, show stripO s.val = stripO s.castSucc.val from rfl]
  iapply (wp_stO X W s.castSucc _ (fun x y hx hy => by
    have hs := s.isLt
    have e1 : (256 * s.castSucc.val + y) / 256 % 3 = s.val := by show (256 * s.val + y) / 256 % 3 = s.val; omega
    have e2 : (256 * s.castSucc.val + y) % 256 = y := by show (256 * s.val + y) % 256 = y; omega
    have e3 : (⟨(256 * s.castSucc.val + y) / 256 % 3, Nat.mod_lt _ (by decide)⟩ : Fin 3) = s := Fin.ext e1
    unfold OUT
    rw [if_pos (by show 256 * s.val + y < 768; omega), e3, e2]
    rfl)) $$ Hout
  iintro Hout
  iapply Hk
  isplitl [HO]; · iexact HO
  isplitl [Hacc]; · iexact Hacc
  isplitl [Hd1]; · iexact Hd1
  isplitl [Hd2]; · iexact Hd2
  isplitl [Hz]; · iapply own_weaken; iexact Hz
  isplitl [Hs0 HV0 Hr0]
  · isplitl [Hs0]; · iexact Hs0
    isplitl [HV0]; · iexact HV0
    iapply (toLand X W (.z 0 s) (rp_z X W 0 s)); iexact Hr0
  isplitl [Hs1 HV1 Hr1]
  · isplitl [Hs1]; · iexact Hs1
    isplitl [HV1]; · iexact HV1
    iapply (toLand X W (.z 1 s) (rp_z X W 1 s)); iexact Hr1
  isplitl [Hs2 HV2 Hr2]
  · isplitl [Hs2]; · iexact Hs2
    isplitl [HV2]; · iexact HV2
    iapply (toLand X W (.z 2 s) (rp_z X W 2 s)); iexact Hr2
  iexact Hout

/-- The three ends of a strip's copies over planes. -/
def ph5 (s : Fin 3) (d : Dev nD) : Pg F PUnit := do
  zWs s d 0
  zWs s d 1
  zWs s d 2

theorem wp_ph5 (s : Fin 3) (l : List Du) (hl : ∀ x ∈ l, 0 < lvD x) {Q : PUnit → sProp 𝕄} :
    iprop(Recs X W K ∗ Ow d l ∗ St4 X W s d)
      ⊢ iprop(((Ow d l ∗ St5 X W s d) -∗ Q ⟨⟩) -∗ WP (F := F) d (ph5 s d) Q) := by
  unfold ph5 St4 St5 Dn
  simp only [wp_bind]
  iintro ⟨#HR, HO, Hacc, Hd1, Hd2, Hz, ⟨Hs0, Hr0⟩, ⟨Hs1, Hr1⟩, ⟨Hs2, Hr2⟩, Hout⟩ Hk
  iapply (wp_ws X W K (.z 0 s) l (z_s 0 s) (am_zs s d 0) hl) $$ [HO Hs0]
  · isplitr; · iexact HR
    isplitl [HO] <;> iassumption
  iintro ⟨HO, Hs0⟩
  iapply (wp_ws X W K (.z 1 s) l (z_s 1 s) (am_zs s d 1) hl) $$ [HO Hs1]
  · isplitr; · iexact HR
    isplitl [HO] <;> iassumption
  iintro ⟨HO, Hs1⟩
  iapply (wp_ws X W K (.z 2 s) l (z_s 2 s) (am_zs s d 2) hl) $$ [HO Hs2]
  · isplitr; · iexact HR
    isplitl [HO] <;> iassumption
  iintro ⟨HO, Hs2⟩
  iapply Hk
  isplitl [HO]; · iexact HO
  isplitl [Hacc]; · iexact Hacc
  isplitl [Hd1]; · iexact Hd1
  isplitl [Hd2]; · iexact Hd2
  isplitl [Hz]; · iexact Hz
  isplitl [Hs0 Hr0]; · isplitl [Hs0] <;> iassumption
  isplitl [Hs1 Hr1]; · isplitl [Hs1] <;> iassumption
  isplitl [Hs2 Hr2]; · isplitl [Hs2] <;> iassumption
  iexact Hout

/-! ## The last strip -/

/-- The sum over planes and the first exchange sent. -/
def cA (d : Dev nD) : Pg F PUnit := do
  czWr 0
  czWr 1
  czWr 2
  czAdd d
  c1F 0 (k0_off23 d) (k0_off23_inb d)
  c1F 1 (k0_off24 d) (k0_off24_inb d)
  c1Snd d
def cB (d : Dev nD) : Pg F PUnit := do
  c1Ws
  c1Wr
  c1Add d
  c2F d
  c2Snd d
def cC (d : Dev nD) : Pg F PUnit := do
  c2Ws
  c2Wr
  outC d

theorem wp_cA (l : List Du) (hl : ∀ x ∈ Du.cp .c1 :: l, 2 < lvD x) {Q : PUnit → sProp 𝕄} :
    iprop(Recs X W K ∗ Ow d (.cp .c1 :: l) ∗ own d accM (accB 3) (c2 (PP X W d)) ∗ (Gr d (.cz 0) ∗ Gr d (.cz 1) ∗ Gr d (.cz 2)) ∗ ownA d c1sM (bx2 0 128 0 256) ∗ Tok d .c1)
      ⊢ iprop(((Ow d l ∗ own d accM (accB 3) (c2 (accC X W d)) ∗ (DnR d (.cz 0) ∗ DnR d (.cz 1) ∗ DnR d (.cz 2)) ∗ Fly d .c1) -∗ Q ⟨⟩) -∗ WP (F := F) d (cA d) Q) := by
  unfold cA Tok Fly DnR
  simp only [wp_bind]
  iintro ⟨#HR, HO, Hacc, ⟨Hr0, Hr1, Hr2⟩, Hc, ⟨Hs, Hr, Hl⟩⟩ Hk
  iapply (wp_wrP X W K (.cz 0) (.cp .c1 :: l) (rp_cz X W 0) (cz_r 0) (am_czr 0) hl) $$ [HO Hr0]
  · isplitr; · iexact HR
    isplitl [HO] <;> iassumption
  iintro ⟨HO, HV0, Hr0⟩
  iapply (wp_wrP X W K (.cz 1) (.cp .c1 :: l) (rp_cz X W 1) (cz_r 1) (am_czr 1) hl) $$ [HO Hr1]
  · isplitr; · iexact HR
    isplitl [HO] <;> iassumption
  iintro ⟨HO, HV1, Hr1⟩
  iapply (wp_wrP X W K (.cz 2) (.cp .c1 :: l) (rp_cz X W 2) (cz_r 2) (am_czr 2) hl) $$ [HO Hr2]
  · isplitr; · iexact HR
    isplitl [HO] <;> iassumption
  iintro ⟨HO, HV2, Hr2⟩
  iapply (wp_czAdd X W) $$ [Hacc Hr0 Hr1 Hr2]
  · isplitl [Hacc]; · iexact Hacc
    isplitl [Hr0]; · iexact Hr0
    isplitl [Hr1] <;> iassumption
  iintro ⟨Hacc, Hr0, Hr1, Hr2⟩
  ihave Hc := (ownA_c2 (n := 128) (n' := 256) (by decide) (by decide)) $$ Hc
  icases Hc with ⟨%A, Hc⟩
  iapply (wp_c1F X W 0 A (off23_eq d)) $$ [Hacc Hc]
  · isplitl [Hacc]; · iexact Hacc
    rw [show (0 : Fin 2).val = 0 from rfl, fill_zero]; iexact Hc
  iintro H
  iapply (wp_c1F X W 1 A (off24_eq d)) $$ [H]
  · icases H with ⟨H, G⟩
    isplitl [H]; · iexact H
    iexact G
  iintro ⟨Hacc, Hc⟩
  ihave Hc := (own_congr (g := c2 (D3 X W d)) (fun x hx => by
    rw [mem_bx2] at hx
    show fill 2 _ _ _ _ _ = _
    unfold fill; rw [if_pos (by omega)]; rfl)) $$ Hc
  iapply (wp_c1Snd X W K l) $$ [HO Hs Hl Hc]
  · isplitr; · iexact HR
    isplitl [HO]; · iexact HO
    isplitl [Hs]; · iexact Hs
    isplitl [Hl] <;> iassumption
  iintro ⟨HO, Hs⟩
  iapply Hk
  isplitl [HO]; · iexact HO
  isplitl [Hacc]; · iexact Hacc
  isplitl [HV0 HV1 HV2 Hr0 Hr1 Hr2]
  · isplitl [HV0 Hr0]
    · isplitl [HV0]; · iexact HV0
      iapply (toLand X W (.cz 0) (rp_cz X W 0)); iexact Hr0
    isplitl [HV1 Hr1]
    · isplitl [HV1]; · iexact HV1
      iapply (toLand X W (.cz 1) (rp_cz X W 1)); iexact Hr1
    isplitl [HV2]; · iexact HV2
    iapply (toLand X W (.cz 2) (rp_cz X W 2)); iexact Hr2
  isplitl [Hs] <;> iassumption

theorem wp_cB (l : List Du) (hl : ∀ x ∈ Du.cp .c2 :: l, 3 < lvD x) {Q : PUnit → sProp 𝕄} :
    iprop(Recs X W K ∗ Ow d (.cp .c2 :: l) ∗ own d accM (accB 3) (c2 (accC X W d)) ∗ Fly d .c1 ∗ ownA d c2sM (bx2 0 64 0 256) ∗ Tok d .c2)
      ⊢ iprop(((Ow d l ∗ own d accM (accB 3) (c2 (accD X W d)) ∗ Dn d .c1 ∗ Fly d .c2) -∗ Q ⟨⟩) -∗ WP (F := F) d (cB d) Q) := by
  unfold cB Tok Fly Dn
  simp only [wp_bind]
  iintro ⟨#HR, HO, Hacc, ⟨HS1, HR1⟩, Hc, ⟨Hs, Hr, Hl⟩⟩ Hk
  iapply (wp_ws X W K .c1 (.cp .c2 :: l) c1_s am_c1s (fun x hx => Nat.lt_of_lt_of_le (by decide) (hl x hx))) $$ [HO HS1]
  · isplitr; · iexact HR
    isplitl [HO] <;> iassumption
  iintro ⟨HO, HS1⟩
  iapply (wp_wrP X W K .c1 (.cp .c2 :: l) (rp_c1 X W ) c1_r am_c1r hl) $$ [HO HR1]
  · isplitr; · iexact HR
    isplitl [HO] <;> iassumption
  iintro ⟨HO, HV, HR1⟩
  iapply (wp_c1Add X W) $$ [Hacc HR1]
  · isplitl [Hacc] <;> iassumption
  iintro ⟨Hacc, HR1⟩
  iapply (wp_c2F X W) $$ [Hacc HR1 Hc]
  · isplitl [Hacc]; · iexact Hacc
    isplitl [HR1] <;> iassumption
  iintro ⟨Hacc, HR1, Hc⟩
  iapply (wp_c2Snd X W K l) $$ [HO Hs Hl Hc]
  · isplitr; · iexact HR
    isplitl [HO]; · iexact HO
    isplitl [Hs]; · iexact Hs
    isplitl [Hl] <;> iassumption
  iintro ⟨HO, Hs⟩
  iapply Hk
  isplitl [HO]; · iexact HO
  isplitl [Hacc]; · iexact Hacc
  isplitl [HS1 HV HR1]
  · isplitl [HS1]; · iexact HS1
    unfold DnR
    isplitl [HV]; · iexact HV
    iapply (toLand X W .c1 (rp_c1 X W )); iexact HR1
  isplitl [Hs] <;> iassumption

theorem wp_cC (l : List Du) (hl : ∀ x ∈ l, 4 < lvD x) {Q : PUnit → sProp 𝕄} :
    iprop(Recs X W K ∗ Ow d l ∗ own d accM (accB 3) (c2 (accD X W d)) ∗ Fly d .c2 ∗ ownA d oM (stripO 3))
      ⊢ iprop(((Ow d l ∗ ownA d accM (accB 3) ∗ Dn d .c2 ∗ own d oM (stripO 3) (c2 (OUT X W d))) -∗ Q ⟨⟩) -∗ WP (F := F) d (cC d) Q) := by
  unfold cC Fly Dn
  simp only [wp_bind]
  iintro ⟨#HR, HO, Hacc, ⟨HS1, HR1⟩, Hout⟩ Hk
  iapply (wp_ws X W K .c2 l c2_s am_c2s (fun x hx => Nat.lt_of_lt_of_le (by decide) (hl x hx))) $$ [HO HS1]
  · isplitr; · iexact HR
    isplitl [HO] <;> iassumption
  iintro ⟨HO, HS1⟩
  iapply (wp_wrP X W K .c2 l (rp_c2 X W ) c2_r am_c2r hl) $$ [HO HR1]
  · isplitr; · iexact HR
    isplitl [HO] <;> iassumption
  iintro ⟨HO, HV, HR1⟩
  iapply (wp_outC X W) $$ [Hacc HR1 Hout]
  · isplitl [Hacc]; · iexact Hacc
    isplitl [HR1] <;> iassumption
  iintro ⟨Hacc, HR1, Hout⟩
  iapply Hk
  isplitl [HO]; · iexact HO
  isplitl [Hacc]; · iapply own_weaken; iexact Hacc
  isplitl [HS1 HV HR1]
  · isplitl [HS1]; · iexact HS1
    unfold DnR
    isplitl [HV]; · iexact HV
    iapply (toLand X W .c2 (rp_c2 X W )); iexact HR1
  iexact Hout

end Phases

end Cert.KernelIdeal.Tile
-- ==== Proof.Chain.lean ====
module

public import proofs.«01_k».proof.Proof.Phases

@[expose] public section

set_option synthInstance.maxSize 4096
set_option maxRecDepth 4000

/-! # The whole body, from what a device starts with to what it ends with -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the barrier hands over -/

theorem lnd_peer (d : Dev nD) (t : Tr) : (lnd (F := F) (peerT d t) (mateT d t)) = land d t := by
  unfold lnd; rw [peer_peer, mate_mate]

theorem bPay_pz (e : Dev nD) (k : Fin 3) (h : 2 + k.val < 5) :
    (bPay (F := F) e ⟨2 + k.val, h⟩) = iprop(lnd e (.cz k) ∗ lnd e (.z k 0) ∗ lnd e (.z k 1) ∗ lnd e (.z k 2)) := by
  obtain ⟨k, hk⟩ := k
  match k, hk with
  | 0, _ => rfl
  | 1, _ => rfl
  | 2, _ => rfl

/-- The landing places a device offers its `i`-th neighbour. -/
def offer (d : Dev nD) (i : Fin 5) : sProp 𝕄 :=
  match i with
  | 0 => iprop(land d (.p1 0) ∗ land d (.p1 2) ∗ land d (.p2 1) ∗ land d .c2)
  | 1 => iprop(land d (.p1 1) ∗ land d (.p2 0) ∗ land d (.p2 2) ∗ land d .c1)
  | 2 => iprop(land d (.cz 0) ∗ land d (.z 0 0) ∗ land d (.z 0 1) ∗ land d (.z 0 2))
  | 3 => iprop(land d (.cz 1) ∗ land d (.z 1 0) ∗ land d (.z 1 1) ∗ land d (.z 1 2))
  | 4 => iprop(land d (.cz 2) ∗ land d (.z 2 0) ∗ land d (.z 2 1) ∗ land d (.z 2 2))

theorem lnd_px (d : Dev nD) (t : Tr) (h : peerT d t = px d) (h' : mateT d t = t) : (lnd (F := F) (px d) t) = land d t := by
  have := lnd_peer (F := F) d t; rwa [h, h'] at this
theorem lnd_py (d : Dev nD) (t : Tr) (h : peerT d t = py d) (h' : mateT d t = t) : (lnd (F := F) (py d) t) = land d t := by
  have := lnd_peer (F := F) d t; rwa [h, h'] at this

theorem offer_pz (d : Dev nD) (k : Fin 3) (h : 2 + (slot d k).val < 5) :
    (bPay (F := F) (pz d k) ⟨2 + (slot d k).val, h⟩) = iprop(land d (.cz k) ∗ land d (.z k 0) ∗ land d (.z k 1) ∗ land d (.z k 2)) := by
  rw [bPay_pz, ← lnd_peer d (.cz k), ← lnd_peer d (.z k 0), ← lnd_peer d (.z k 1), ← lnd_peer d (.z k 2)]
  rfl

theorem offer_eq (d : Dev nD) (i : Fin 5) : (bPay (F := F) (nbr d i) (opp d i)) = offer d i := by
  obtain ⟨i, hi⟩ := i
  match i, hi with
  | 0, _ =>
    show iprop(lnd (px d) (.p1 0) ∗ lnd (px d) (.p1 2) ∗ lnd (px d) (.p2 1) ∗ lnd (px d) .c2) = _
    rw [lnd_px d (.p1 0) rfl rfl, lnd_px d (.p1 2) rfl rfl, lnd_px d (.p2 1) rfl rfl, lnd_px d .c2 rfl rfl]; rfl
  | 1, _ =>
    show iprop(lnd (py d) (.p1 1) ∗ lnd (py d) (.p2 0) ∗ lnd (py d) (.p2 2) ∗ lnd (py d) .c1) = _
    rw [lnd_py d (.p1 1) rfl rfl, lnd_py d (.p2 0) rfl rfl, lnd_py d (.p2 2) rfl rfl, lnd_py d .c1 rfl rfl]; rfl
  | 2, _ => exact offer_pz d 0 _
  | 3, _ => exact offer_pz d 1 _
  | 4, _ => exact offer_pz d 2 _

section Chain

variable (X : Dev nD → Vec F S1024x64 .bf16) (W : Dev nD → Vec F S64x1024 .bf16) (K : Dev nD × Cx → ℕ)
variable {d : Dev nD}

/-! ## What a device starts with and ends with -/

/-- A copy not yet issued. -/
def T0 (d : Dev nD) (t : Tr) : sProp 𝕄 := iprop(Gs d t ∗ Gr d t)

def BarT (d : Dev nD) (i : Fin 5) : sProp 𝕄 := dutyTok ER (cell (nbr d i) .bar) 0 (opp d i)

def Strip0 (s : Fin 3) (d : Dev nD) : sProp 𝕄 :=
  iprop(ownA d accM (accB s.val) ∗ ownA d p1sM (slabP1 s) ∗ ownA d p2sM (slabP2 s) ∗ ownA d zfM (stripZ s) ∗ ownA d oM (stripO s.val))
def StripT (s : Fin 3) (d : Dev nD) : sProp 𝕄 :=
  iprop(T0 d (.p1 s) ∗ T0 d (.p2 s) ∗ T0 d (.z 0 s) ∗ T0 d (.z 1 s) ∗ T0 d (.z 2 s))
def Last0 (d : Dev nD) : sProp 𝕄 :=
  iprop(ownA d accM (accB 3) ∗ (ownA d czsM (bx3 (0 : Fin 3).val 1 0 256 0 256) ∗ ownA d czsM (bx3 (1 : Fin 3).val 1 0 256 0 256) ∗ ownA d czsM (bx3 (2 : Fin 3).val 1 0 256 0 256))
    ∗ ownA d c1sM (bx2 0 128 0 256) ∗ ownA d c2sM (bx2 0 64 0 256) ∗ ownA d oM (stripO 3))
def LastT (d : Dev nD) : sProp 𝕄 :=
  iprop(T0 d (.cz 0) ∗ T0 d (.cz 1) ∗ T0 d (.cz 2) ∗ T0 d .c1 ∗ T0 d .c2)
def Last1 (d : Dev nD) : sProp 𝕄 :=
  iprop(ownA d accM (accB 3) ∗ (Dn d (.cz 0) ∗ Dn d (.cz 1) ∗ Dn d (.cz 2)) ∗ Dn d .c1 ∗ Dn d .c2 ∗ own d oM (stripO 3) (c2 (OUT X W d)))

theorem strip_ready (s : Fin 3) :
    iprop(Strip0 s d ∗ StripT s d ∗ lnd d (.p1 s) ∗ lnd d (.p2 s) ∗ lnd d (.z 0 s) ∗ lnd d (.z 1 s) ∗ lnd d (.z 2 s)) ⊢ (St0 s d : sProp 𝕄) := by
  unfold Strip0 StripT St0 Tok T0
  iintro ⟨⟨Hacc, Hp1, Hp2, Hz, Ho⟩, ⟨⟨G1, R1⟩, ⟨G2, R2⟩, ⟨Z0, Y0⟩, ⟨Z1, Y1⟩, ⟨Z2, Y2⟩⟩, L1, L2, M0, M1, M2⟩
  isplitl [Hacc]; · iexact Hacc
  isplitl [Hp1]; · iexact Hp1
  isplitl [G1 R1 L1]
  · isplitl [G1]; · iexact G1
    isplitl [R1] <;> iassumption
  isplitl [Hp2]; · iexact Hp2
  isplitl [G2 R2 L2]
  · isplitl [G2]; · iexact G2
    isplitl [R2] <;> iassumption
  isplitl [Hz]; · iexact Hz
  isplitl [Z0 Y0 M0]
  · isplitl [Z0]; · iexact Z0
    isplitl [Y0] <;> iassumption
  isplitl [Z1 Y1 M1]
  · isplitl [Z1]; · iexact Z1
    isplitl [Y1] <;> iassumption
  isplitl [Z2 Y2 M2]
  · isplitl [Z2]; · iexact Z2
    isplitl [Y2] <;> iassumption
  iexact Ho

/-! ## The barrier -/

theorem wp_sigs (l : List Du) {Q : PUnit → sProp 𝕄} :
    iprop(Recs X W K ∗ Ow d (.bar 0 :: .bar 1 :: .bar 2 :: .bar 3 :: .bar 4 :: l) ∗ (BarT d 0 ∗ BarT d 1 ∗ BarT d 2 ∗ BarT d 3 ∗ BarT d 4)
        ∗ (offer d 0 ∗ offer d 1 ∗ offer d 2 ∗ offer d 3 ∗ offer d 4))
      ⊢ iprop((Ow d l -∗ Q ⟨⟩) -∗ WP (F := F) d (sigs d) Q) := by
  unfold sigs BarT
  simp only [wp_bind, ← offer_eq]
  iintro ⟨#HR, HO, ⟨B0, B1, B2, B3, B4⟩, ⟨P0, P1, P2, P3, P4⟩⟩ Hk
  iapply (wp_bar X W K 0 (.bar 1 :: .bar 2 :: .bar 3 :: .bar 4 :: l)) $$ [HO B0 P0]
  · isplitr; · iexact HR
    isplitl [HO]; · iexact HO
    isplitl [B0] <;> iassumption
  iintro HO
  iapply (wp_bar X W K 1 (.bar 2 :: .bar 3 :: .bar 4 :: l)) $$ [HO B1 P1]
  · isplitr; · iexact HR
    isplitl [HO]; · iexact HO
    isplitl [B1] <;> iassumption
  iintro HO
  iapply (wp_bar X W K 2 (.bar 3 :: .bar 4 :: l)) $$ [HO B2 P2]
  · isplitr; · iexact HR
    isplitl [HO]; · iexact HO
    isplitl [B2] <;> iassumption
  iintro HO
  iapply (wp_bar X W K 3 (.bar 4 :: l)) $$ [HO B3 P3]
  · isplitr; · iexact HR
    isplitl [HO]; · iexact HO
    isplitl [B3] <;> iassumption
  iintro HO
  iapply (wp_bar X W K 4 l) $$ [HO B4 P4]
  · isplitr; · iexact HR
    isplitl [HO]; · iexact HO
    isplitl [B4] <;> iassumption
  iexact Hk

/-! ## The body -/

/-- The ends of the last strip's copies over planes. -/
def czEnd (d : Dev nD) : Pg F PUnit := do
  czWs d 0
  czWs d 1
  czWs d 2

theorem wp_czEnd (l : List Du) (hl : ∀ x ∈ l, 0 < lvD x) {Q : PUnit → sProp 𝕄} :
    iprop(Recs X W K ∗ Ow d l ∗ (Sent d (.cz 0) ∗ Sent d (.cz 1) ∗ Sent d (.cz 2)))
      ⊢ iprop(((Ow d l ∗ (DnS d (.cz 0) ∗ DnS d (.cz 1) ∗ DnS d (.cz 2))) -∗ Q ⟨⟩) -∗ WP (F := F) d (czEnd d) Q) := by
  unfold czEnd
  simp only [wp_bind]
  iintro ⟨#HR, HO, ⟨H0, H1, H2⟩⟩ Hk
  iapply (wp_ws X W K (.cz 0) l (cz_s 0) (am_czs 0) hl) $$ [HO H0]
  · isplitr; · iexact HR
    isplitl [HO] <;> iassumption
  iintro ⟨HO, H0⟩
  iapply (wp_ws X W K (.cz 1) l (cz_s 1) (am_czs 1) hl) $$ [HO H1]
  · isplitr; · iexact HR
    isplitl [HO] <;> iassumption
  iintro ⟨HO, H1⟩
  iapply (wp_ws X W K (.cz 2) l (cz_s 2) (am_czs 2) hl) $$ [HO H2]
  · isplitr; · iexact HR
    isplitl [HO] <;> iassumption
  iintro ⟨HO, H2⟩
  iapply Hk
  isplitl [HO]; · iexact HO
  isplitl [H0]; · iexact H0
  isplitl [H1] <;> iassumption

/-- The body in its phases. -/
def bodyG (d : Dev nD) : Pg F PUnit := do
  let x : Vec F S1024x64 .bf16 ← Prog.lift (.load xM (Rect.unit (s := S1024x64) ![0, 0] S1024x64.size inb_S1024x64_S1024x64_0_0).toLoadRect (View.loadsAt_vmem h_S1024x64))
  let w : Vec F S64x1024 .bf16 ← Prog.lift (.load wM (Rect.unit (s := S64x1024) ![0, 0] S64x1024.size inb_S64x1024_S64x1024_0_0).toLoadRect (View.loadsAt_vmem h_S64x1024))
  mmS 3 (mmP 3 x w)
  sigs d
  czF d 0
  czF d 1
  czF d 2
  semWaitWord barS 5#32
  czSnd d 0
  czSnd d 1
  czSnd d 2
  ph1 0 d (mmP 0 x w)
  ph1 1 d (mmP 1 x w)
  ph1 2 d (mmP 2 x w)
  ph2 0 d
  ph2 1 d
  ph2 2 d
  cA d
  ph3 0 d
  ph3 1 d
  ph3 2 d
  cB d
  ph4 0 d
  ph4 1 d
  ph4 2 d
  cC d
  czEnd d
  ph5 0 d
  ph5 1 d
  ph5 2 d

theorem wp_bodyG (Q : PUnit → sProp 𝕄) : WP (F := F) d (bodyD d) Q = WP (F := F) d (bodyG d) Q := by
  unfold bodyD bodyG cA cB cC czEnd ph5
  simp only [wp_bind]

theorem idx_full (s : Shape) {off : Fin s.rank → ℕ} (ho : off = fun _ => 0) (inb : ∀ a, off a + s.size a ≤ s.size a) (x : s.Idx) :
    (Rect.unit (s := s) off s.size inb).idx x = x := by
  subst ho
  funext a
  exact Fin.ext (by rw [LoadRect.idx_apply]; simp)

set_option maxHeartbeats 1000000 in
theorem wp_body {Q : PUnit → sProp 𝕄} :
    iprop(Recs X W K ∗ Ow d dues ∗ own d xM Finset.univ (X d) ∗ own d wM Finset.univ (W d)
        ∗ (BarT d 0 ∗ BarT d 1 ∗ BarT d 2 ∗ BarT d 3 ∗ BarT d 4) ∗ cred (tallyAt (cell d .bar) () 5) ∗ atPos ER (cell d .bar) 0 ∅ 0
        ∗ (offer d 0 ∗ offer d 1 ∗ offer d 2 ∗ offer d 3 ∗ offer d 4)
        ∗ (Strip0 0 d ∗ Strip0 1 d ∗ Strip0 2 d) ∗ (StripT 0 d ∗ StripT 1 d ∗ StripT 2 d) ∗ Last0 d ∗ LastT d)
      ⊢ iprop(((Ow d [] ∗ own d xM Finset.univ (X d) ∗ own d wM Finset.univ (W d) ∗ semVal (cell d .bar) 0
          ∗ (St5 X W 0 d ∗ St5 X W 1 d ∗ St5 X W 2 d) ∗ Last1 X W d) -∗ Q ⟨⟩) -∗ WP (F := F) d (bodyD d) Q) := by
  rw [wp_bodyG]
  unfold bodyG Last0 LastT T0 dues
  simp only [wp_bind]
  iintro ⟨#HR, HO, Hx, Hw, HB, HcB, HaB, HP, ⟨S0, S1, S2⟩, ⟨U0, U1, U2⟩, ⟨Hacc, ⟨C0, C1, C2⟩, Hc1, Hc2, Ho3⟩, ⟨⟨G0, R0⟩, ⟨G1, R1⟩, ⟨G2, R2⟩, ⟨Gc, Rc⟩, ⟨Ge, Re⟩⟩⟩ Hk
  iapply (ld (d := d) (m := xM) (X d) (Finset.subset_univ _) (fun x => congrArg (X d) (idx_full S1024x64 (off := ![0, 0]) (by funext a; fin_cases a <;> rfl) inb_S1024x64_S1024x64_0_0 x))) $$ Hx
  iintro Hx
  iapply (ld (d := d) (m := wM) (W d) (Finset.subset_univ _) (fun x => congrArg (W d) (idx_full S64x1024 (off := ![0, 0]) (by funext a; fin_cases a <;> rfl) inb_S64x1024_S64x1024_0_0 x))) $$ Hw
  iintro Hw
  iapply (wp_mm X W 3) $$ Hacc
  iintro Hacc
  iapply (wp_sigs X W K [.cp (.cz 0), .cp (.cz 1), .cp (.cz 2), .cp (.p1 0), .cp (.p1 1), .cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO HB HP]
  · isplitr; · iexact HR
    isplitl [HO]; · iexact HO
    isplitl [HB] <;> iassumption
  iintro HO
  iapply (wp_czF X W 0) $$ [Hacc C0]
  · isplitl [Hacc] <;> iassumption
  iintro ⟨Hacc, C0⟩
  iapply (wp_czF X W 1) $$ [Hacc C1]
  · isplitl [Hacc] <;> iassumption
  iintro ⟨Hacc, C1⟩
  iapply (wp_czF X W 2) $$ [Hacc C2]
  · isplitl [Hacc] <;> iassumption
  iintro ⟨Hacc, C2⟩
  iapply (wp_barW X W K [.cp (.cz 0), .cp (.cz 1), .cp (.cz 2), .cp (.p1 0), .cp (.p1 1), .cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2] (by decide)) $$ [HO HcB HaB]
  · isplitr; · iexact HR
    isplitl [HO]; · iexact HO
    isplitl [HcB] <;> iassumption
  unfold bPay
  iintro ⟨HO, HV, ⟨L10, L12, L21, Le⟩, ⟨L11, L20, L22, Lc⟩, ⟨N0, M00, M01, M02⟩, ⟨N1, M10, M11, M12⟩, ⟨N2, M20, M21, M22⟩⟩
  ihave S0 := (strip_ready 0) $$ [S0 U0 L10 L20 M00 M10 M20]
  · isplitl [S0]; · iexact S0
    isplitl [U0]; · iexact U0
    isplitl [L10]; · iexact L10
    isplitl [L20]; · iexact L20
    isplitl [M00]; · iexact M00
    isplitl [M10] <;> iassumption
  ihave S1 := (strip_ready 1) $$ [S1 U1 L11 L21 M01 M11 M21]
  · isplitl [S1]; · iexact S1
    isplitl [U1]; · iexact U1
    isplitl [L11]; · iexact L11
    isplitl [L21]; · iexact L21
    isplitl [M01]; · iexact M01
    isplitl [M11] <;> iassumption
  ihave S2 := (strip_ready 2) $$ [S2 U2 L12 L22 M02 M12 M22]
  · isplitl [S2]; · iexact S2
    isplitl [U2]; · iexact U2
    isplitl [L12]; · iexact L12
    isplitl [L22]; · iexact L22
    isplitl [M02]; · iexact M02
    isplitl [M12] <;> iassumption
  iapply (wp_czSnd X W K 0 [.cp (.cz 1), .cp (.cz 2), .cp (.p1 0), .cp (.p1 1), .cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO G0 N0 C0]
  · isplitr; · iexact HR
    isplitl [HO]; · iexact HO
    isplitl [G0]; · iexact G0
    isplitl [N0] <;> iassumption
  iintro ⟨HO, G0⟩
  iapply (wp_czSnd X W K 1 [.cp (.cz 2), .cp (.p1 0), .cp (.p1 1), .cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO G1 N1 C1]
  · isplitr; · iexact HR
    isplitl [HO]; · iexact HO
    isplitl [G1]; · iexact G1
    isplitl [N1] <;> iassumption
  iintro ⟨HO, G1⟩
  iapply (wp_czSnd X W K 2 [.cp (.p1 0), .cp (.p1 1), .cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO G2 N2 C2]
  · isplitr; · iexact HR
    isplitl [HO]; · iexact HO
    isplitl [G2]; · iexact G2
    isplitl [N2] <;> iassumption
  iintro ⟨HO, G2⟩
  iapply (wp_ph1 X W K 0 [.cp (.p1 1), .cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO S0]
  · isplitr; · iexact HR
    isplitl [HO] <;> iassumption
  iintro ⟨HO, S0⟩
  iapply (wp_ph1 X W K 1 [.cp (.p1 2), .cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO S1]
  · isplitr; · iexact HR
    isplitl [HO] <;> iassumption
  iintro ⟨HO, S1⟩
  iapply (wp_ph1 X W K 2 [.cp (.p2 0), .cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2]) $$ [HO S2]
  · isplitr; · iexact HR
    isplitl [HO] <;> iassumption
  iintro ⟨HO, S2⟩
  iapply (wp_ph2 X W K 0 [.cp (.p2 1), .cp (.p2 2), .cp .c1, .cp (.z 0 0), .cp (.z 1 0), .cp (.z 2 0), .cp (.z 0 1), .cp (.z 1 1), .cp (.z 2 1), .cp (.z 0 2), .cp (.z 1 2), .cp (.z 2 2), .cp .c2] (by decide)) $$ [HO S0]
  · isplitr; · iexact HR
    isplitl [HO] <;> iassumption
  iintro ⟨HO, S0⟩
  iapply (wp_ph2 X W K 1 [.cp (.p2 2), .cp .c1, .cp (.z 0 0), .cp (.z 1 0), .cp (.z 2 0), .cp (.z 0 1), .cp (.z 1 1), .cp (.z 2 1), .cp (.z 0 2), .cp (.z 1 2), .cp (.z 2 2), .cp .c2] (by decide)) $$ [HO S1]
  · isplitr; · iexact HR
    isplitl [HO] <;> iassumption
  iintro ⟨HO, S1⟩
  iapply (wp_ph2 X W K 2 [.cp .c1, .cp (.z 0 0), .cp (.z 1 0), .cp (.z 2 0), .cp (.z 0 1), .cp (.z 1 1), .cp (.z 2 1), .cp (.z 0 2), .cp (.z 1 2), .cp (.z 2 2), .cp .c2] (by decide)) $$ [HO S2]
  · isplitr; · iexact HR
    isplitl [HO] <;> iassumption
  iintro ⟨HO, S2⟩
  iapply (wp_cA X W K [.cp (.z 0 0), .cp (.z 1 0), .cp (.z 2 0), .cp (.z 0 1), .cp (.z 1 1), .cp (.z 2 1), .cp (.z 0 2), .cp (.z 1 2), .cp (.z 2 2), .cp .c2] (by decide)) $$ [HO Hacc R0 R1 R2 Hc1 Gc Rc Lc]
  · isplitr; · iexact HR
    isplitl [HO]; · iexact HO
    isplitl [Hacc]; · iexact Hacc
    isplitl [R0 R1 R2]
    · isplitl [R0]; · iexact R0
      isplitl [R1] <;> iassumption
    isplitl [Hc1]; · iexact Hc1
    unfold Tok
    isplitl [Gc]; · iexact Gc
    isplitl [Rc] <;> iassumption
  iintro ⟨HO, Hacc, ⟨R0, R1, R2⟩, Hc⟩
  iapply (wp_ph3 X W K 0 [.cp (.z 0 1), .cp (.z 1 1), .cp (.z 2 1), .cp (.z 0 2), .cp (.z 1 2), .cp (.z 2 2), .cp .c2] (by decide)) $$ [HO S0]
  · isplitr; · iexact HR
    isplitl [HO] <;> iassumption
  iintro ⟨HO, S0⟩
  iapply (wp_ph3 X W K 1 [.cp (.z 0 2), .cp (.z 1 2), .cp (.z 2 2), .cp .c2] (by decide)) $$ [HO S1]
  · isplitr; · iexact HR
    isplitl [HO] <;> iassumption
  iintro ⟨HO, S1⟩
  iapply (wp_ph3 X W K 2 [.cp .c2] (by decide)) $$ [HO S2]
  · isplitr; · iexact HR
    isplitl [HO] <;> iassumption
  iintro ⟨HO, S2⟩
  iapply (wp_cB X W K [] (by decide)) $$ [HO Hacc Hc Hc2 Ge Re Le]
  · isplitr; · iexact HR
    isplitl [HO]; · iexact HO
    isplitl [Hacc]; · iexact Hacc
    isplitl [Hc]; · iexact Hc
    isplitl [Hc2]; · iexact Hc2
    unfold Tok
    isplitl [Ge]; · iexact Ge
    isplitl [Re] <;> iassumption
  iintro ⟨HO, Hacc, Hc, He⟩
  iapply (wp_ph4 X W K 0 [] (by decide)) $$ [HO S0]
  · isplitr; · iexact HR
    isplitl [HO] <;> iassumption
  iintro ⟨HO, S0⟩
  iapply (wp_ph4 X W K 1 [] (by decide)) $$ [HO S1]
  · isplitr; · iexact HR
    isplitl [HO] <;> iassumption
  iintro ⟨HO, S1⟩
  iapply (wp_ph4 X W K 2 [] (by decide)) $$ [HO S2]
  · isplitr; · iexact HR
    isplitl [HO] <;> iassumption
  iintro ⟨HO, S2⟩
  iapply (wp_cC X W K [] (by decide)) $$ [HO Hacc He Ho3]
  · isplitr; · iexact HR
    isplitl [HO]; · iexact HO
    isplitl [Hacc]; · iexact Hacc
    isplitl [He] <;> iassumption
  iintro ⟨HO, Hacc, He, Ho3⟩
  iapply (wp_czEnd X W K [] (by decide)) $$ [HO G0 G1 G2]
  · isplitr; · iexact HR
    isplitl [HO]; · iexact HO
    isplitl [G0]; · iexact G0
    isplitl [G1] <;> iassumption
  iintro ⟨HO, ⟨G0, G1, G2⟩⟩
  iapply (wp_ph5 X W K 0 [] (by decide)) $$ [HO S0]
  · isplitr; · iexact HR
    isplitl [HO] <;> iassumption
  iintro ⟨HO, S0⟩
  iapply (wp_ph5 X W K 1 [] (by decide)) $$ [HO S1]
  · isplitr; · iexact HR
    isplitl [HO] <;> iassumption
  iintro ⟨HO, S1⟩
  iapply (wp_ph5 X W K 2 [] (by decide)) $$ [HO S2]
  · isplitr; · iexact HR
    isplitl [HO] <;> iassumption
  iintro ⟨HO, S2⟩
  iapply Hk
  isplitl [HO]; · iexact HO
  isplitl [Hx]; · iexact Hx
  isplitl [Hw]; · iexact Hw
  isplitl [HV]; · iexact HV
  isplitl [S0 S1 S2]
  · isplitl [S0]; · iexact S0
    isplitl [S1] <;> iassumption
  unfold Last1 Dn
  isplitl [Hacc]; · iexact Hacc
  isplitl [G0 G1 G2 R0 R1 R2]
  · isplitl [G0 R0]; · isplitl [G0] <;> iassumption
    isplitl [G1 R1]; · isplitl [G1] <;> iassumption
    isplitl [G2] <;> iassumption
  isplitl [Hc]; · iexact Hc
  isplitl [He] <;> iassumption

end Chain

end Cert.KernelIdeal.Tile
-- ==== Proof.Mem.lean ====
module

public import proofs.«01_k».proof.Proof.Chain

@[expose] public section

set_option synthInstance.maxSize 4096
set_option maxRecDepth 4000

/-! # The buffers cut into the pieces the body works on, and put together again -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Cut

variable {d : Dev nD} {s : Shape} {e : EltTy} {m : Memref sig .tc .vmem s e} {S A B C D : Finset s.Idx} {f : s.Idx → Elt F e}

omit [FloatOps F] in
theorem own_join_same (hd : Disjoint A B) : iprop(own d m A f ∗ own d m B f) ⊢ (own d m (A ∪ B) f : sProp 𝕄) := by
  classical
  unfold own; iintro ⟨⟨%u, %hu, H1⟩, ⟨%v, %hv, H2⟩⟩
  have hs : m.view.setOn (A ∪ B) = m.view.setOn A ∪ m.view.setOn B := Finset.map_union _ _
  have hj : Disjoint (m.view.setOn A) (m.view.setOn B) := setOn_disjoint hd
  ihave H := (pointsTo_join (ℓ := m.view.loc (d : Thread nD τ)) (q := fullShare) (f := u) (g := v) hj) $$ [H1 H2]
  · isplitl [H1] <;> iassumption
  rw [hs]
  iexists _
  isplitr [H]; swap; · iexact H
  ipureintro
  intro x hx
  rcases Finset.mem_union.mp hx with h | h
  · rw [← hu x h]
    exact congrArg (_root_.cast _) (Finset.piecewise_eq_of_notMem _ _ _ (Finset.disjoint_left.mp hj (Finset.mem_map_of_mem _ h)))
  · rw [← hv x h]
    exact congrArg (_root_.cast _) (Finset.piecewise_eq_of_mem _ _ _ (Finset.mem_map_of_mem _ h))

omit [FloatOps F] in
theorem own_splitA (hd : Disjoint A B) : (ownA d m (A ∪ B) : sProp 𝕄) ⊢ iprop(ownA d m A ∗ ownA d m B) := by
  unfold ownA
  iintro ⟨%g, H⟩
  ihave H := (own_split hd) $$ H
  icases H with ⟨H, G⟩
  isplitl [H]
  · iexists g; iexact H
  · iexists g; iexact G

omit [FloatOps F] in
theorem split3 (hS : S = A ∪ (B ∪ C)) (h1 : Disjoint A (B ∪ C)) (h2 : Disjoint B C) :
    (ownA d m S : sProp 𝕄) ⊢ iprop(ownA d m A ∗ ownA d m B ∗ ownA d m C) := by
  subst hS
  exact (own_splitA h1).trans (sep_mono_right (own_splitA h2))

omit [FloatOps F] in
theorem join3 (hS : S = A ∪ (B ∪ C)) (h1 : Disjoint A (B ∪ C)) (h2 : Disjoint B C) :
    iprop(ownA d m A ∗ ownA d m B ∗ ownA d m C) ⊢ (ownA d m S : sProp 𝕄) := by
  subst hS
  exact (sep_mono_right (own_joinA h2)).trans (own_joinA h1)

omit [FloatOps F] in
theorem split4 (hS : S = A ∪ (B ∪ (C ∪ D))) (h1 : Disjoint A (B ∪ (C ∪ D))) (h2 : Disjoint B (C ∪ D)) (h3 : Disjoint C D) :
    (ownA d m S : sProp 𝕄) ⊢ iprop(ownA d m A ∗ ownA d m B ∗ ownA d m C ∗ ownA d m D) := by
  subst hS
  exact (own_splitA h1).trans (sep_mono_right ((own_splitA h2).trans (sep_mono_right (own_splitA h3))))

omit [FloatOps F] in
theorem join4 (hS : S = A ∪ (B ∪ (C ∪ D))) (h1 : Disjoint A (B ∪ (C ∪ D))) (h2 : Disjoint B (C ∪ D)) (h3 : Disjoint C D) :
    iprop(ownA d m A ∗ ownA d m B ∗ ownA d m C ∗ ownA d m D) ⊢ (ownA d m S : sProp 𝕄) := by
  subst hS
  exact (sep_mono_right ((sep_mono_right (own_joinA h3)).trans (own_joinA h2))).trans (own_joinA h1)

omit [FloatOps F] in
theorem join4_same (hS : S = A ∪ (B ∪ (C ∪ D))) (h1 : Disjoint A (B ∪ (C ∪ D))) (h2 : Disjoint B (C ∪ D)) (h3 : Disjoint C D) :
    iprop(own d m A f ∗ own d m B f ∗ own d m C f ∗ own d m D f) ⊢ (own d m S f : sProp 𝕄) := by
  subst hS
  exact (sep_mono_right ((sep_mono_right (own_join_same h3)).trans (own_join_same h2))).trans (own_join_same h1)

end Cut

/-! ## The cuts -/

/-- Three slabs. -/
theorem slabs (h w : ℕ) : (Finset.univ : Finset (S3 3 h w).Idx) = bx3 (0 : Fin 3).val 1 0 h 0 w ∪ (bx3 (1 : Fin 3).val 1 0 h 0 w ∪ bx3 (2 : Fin 3).val 1 0 h 0 w) := by
  ext i
  have h0 : (i 0).val < 3 := (i 0).isLt
  have h1 : (i 1).val < h := (i 1).isLt
  have h2 : (i 2).val < w := (i 2).isLt
  simp only [Finset.mem_union, mem_bx3, Finset.mem_univ, true_iff, Fin.val_zero, Fin.val_one, Fin.val_two]
  omega
theorem slabs1 (h w : ℕ) : Disjoint (bx3 (0 : Fin 3).val 1 0 h 0 w : Finset (S3 3 h w).Idx) (bx3 (1 : Fin 3).val 1 0 h 0 w ∪ bx3 (2 : Fin 3).val 1 0 h 0 w) :=
  Finset.disjoint_left.mpr fun i hi hj => by
    simp only [Finset.mem_union, mem_bx3, Fin.val_zero, Fin.val_one, Fin.val_two] at hi hj; omega
theorem slabs2 (h w : ℕ) : Disjoint (bx3 (1 : Fin 3).val 1 0 h 0 w : Finset (S3 3 h w).Idx) (bx3 (2 : Fin 3).val 1 0 h 0 w) :=
  Finset.disjoint_left.mpr fun i hi hj => by
    simp only [mem_bx3, Fin.val_one, Fin.val_two] at hi hj; omega

/-- Three strips of a stack of planes. -/
theorem strips {k : ℕ} (p l : ℕ) : (bx3 p l 0 64 0 768 : Finset (S3 k 64 768).Idx)
    = bx3 p l 0 64 (256 * (0 : Fin 3).val) 256 ∪ (bx3 p l 0 64 (256 * (1 : Fin 3).val) 256 ∪ bx3 p l 0 64 (256 * (2 : Fin 3).val) 256) := by
  ext i
  simp only [Finset.mem_union, mem_bx3, Fin.val_zero, Fin.val_one, Fin.val_two]
  omega
theorem strips1 {k : ℕ} (p l : ℕ) : Disjoint (bx3 p l 0 64 (256 * (0 : Fin 3).val) 256 : Finset (S3 k 64 768).Idx)
    (bx3 p l 0 64 (256 * (1 : Fin 3).val) 256 ∪ bx3 p l 0 64 (256 * (2 : Fin 3).val) 256) :=
  Finset.disjoint_left.mpr fun i hi hj => by
    simp only [Finset.mem_union, mem_bx3, Fin.val_zero, Fin.val_one, Fin.val_two] at hi hj; omega
theorem strips2 {k : ℕ} (p l : ℕ) : Disjoint (bx3 p l 0 64 (256 * (1 : Fin 3).val) 256 : Finset (S3 k 64 768).Idx)
    (bx3 p l 0 64 (256 * (2 : Fin 3).val) 256) :=
  Finset.disjoint_left.mpr fun i hi hj => by
    simp only [mem_bx3, Fin.val_one, Fin.val_two] at hi hj; omega

/-- Four strips of a matrix. -/
theorem quart (h : ℕ) : (Finset.univ : Finset (S2 h 1024).Idx)
    = bx2 0 h (256 * (0 : Fin 3).val) 256 ∪ (bx2 0 h (256 * (1 : Fin 3).val) 256 ∪ (bx2 0 h (256 * (2 : Fin 3).val) 256 ∪ bx2 0 h (256 * 3) 256)) := by
  ext i
  have h0 : (i 0).val < h := (i 0).isLt
  have h1 : (i 1).val < 1024 := (i 1).isLt
  simp only [Finset.mem_union, mem_bx2, Finset.mem_univ, true_iff, Fin.val_zero, Fin.val_one, Fin.val_two]
  omega
theorem quart1 (h : ℕ) : Disjoint (bx2 0 h (256 * (0 : Fin 3).val) 256 : Finset (S2 h 1024).Idx)
    (bx2 0 h (256 * (1 : Fin 3).val) 256 ∪ (bx2 0 h (256 * (2 : Fin 3).val) 256 ∪ bx2 0 h (256 * 3) 256)) :=
  Finset.disjoint_left.mpr fun i hi hj => by
    simp only [Finset.mem_union, mem_bx2, Fin.val_zero, Fin.val_one, Fin.val_two] at hi hj; omega
theorem quart2 (h : ℕ) : Disjoint (bx2 0 h (256 * (1 : Fin 3).val) 256 : Finset (S2 h 1024).Idx)
    (bx2 0 h (256 * (2 : Fin 3).val) 256 ∪ bx2 0 h (256 * 3) 256) :=
  Finset.disjoint_left.mpr fun i hi hj => by
    simp only [Finset.mem_union, mem_bx2, Fin.val_one, Fin.val_two] at hi hj; omega
theorem quart3 (h : ℕ) : Disjoint (bx2 0 h (256 * (2 : Fin 3).val) 256 : Finset (S2 h 1024).Idx) (bx2 0 h (256 * 3) 256) :=
  Finset.disjoint_left.mpr fun i hi hj => by
    simp only [mem_bx2, Fin.val_two] at hi hj; omega

section Mem

variable (X : Dev nD → Vec F S1024x64 .bf16) (W : Dev nD → Vec F S64x1024 .bf16)
variable {d : Dev nD}

/-- A device's working buffers, whole. -/
def Wk (d : Dev nD) : sProp 𝕄 :=
  iprop(ownA d accM Finset.univ ∗ ownA d p1sM Finset.univ ∗ ownA d p1rM Finset.univ ∗ ownA d p2sM Finset.univ ∗ ownA d p2rM Finset.univ
    ∗ ownA d zfM Finset.univ ∗ ownA d zrM Finset.univ ∗ ownA d czsM Finset.univ ∗ ownA d czrM Finset.univ
    ∗ ownA d c1sM Finset.univ ∗ ownA d c1rM Finset.univ ∗ ownA d c2sM Finset.univ ∗ ownA d c2rM Finset.univ)

theorem mem_start :
    iprop(Wk d ∗ ownA d oM Finset.univ) ⊢ (iprop((offer d 0 ∗ offer d 1 ∗ offer d 2 ∗ offer d 3 ∗ offer d 4)
        ∗ (Strip0 0 d ∗ Strip0 1 d ∗ Strip0 2 d) ∗ Last0 d) : sProp 𝕄) := by
  unfold Wk Last0 offer Strip0 land
  iintro ⟨⟨Ha, Hs1, Hr1, Hs2, Hr2, Hf, Hz, Hcs, Hcr, Gs1, Gr1, Gs2, Gr2⟩, Ho⟩
  ihave Ha := (split4 (m := accM) (quart 1024) (quart1 1024) (quart2 1024) (quart3 1024)) $$ Ha
  icases Ha with ⟨Ha0, Ha1, Ha2, Ha3⟩
  ihave Ho := (split4 (m := oM) (quart 64) (quart1 64) (quart2 64) (quart3 64)) $$ Ho
  icases Ho with ⟨Ho0, Ho1, Ho2, Ho3⟩
  ihave Hs1 := (split3 (m := p1sM) (slabs 512 256) (slabs1 512 256) (slabs2 512 256)) $$ Hs1
  icases Hs1 with ⟨Hs10, Hs11, Hs12⟩
  ihave Hr1 := (split3 (m := p1rM) (slabs 512 256) (slabs1 512 256) (slabs2 512 256)) $$ Hr1
  icases Hr1 with ⟨Hr10, Hr11, Hr12⟩
  ihave Hs2 := (split3 (m := p2sM) (slabs 256 256) (slabs1 256 256) (slabs2 256 256)) $$ Hs2
  icases Hs2 with ⟨Hs20, Hs21, Hs22⟩
  ihave Hr2 := (split3 (m := p2rM) (slabs 256 256) (slabs1 256 256) (slabs2 256 256)) $$ Hr2
  icases Hr2 with ⟨Hr20, Hr21, Hr22⟩
  ihave Hcs := (split3 (m := czsM) (slabs 256 256) (slabs1 256 256) (slabs2 256 256)) $$ Hcs
  icases Hcs with ⟨Hcs0, Hcs1, Hcs2⟩
  ihave Hcr := (split3 (m := czrM) (slabs 256 256) (slabs1 256 256) (slabs2 256 256)) $$ Hcr
  icases Hcr with ⟨Hcr0, Hcr1, Hcr2⟩
  rw [show (Finset.univ : Finset (S3 4 64 768).Idx) = bx3 0 4 0 64 0 768 from bx3_univ.symm]
  ihave Hf := (split3 (m := zfM) (strips 0 4) (strips1 0 4) (strips2 0 4)) $$ Hf
  icases Hf with ⟨Hf0, Hf1, Hf2⟩
  ihave Hz := (split3 (m := zrM) (slabs 64 768) (slabs1 64 768) (slabs2 64 768)) $$ Hz
  icases Hz with ⟨Hz0, Hz1, Hz2⟩
  ihave Hz0 := (split3 (m := zrM) (strips (0 : Fin 3).val 1) (strips1 (0 : Fin 3).val 1) (strips2 (0 : Fin 3).val 1)) $$ Hz0
  icases Hz0 with ⟨Hz00, Hz01, Hz02⟩
  ihave Hz1 := (split3 (m := zrM) (strips (1 : Fin 3).val 1) (strips1 (1 : Fin 3).val 1) (strips2 (1 : Fin 3).val 1)) $$ Hz1
  icases Hz1 with ⟨Hz10, Hz11, Hz12⟩
  ihave Hz2 := (split3 (m := zrM) (strips (2 : Fin 3).val 1) (strips1 (2 : Fin 3).val 1) (strips2 (2 : Fin 3).val 1)) $$ Hz2
  icases Hz2 with ⟨Hz20, Hz21, Hz22⟩
  rw [show (Finset.univ : Finset (S2 128 256).Idx) = bx2 0 128 0 256 from bx2_univ.symm, show (Finset.univ : Finset (S2 64 256).Idx) = bx2 0 64 0 256 from bx2_univ.symm]
  isplitl [Hr10 Hr11 Hr12 Hr20 Hr21 Hr22 Hcr0 Hcr1 Hcr2 Gr1 Gr2 Hz00 Hz01 Hz02 Hz10 Hz11 Hz12 Hz20 Hz21 Hz22]
  · isplitl [Hr10 Hr12 Hr21 Gr2]
    · isplitl [Hr10]; · iexact Hr10
      isplitl [Hr12]; · iexact Hr12
      isplitl [Hr21]; · iexact Hr21
      iexact Gr2
    isplitl [Hr11 Hr20 Hr22 Gr1]
    · isplitl [Hr11]; · iexact Hr11
      isplitl [Hr20]; · iexact Hr20
      isplitl [Hr22]; · iexact Hr22
      iexact Gr1
    isplitl [Hcr0 Hz00 Hz01 Hz02]
    · isplitl [Hcr0]; · iexact Hcr0
      isplitl [Hz00]; · iexact Hz00
      isplitl [Hz01]; · iexact Hz01
      iexact Hz02
    isplitl [Hcr1 Hz10 Hz11 Hz12]
    · isplitl [Hcr1]; · iexact Hcr1
      isplitl [Hz10]; · iexact Hz10
      isplitl [Hz11]; · iexact Hz11
      iexact Hz12
    isplitl [Hcr2]; · iexact Hcr2
    isplitl [Hz20]; · iexact Hz20
    isplitl [Hz21]; · iexact Hz21
    iexact Hz22
  isplitl [Ha0 Ha1 Ha2 Hs10 Hs11 Hs12 Hs20 Hs21 Hs22 Hf0 Hf1 Hf2 Ho0 Ho1 Ho2]
  · isplitl [Ha0 Hs10 Hs20 Hf0 Ho0]
    · isplitl [Ha0]; · iexact Ha0
      isplitl [Hs10]; · iexact Hs10
      isplitl [Hs20]; · iexact Hs20
      isplitl [Hf0]; · iexact Hf0
      iexact Ho0
    isplitl [Ha1 Hs11 Hs21 Hf1 Ho1]
    · isplitl [Ha1]; · iexact Ha1
      isplitl [Hs11]; · iexact Hs11
      isplitl [Hs21]; · iexact Hs21
      isplitl [Hf1]; · iexact Hf1
      iexact Ho1
    isplitl [Ha2]; · iexact Ha2
    isplitl [Hs12]; · iexact Hs12
    isplitl [Hs22]; · iexact Hs22
    isplitl [Hf2]; · iexact Hf2
    iexact Ho2
  isplitl [Ha3]; · iexact Ha3
  isplitl [Hcs0 Hcs1 Hcs2]
  · isplitl [Hcs0]; · iexact Hcs0
    isplitl [Hcs1]; · iexact Hcs1
    iexact Hcs2
  isplitl [Gs1]; · iexact Gs1
  isplitl [Gs2]; · iexact Gs2
  iexact Ho3

/-- A copy's two semaphores at rest. -/
def SV (d : Dev nD) (t : Tr) : sProp 𝕄 := iprop(semVal (cell d (.snd t)) 0 ∗ semVal (cell d (.rcv t)) 0)

theorem dn_sv (t : Tr) : (Dn d t : sProp 𝕄) ⊢ iprop(SV d t ∗ sPay d t ∗ land d t) := by
  unfold Dn DnS DnR SV
  iintro ⟨⟨H1, H2⟩, ⟨H3, H4⟩⟩
  isplitl [H1 H3]; · isplitl [H1] <;> iassumption
  isplitl [H2] <;> iassumption

/-- A strip's pieces at the end. -/
def StripM (s : Fin 3) (d : Dev nD) : sProp 𝕄 :=
  iprop(ownA d accM (accB s.val) ∗ ownA d p1sM (bx3 s.val 1 0 512 0 256) ∗ ownA d p1rM (bx3 s.val 1 0 512 0 256)
    ∗ ownA d p2sM (bx3 s.val 1 0 256 0 256) ∗ ownA d p2rM (bx3 s.val 1 0 256 0 256) ∗ ownA d zfM (stripZ s)
    ∗ (ownA d zrM (bx3 (0 : Fin 3).val 1 0 64 (256 * s.val) 256) ∗ ownA d zrM (bx3 (1 : Fin 3).val 1 0 64 (256 * s.val) 256) ∗ ownA d zrM (bx3 (2 : Fin 3).val 1 0 64 (256 * s.val) 256)))
def StripV (s : Fin 3) (d : Dev nD) : sProp 𝕄 := iprop(SV d (.p1 s) ∗ SV d (.p2 s) ∗ SV d (.z 0 s) ∗ SV d (.z 1 s) ∗ SV d (.z 2 s))

theorem strip_end (s : Fin 3) : (St5 X W s d : sProp 𝕄) ⊢ iprop(StripM s d ∗ StripV s d ∗ own d oM (stripO s.val) (c2 (OUT X W d))) := by
  unfold St5 StripM StripV
  iintro ⟨Ha, D1, D2, Hz, Z0, Z1, Z2, Ho⟩
  ihave D1 := (dn_sv (.p1 s)) $$ D1
  icases D1 with ⟨V1, S1, L1⟩
  ihave D2 := (dn_sv (.p2 s)) $$ D2
  icases D2 with ⟨V2, S2, L2⟩
  ihave Z0 := (dn_sv (.z 0 s)) $$ Z0
  icases Z0 with ⟨U0, T0, M0⟩
  ihave Z1 := (dn_sv (.z 1 s)) $$ Z1
  icases Z1 with ⟨U1, T1, M1⟩
  ihave Z2 := (dn_sv (.z 2 s)) $$ Z2
  icases Z2 with ⟨U2, T2, M2⟩
  unfold sPay land
  ihave Hf := (zf_join s) $$ [Hz T0 T1 T2]
  · isplitl [Hz]; · iexact Hz
    isplitl [T0]; · iexact T0
    isplitl [T1]; · iexact T1
    iexact T2
  isplitl [Ha S1 L1 S2 L2 Hf M0 M1 M2]
  · isplitl [Ha]; · iexact Ha
    isplitl [S1]; · iexact S1
    isplitl [L1]; · iexact L1
    isplitl [S2]; · iexact S2
    isplitl [L2]; · iexact L2
    isplitl [Hf]; · iexact Hf
    isplitl [M0]; · iexact M0
    isplitl [M1]; · iexact M1
    iexact M2
  isplitl [V1 V2 U0 U1 U2]
  · isplitl [V1]; · iexact V1
    isplitl [V2]; · iexact V2
    isplitl [U0]; · iexact U0
    isplitl [U1] <;> iassumption
  iexact Ho

/-- All copies' semaphores at rest. -/
def allV (d : Dev nD) : sProp 𝕄 := iprop((StripV 0 d ∗ StripV 1 d ∗ StripV 2 d) ∗ SV d (.cz 0) ∗ SV d (.cz 1) ∗ SV d (.cz 2) ∗ SV d .c1 ∗ SV d .c2)

theorem mem_end :
    iprop((St5 X W 0 d ∗ St5 X W 1 d ∗ St5 X W 2 d) ∗ Last1 X W d) ⊢ (iprop(Wk d ∗ own d oM Finset.univ (c2 (OUT X W d)) ∗ allV d) : sProp 𝕄) := by
  unfold Last1 allV Wk
  iintro ⟨⟨S0, S1, S2⟩, ⟨Ha3, ⟨C0, C1, C2⟩, D1, D2, Ho3⟩⟩
  ihave S0 := (strip_end X W 0) $$ S0
  icases S0 with ⟨S0, V0, Ho0⟩
  ihave S1 := (strip_end X W 1) $$ S1
  icases S1 with ⟨S1, V1, Ho1⟩
  ihave S2 := (strip_end X W 2) $$ S2
  icases S2 with ⟨S2, V2, Ho2⟩
  unfold StripM
  icases S0 with ⟨Ha0, Hs10, Hr10, Hs20, Hr20, Hf0, ⟨Hz00, Hz10, Hz20⟩⟩
  icases S1 with ⟨Ha1, Hs11, Hr11, Hs21, Hr21, Hf1, ⟨Hz01, Hz11, Hz21⟩⟩
  icases S2 with ⟨Ha2, Hs12, Hr12, Hs22, Hr22, Hf2, ⟨Hz02, Hz12, Hz22⟩⟩
  ihave C0 := (dn_sv (.cz 0)) $$ C0
  icases C0 with ⟨CV0, Cs0, Cr0⟩
  ihave C1 := (dn_sv (.cz 1)) $$ C1
  icases C1 with ⟨CV1, Cs1, Cr1⟩
  ihave C2 := (dn_sv (.cz 2)) $$ C2
  icases C2 with ⟨CV2, Cs2, Cr2⟩
  ihave D1 := (dn_sv .c1) $$ D1
  icases D1 with ⟨DV1, Ds1, Dr1⟩
  ihave D2 := (dn_sv .c2) $$ D2
  icases D2 with ⟨DV2, Ds2, Dr2⟩
  unfold sPay land
  ihave Ha := (join4 (m := accM) (quart 1024) (quart1 1024) (quart2 1024) (quart3 1024)) $$ [Ha0 Ha1 Ha2 Ha3]
  · isplitl [Ha0]; · iexact Ha0
    isplitl [Ha1]; · iexact Ha1
    isplitl [Ha2] <;> iassumption
  ihave Ho := (join4_same (m := oM) (quart 64) (quart1 64) (quart2 64) (quart3 64)) $$ [Ho0 Ho1 Ho2 Ho3]
  · isplitl [Ho0]; · iexact Ho0
    isplitl [Ho1]; · iexact Ho1
    isplitl [Ho2] <;> iassumption
  ihave Hs1 := (join3 (m := p1sM) (slabs 512 256) (slabs1 512 256) (slabs2 512 256)) $$ [Hs10 Hs11 Hs12]
  · isplitl [Hs10]; · iexact Hs10
    isplitl [Hs11] <;> iassumption
  ihave Hr1 := (join3 (m := p1rM) (slabs 512 256) (slabs1 512 256) (slabs2 512 256)) $$ [Hr10 Hr11 Hr12]
  · isplitl [Hr10]; · iexact Hr10
    isplitl [Hr11] <;> iassumption
  ihave Hs2 := (join3 (m := p2sM) (slabs 256 256) (slabs1 256 256) (slabs2 256 256)) $$ [Hs20 Hs21 Hs22]
  · isplitl [Hs20]; · iexact Hs20
    isplitl [Hs21] <;> iassumption
  ihave Hr2 := (join3 (m := p2rM) (slabs 256 256) (slabs1 256 256) (slabs2 256 256)) $$ [Hr20 Hr21 Hr22]
  · isplitl [Hr20]; · iexact Hr20
    isplitl [Hr21] <;> iassumption
  ihave Hcs := (join3 (m := czsM) (slabs 256 256) (slabs1 256 256) (slabs2 256 256)) $$ [Cs0 Cs1 Cs2]
  · isplitl [Cs0]; · iexact Cs0
    isplitl [Cs1]; · iexact Cs1
    iexact Cs2
  ihave Hcr := (join3 (m := czrM) (slabs 256 256) (slabs1 256 256) (slabs2 256 256)) $$ [Cr0 Cr1 Cr2]
  · isplitl [Cr0]; · iexact Cr0
    isplitl [Cr1]; · iexact Cr1
    iexact Cr2
  rw [show (Finset.univ : Finset (S3 4 64 768).Idx) = bx3 0 4 0 64 0 768 from bx3_univ.symm]
  ihave Hf := (join3 (m := zfM) (strips 0 4) (strips1 0 4) (strips2 0 4)) $$ [Hf0 Hf1 Hf2]
  · isplitl [Hf0]; · iexact Hf0
    isplitl [Hf1] <;> iassumption
  ihave Hz0 := (join3 (m := zrM) (strips (0 : Fin 3).val 1) (strips1 (0 : Fin 3).val 1) (strips2 (0 : Fin 3).val 1)) $$ [Hz00 Hz01 Hz02]
  · isplitl [Hz00]; · iexact Hz00
    isplitl [Hz01] <;> iassumption
  ihave Hz1 := (join3 (m := zrM) (strips (1 : Fin 3).val 1) (strips1 (1 : Fin 3).val 1) (strips2 (1 : Fin 3).val 1)) $$ [Hz10 Hz11 Hz12]
  · isplitl [Hz10]; · iexact Hz10
    isplitl [Hz11] <;> iassumption
  ihave Hz2 := (join3 (m := zrM) (strips (2 : Fin 3).val 1) (strips1 (2 : Fin 3).val 1) (strips2 (2 : Fin 3).val 1)) $$ [Hz20 Hz21 Hz22]
  · isplitl [Hz20]; · iexact Hz20
    isplitl [Hz21] <;> iassumption
  ihave Hz := (join3 (m := zrM) (slabs 64 768) (slabs1 64 768) (slabs2 64 768)) $$ [Hz0 Hz1 Hz2]
  · isplitl [Hz0]; · iexact Hz0
    isplitl [Hz1] <;> iassumption
  rw [show (Finset.univ : Finset (S2 128 256).Idx) = bx2 0 128 0 256 from bx2_univ.symm, show (Finset.univ : Finset (S2 64 256).Idx) = bx2 0 64 0 256 from bx2_univ.symm]
  isplitl [Ha Hs1 Hr1 Hs2 Hr2 Hf Hz Hcs Hcr Ds1 Dr1 Ds2 Dr2]
  · isplitl [Ha]; · iexact Ha
    isplitl [Hs1]; · iexact Hs1
    isplitl [Hr1]; · iexact Hr1
    isplitl [Hs2]; · iexact Hs2
    isplitl [Hr2]; · iexact Hr2
    isplitl [Hf]; · iexact Hf
    isplitl [Hz]; · iexact Hz
    isplitl [Hcs]; · iexact Hcs
    isplitl [Hcr]; · iexact Hcr
    isplitl [Ds1]; · iexact Ds1
    isplitl [Dr1]; · iexact Dr1
    isplitl [Ds2]; · iexact Ds2
    iexact Dr2
  isplitl [Ho]; · iexact Ho
  isplitl [V0 V1 V2]
  · isplitl [V0]; · iexact V0
    isplitl [V1] <;> iassumption
  isplitl [CV0]; · iexact CV0
  isplitl [CV1]; · iexact CV1
  isplitl [CV2]; · iexact CV2
  isplitl [DV1] <;> iassumption

/-! ## Whole buffers -/

omit [FloatOps F] in
theorem whole_ownA {s : Shape} {e : EltTy} {m : Memref sig .tc .vmem s e} (hm : m.view.set = Finset.univ) :
    iprop(∃ f : Buf (Elt F) (m.view.loc (d : Thread nD τ)), (m.view.loc (d : Thread nD τ)) ↦{fullShare} f) ⊢ (ownA d m Finset.univ : sProp 𝕄) := by
  unfold ownA own
  iintro ⟨%f, H⟩
  iexists (m.view.read (Elt F) f)
  iexists f
  isplitr; · ipureintro; exact fun _ _ => rfl
  rw [View.setOn_univ, hm]; iexact H

omit [FloatOps F] in
theorem ownA_whole {s : Shape} {e : EltTy} {m : Memref sig .tc .vmem s e} (hm : m.view.set = Finset.univ) :
    (ownA d m Finset.univ : sProp 𝕄) ⊢ iprop(∃ f : Buf (Elt F) (m.view.loc (d : Thread nD τ)), (m.view.loc (d : Thread nD τ)) ↦{fullShare} f) := by
  unfold ownA own
  iintro ⟨%f, %g, %h, H⟩
  iexists g
  rw [View.setOn_univ, hm]; iexact H

/-- The working buffers as the launch deals them. -/
theorem wk_eq : (Pipeline.scopedRest (Ix := Unit) (Name := ℕ) (U := UU) (Lvl := ℕ) (Val := Elt F) spec0 d : sProp 𝕄) = Wk d := by
  have h : ∀ {s : Shape} {e : EltTy} {m : Memref sig .tc .vmem s e} (hm : m.view.set = Finset.univ),
      iprop(∃ f : Buf (Elt F) (m.view.loc (d : Thread nD τ)), (m.view.loc (d : Thread nD τ)) ↦{fullShare} f) = (ownA d m Finset.univ : sProp 𝕄) :=
    fun hm => BI.Entails.antisymm (whole_ownA hm) (ownA_whole hm)
  rw [scopedRest0_eq]
  unfold Wk
  rw [← h (m := accM) (View.set_whole _), ← h (m := p1sM) (View.set_whole _), ← h (m := p1rM) (View.set_whole _), ← h (m := p2sM) (View.set_whole _),
    ← h (m := p2rM) (View.set_whole _), ← h (m := zfM) (View.set_whole _), ← h (m := zrM) (View.set_whole _), ← h (m := czsM) (View.set_whole _),
    ← h (m := czrM) (View.set_whole _), ← h (m := c1sM) (View.set_whole _), ← h (m := c1rM) (View.set_whole _), ← h (m := c2sM) (View.set_whole _),
    ← h (m := c2rM) (View.set_whole _)]

end Mem

end Cert.KernelIdeal.Tile
-- ==== Proof.Deal.lean ====
module

public import proofs.«01_k».proof.Proof.Mem
public import Mathlib.Tactic.Abel

@[expose] public section

set_option synthInstance.maxSize 4096
set_option maxRecDepth 4000

/-! # What the launch deals: cells, tokens, credits -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over cells and copies -/

def sndE : Tr ↪ Cx := ⟨Cx.snd, fun _ _ h => by cases h; rfl⟩
def rcvE : Tr ↪ Cx := ⟨Cx.rcv, fun _ _ h => by cases h; rfl⟩

theorem univ_cx : (Finset.univ : Finset Cx) = {Cx.bar} ∪ (Finset.univ.map sndE ∪ Finset.univ.map rcvE) := by
  ext x
  cases x with
  | bar => simp
  | snd t => simp only [Finset.mem_univ, true_iff, Finset.mem_union]; exact Or.inr (Or.inl (Finset.mem_map.mpr ⟨t, Finset.mem_univ t, rfl⟩))
  | rcv t => simp only [Finset.mem_univ, true_iff, Finset.mem_union]; exact Or.inr (Or.inr (Finset.mem_map.mpr ⟨t, Finset.mem_univ t, rfl⟩))

omit [FloatOps F] in
theorem bigSep_cx (Φ : Cx → sProp 𝕄) : bigSep Finset.univ Φ
    = iprop(Φ .bar ∗ (bigSep Finset.univ fun t : Tr => Φ (.snd t)) ∗ bigSep Finset.univ fun t : Tr => Φ (.rcv t)) := by
  rw [univ_cx, bigSep_union (Finset.disjoint_left.mpr fun x hx hy => by
      rw [Finset.mem_singleton] at hx; subst hx; simp [sndE, rcvE] at hy),
    bigSep_union (Finset.disjoint_left.mpr fun x hx hy => by
      obtain ⟨t, -, rfl⟩ := Finset.mem_map.mp hx
      simp [sndE, rcvE] at hy),
    bigSep_singleton, bigSep_map, bigSep_map]
  rfl

/-- The copies, strip by strip, the last one's at the end. -/
def trL : List Tr := [.p1 0, .p2 0, .z 0 0, .z 1 0, .z 2 0, .p1 1, .p2 1, .z 0 1, .z 1 1, .z 2 1, .p1 2, .p2 2, .z 0 2, .z 1 2, .z 2 2, .cz 0, .cz 1, .cz 2, .c1, .c2]
theorem trL_univ : (Finset.univ : Finset Tr) = trL.toFinset := by decide +kernel
theorem trL_nodup : trL.Nodup := by decide +kernel

omit [FloatOps F] in
theorem bigSep_tr (Φ : Tr → sProp 𝕄) : bigSep Finset.univ Φ
    = iprop((Φ (.p1 0) ∗ Φ (.p2 0) ∗ Φ (.z 0 0) ∗ Φ (.z 1 0) ∗ Φ (.z 2 0)) ∗ (Φ (.p1 1) ∗ Φ (.p2 1) ∗ Φ (.z 0 1) ∗ Φ (.z 1 1) ∗ Φ (.z 2 1))
      ∗ (Φ (.p1 2) ∗ Φ (.p2 2) ∗ Φ (.z 0 2) ∗ Φ (.z 1 2) ∗ Φ (.z 2 2)) ∗ Φ (.cz 0) ∗ Φ (.cz 1) ∗ Φ (.cz 2) ∗ Φ .c1 ∗ Φ .c2) := by
  rw [bigSep_univ_eq_bigSepL trL trL_univ trL_nodup]
  unfold trL
  simp only [bigSepL_cons_cons, bigSepL_singleton]
  have a : ∀ A B C : sProp 𝕄, iprop((A ∗ B) ∗ C) = iprop(A ∗ (B ∗ C)) := fun A B C => sep_assoc.antisymm sep_assoc'
  simp only [a]
  rfl

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- Meeting is mutual. -/
def nbrE : Dev nD × Fin 5 ≃ Dev nD × Fin 5 :=
  ⟨fun p => (nbr p.1 p.2, opp p.1 p.2), fun p => (nbr p.1 p.2, opp p.1 p.2), fun p => Prod.ext (nbr_nbr _ _) (opp_opp _ _), fun p => Prod.ext (nbr_nbr _ _) (opp_opp _ _)⟩
def peerE : Dev nD × Tr ≃ Dev nD × Tr :=
  ⟨fun p => (peerT p.1 p.2, mateT p.1 p.2), fun p => (peerT p.1 p.2, mateT p.1 p.2), fun p => Prod.ext (peer_peer _ _) (mate_mate _ _), fun p => Prod.ext (peer_peer _ _) (mate_mate _ _)⟩

/-! ## The credit -/

def barL : List Du := [.bar 0, .bar 1, .bar 2, .bar 3, .bar 4]
def cpL : List Tr := [.cz 0, .cz 1, .cz 2, .p1 0, .p1 1, .p1 2, .p2 0, .p2 1, .p2 2, .c1, .z 0 0, .z 1 0, .z 2 0, .z 0 1, .z 1 1, .z 2 1, .z 0 2, .z 1 2, .z 2 2, .c2]
theorem cpL_univ : cpL.toFinset = Finset.univ := by decide +kernel
theorem cpL_nodup : cpL.Nodup := by decide +kernel

theorem due_cps (d : Dev nD) : ∀ l : List Tr, due d (l.map Du.cp) = (l.map fun t => tallyAt (tgt d (.cp t)) () (amt t)).sum
  | [] => rfl
  | t :: l => by
    rw [List.map_cons, List.map_cons, List.sum_cons, due, due_cps d l, add_comm]; rfl

theorem due_dues (d : Dev nD) : due d dues
    = (∑ i : Fin 5, tallyAt (cell (nbr d i) .bar) () 1) + ∑ t : Tr, tallyAt (cell (peerT d t) (.rcv (mateT d t))) () (amt t) := by
  have h : (∑ t : Tr, tallyAt (cell (peerT d t) (.rcv (mateT d t))) () (amt t)) = due d (cpL.map Du.cp) := by
    rw [due_cps, ← List.sum_toFinset _ cpL_nodup, cpL_univ]; rfl
  rw [h, Fin.sum_univ_five]
  show due d (.bar 0 :: .bar 1 :: .bar 2 :: .bar 3 :: .bar 4 :: cpL.map Du.cp) = _
  simp only [due]
  show _ + tallyAt (cell (nbr d 4) .bar) () 1 + tallyAt (cell (nbr d 3) .bar) () 1 + tallyAt (cell (nbr d 2) .bar) () 1 + tallyAt (cell (nbr d 1) .bar) () 1
    + tallyAt (cell (nbr d 0) .bar) () 1 = _
  abel

/-- A device's own waits' credit. -/
def crT (d : Dev nD) : CellTallies nD τ sig Unit := tallyAt (cell d .bar) () 5 + ∑ t : Tr, tallyAt (cell d (.rcv t)) () (amt t)

theorem crT_sum : (∑ d : Dev nD, due d dues) = ∑ d : Dev nD, crT d := by
  simp only [due_dues, crT, Finset.sum_add_distrib]
  congr 1
  · rw [← Finset.sum_product' Finset.univ Finset.univ (fun (d : Dev nD) (i : Fin 5) => (tallyAt (cell (nbr d i) .bar) () 1 : CellTallies nD τ sig Unit)),
      Finset.univ_product_univ,
      show (∑ p : Dev nD × Fin 5, (tallyAt (cell (nbr p.1 p.2) .bar) () 1 : CellTallies nD τ sig Unit)) = ∑ p : Dev nD × Fin 5, tallyAt (cell p.1 .bar) () 1 from
        Equiv.sum_comp nbrE (fun p : Dev nD × Fin 5 => (tallyAt (cell p.1 .bar) () 1 : CellTallies nD τ sig Unit)),
      ← Finset.univ_product_univ, Finset.sum_product' Finset.univ Finset.univ (fun (d : Dev nD) (i : Fin 5) => (tallyAt (cell d .bar) () 1 : CellTallies nD τ sig Unit))]
    exact Finset.sum_congr rfl fun d _ => by rw [Fin.sum_univ_five]; simp only [tallyAt_add]
  · rw [← Finset.sum_product' Finset.univ Finset.univ (fun (d : Dev nD) (t : Tr) => (tallyAt (cell (peerT d t) (.rcv (mateT d t))) () (amt t) : CellTallies nD τ sig Unit)),
      Finset.univ_product_univ,
      Finset.sum_congr rfl fun (p : Dev nD × Tr) _ => show (tallyAt (cell (peerT p.1 p.2) (.rcv (mateT p.1 p.2))) () (amt p.2) : CellTallies nD τ sig Unit)
        = (fun q : Dev nD × Tr => tallyAt (cell q.1 (.rcv q.2)) () (amt q.2)) (peerE p) from by
          show _ = tallyAt (cell (peerT p.1 p.2) (.rcv (mateT p.1 p.2))) () (amt (mateT p.1 p.2)); rw [amt_mate],
      Equiv.sum_comp peerE (fun q : Dev nD × Tr => (tallyAt (cell q.1 (.rcv q.2)) () (amt q.2) : CellTallies nD τ sig Unit)),
      ← Finset.univ_product_univ, Finset.sum_product' Finset.univ Finset.univ (fun (d : Dev nD) (t : Tr) => (tallyAt (cell d (.rcv t)) () (amt t) : CellTallies nD τ sig Unit))]

theorem crT_own (d : Dev nD) (g : GSem nD τ sig) (h : crT d g ≠ 0) : g.1 = (d.tc : Thread nD τ) := by
  by_contra hn
  apply h
  unfold crT
  have hc (x : Cx) : g ≠ cell d x := fun e => hn (by rw [e])
  rw [Pi.add_apply, Finset.sum_apply, tallyAt_ne_cell (hc .bar), zero_add]
  exact Finset.sum_eq_zero fun t _ => tallyAt_ne_cell (hc (.rcv t)) _ _

omit [FloatOps F] in
theorem creds (d : Dev nD) : (Pipeline.launchCred (fun d => due d dues) d : sProp 𝕄)
    ⊢ iprop(cred (tallyAt (cell d .bar) () 5) ∗ bigSep Finset.univ fun t : Tr => cred (tallyAt (cell d (.rcv t)) () (amt t))) := by
  rw [Pipeline.launchCred_of_sum (fun d => due d dues) crT crT_sum crT_own d]
  unfold crT
  rw [← Pipeline.cred_finsetSum]
  exact (cred_add _ _).1

/-! ## The cells and their tokens -/

def kcell (p : Dev nD × Cx) : GSem nD τ sig := cell p.1 p.2
theorem kcell_injective : Function.Injective kcell := fun p q h => by
  obtain ⟨h1, h2⟩ := cell_inj h
  exact Prod.ext h1 h2
def ringCells : Finset (GSem nD τ sig) := Finset.univ.map ⟨kcell, kcell_injective⟩
def tokOf (p : (Dev nD × Cx) × Fin 5) : GSem nD τ sig × ℕ × Fin 5 := (kcell p.1, 0, p.2)
theorem tokOf_injective : Function.Injective tokOf := fun p q h =>
  Prod.ext (kcell_injective (congrArg Prod.fst h)) (congrArg (fun x : GSem nD τ sig × ℕ × Fin 5 => x.2.2) h)
def ringToks : Finset (GSem nD τ sig × ℕ × Fin 5) := Finset.univ.map ⟨tokOf, tokOf_injective⟩

def u₀ : UU := (initOf (Pipeline.cells cfgs cellOf_inj) (Pipeline.launchToks cfgs cellOf_inj), initOf ringCells ringToks)

def osem (p : Bool × Tr) : SemLoc sig := if p.1 then .dma (rIx p.2) else .dma (sIx p.2)
set_option maxHeartbeats 1000000 in
theorem ownSemFacts : Pipeline.OwnSemFacts cfg0.spec osem := by decide +kernel

omit [FloatOps F] in
theorem ownSems0_eq (d : Dev nD) : (Pipeline.ownSems0 (Ix := Unit) (Name := ℕ) (U := UU) (Lvl := ℕ) (Val := Elt F) (τ := τ) osem d : sProp 𝕄)
    = iprop((bigSep Finset.univ fun t : Tr => semVal (cell d (.rcv t)) 0) ∗ bigSep Finset.univ fun t : Tr => semVal (cell d (.snd t)) 0) := by
  unfold Pipeline.ownSems0
  rw [bigSep_univ_prod, bigSep_univ_eq_bigSepL [true, false] (by decide) (by decide)]
  rfl
omit [FloatOps F] in
theorem unscopedSems0_eq (d : Dev nD) : (unscopedSems0 d : sProp 𝕄) = semVal (cell d .bar) 0 := by
  unfold unscopedSems0; rw [bigSep_eq_bigSepL_of_eq [SemLoc.reg barS] (by decide) (by decide)]; rfl

omit [FloatOps F] in
theorem sems0 (d : Dev nD) :
    iprop(Pipeline.ownSems0 (Ix := Unit) (Name := ℕ) (U := UU) (Lvl := ℕ) (Val := Elt F) (τ := τ) osem d ∗ unscopedSems0 d)
      ⊢ (bigSep Finset.univ fun x : Cx => semVal (kcell (d, x)) 0 : sProp 𝕄) := by
  rw [ownSems0_eq, unscopedSems0_eq, bigSep_cx]
  iintro ⟨⟨HV, HS⟩, HB⟩
  isplitl [HB]; · iexact HB
  isplitl [HS]; · iexact HS
  iexact HV

section Deal

variable (X : Dev nD → Vec F S1024x64 .bf16) (W : Dev nD → Vec F S64x1024 .bf16)

/-- What the launch's element deals a device. -/
def G (d : Dev nD) : sProp 𝕄 :=
  iprop((bigSep Finset.univ fun x : Cx => roundState ER (Rd X W) (kcell (d, x)) 0)
    ∗ (bigSep Finset.univ fun x : Cx => iprop(atPos ER (kcell (d, x)) 0 ∅ 0 ∗ reached ER (kcell (d, x)) 0))
    ∗ bigSep Finset.univ fun x : Cx => bigSep Finset.univ fun i : Fin 5 => dutyTok ER (kcell (d, x)) 0 i)

theorem fund_ring : BI.own (ER (initOf ringCells ringToks)) ⊢ (|==> bigSep Finset.univ (G X W) : sProp 𝕄) := by
  have hX (Φ : GSem nD τ sig → sProp 𝕄) : bigSep ringCells Φ = bigSep Finset.univ fun d : Dev nD => bigSep Finset.univ fun x : Cx => Φ (kcell (d, x)) := by
    unfold ringCells; rw [bigSep_map, bigSep_univ_prod]; rfl
  have hT : bigSep ringToks (fun x => (dutyTok ER x.1 x.2.1 x.2.2 : sProp 𝕄))
      = bigSep Finset.univ fun d : Dev nD => bigSep Finset.univ fun x : Cx => bigSep Finset.univ fun i : Fin 5 => dutyTok ER (kcell (d, x)) 0 i := by
    unfold ringToks; rw [bigSep_map, bigSep_univ_prod, bigSep_univ_prod]; rfl
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (d : Dev nD) :
    iprop(Pipeline.ownSems0 (Ix := Unit) (Name := ℕ) (U := UU) (Lvl := ℕ) (Val := Elt F) (τ := τ) osem d ∗ unscopedSems0 d ∗ G X W d)
      ⊢ |={Set.univ}=> iprop((bigSep Finset.univ fun x : Cx => iprop(∃ κ : ℕ, cellInv ER (Rd X W) κ (kcell (d, x))))
          ∗ (bigSep Finset.univ fun x : Cx => iprop(atPos ER (kcell (d, x)) 0 ∅ 0 ∗ reached ER (kcell (d, x)) 0))
          ∗ bigSep Finset.univ fun x : Cx => bigSep Finset.univ fun i : Fin 5 => dutyTok ER (kcell (d, x)) 0 i) := by
  unfold G
  iintro ⟨Hos, Hus, Hst, Hat, Htok⟩
  ihave Hv := (sems0 (F := F) d) $$ [Hos Hus]
  · isplitl [Hos] <;> iassumption
  imod (show iprop((bigSep Finset.univ fun x : Cx => semVal (kcell (d, x)) 0) ∗ bigSep Finset.univ fun x : Cx => roundState ER (Rd X W) (kcell (d, x)) 0)
      ⊢ (|={Set.univ}=> bigSep Finset.univ fun x : Cx => iprop(∃ κ : ℕ, cellInv ER (Rd X W) κ (kcell (d, x))) : sProp 𝕄) from by
        rw [← bigSep_sep']
        exact (bigSep_mono fun x _ => (Rounds.body_intro ER (Rd X W) (kcell (d, x))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and marks of all cells. -/
def Rec0 (K : Dev nD × Cx → ℕ) : sProp 𝕄 :=
  iprop((bigSep Finset.univ fun p : Dev nD × Cx => cellInv ER (Rd X W) (K p) (kcell p)) ∗ bigSep Finset.univ fun p : Dev nD × Cx => reached ER (kcell p) 0)
instance rec0_persistent (K : Dev nD × Cx → ℕ) : BI.Persistent (Rec0 X W K) := by unfold Rec0; infer_instance

/-- What stays with a device: its positions and the tokens of what it pays. -/
def Lin (d : Dev nD) : sProp 𝕄 :=
  iprop((bigSep Finset.univ fun x : Cx => atPos ER (kcell (d, x)) 0 ∅ 0)
    ∗ (bigSep Finset.univ fun i : Fin 5 => BarT d i)
    ∗ (bigSep Finset.univ fun t : Tr => dutyTok ER (cell d (.snd t)) 0 0)
    ∗ bigSep Finset.univ fun t : Tr => dutyTok ER (cell (peerT d t) (.rcv (mateT d t))) 0 0)
def G' (d : Dev nD) : sProp 𝕄 := iprop(∃ K, Rec0 X W K ∗ Lin d)

omit [FloatOps F] in
theorem bigSep_zero (Φ : Fin 5 → sProp 𝕄) : bigSep Finset.univ Φ ⊢ Φ 0 := bigSep_elim (Finset.mem_univ 0)

omit [FloatOps F] in
theorem toks_around [FloatOps F] : (bigSep Finset.univ fun d : Dev nD => bigSep Finset.univ fun x : Cx => bigSep Finset.univ fun i : Fin 5 => (dutyTok ER (kcell (d, x)) 0 i : sProp 𝕄))
    ⊢ bigSep Finset.univ fun d : Dev nD => iprop((bigSep Finset.univ fun i : Fin 5 => BarT d i)
      ∗ (bigSep Finset.univ fun t : Tr => dutyTok ER (cell d (.snd t)) 0 0)
      ∗ bigSep Finset.univ fun t : Tr => dutyTok ER (cell (peerT d t) (.rcv (mateT d t))) 0 0) := by
  simp only [bigSep_cx, bigSep_sep']
  refine BI.sep_mono ?_ (BI.sep_mono (bigSep_mono fun d _ => bigSep_mono fun t _ => bigSep_zero _) ?_)
  · rw [← bigSep_univ_prod (fun p : Dev nD × Fin 5 => (dutyTok ER (kcell (p.1, .bar)) 0 p.2 : sProp 𝕄)), bigSep_univ_equiv nbrE, bigSep_univ_prod]
    exact BI.Entails.refl _
  · refine (bigSep_mono fun d _ => bigSep_mono fun t _ => bigSep_zero _).trans ?_
    rw [← bigSep_univ_prod (fun p : Dev nD × Tr => (dutyTok ER (kcell (p.1, .rcv p.2)) 0 0 : sProp 𝕄)), bigSep_univ_equiv peerE, bigSep_univ_prod]
    exact BI.Entails.refl _

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cx → ℕ) (d : Dev nD) : iprop(Rec0 X W K ∗ Lin d) ⊢ G' X W d := by
  unfold G'; iintro H; iexists K; iexact H

theorem regroup :
    (bigSep Finset.univ fun d : Dev nD => iprop((bigSep Finset.univ fun x : Cx => iprop(∃ κ : ℕ, cellInv ER (Rd X W) κ (kcell (d, x))))
          ∗ (bigSep Finset.univ fun x : Cx => iprop(atPos ER (kcell (d, x)) 0 ∅ 0 ∗ reached ER (kcell (d, x)) 0))
          ∗ bigSep Finset.univ fun x : Cx => bigSep Finset.univ fun i : Fin 5 => dutyTok ER (kcell (d, x)) 0 i) : sProp 𝕄)
      ⊢ bigSep Finset.univ (G' X W) := by
  rw [bigSep_sep', bigSep_sep', ← bigSep_univ_prod (fun p : Dev nD × Cx => iprop(∃ κ : ℕ, cellInv ER (Rd X W) κ (kcell p))),
    bigSep_congr (s := Finset.univ) (fun (d : Dev nD) _ => bigSep_sep' Finset.univ (fun x : Cx => (atPos ER (kcell (d, x)) 0 ∅ 0 : sProp 𝕄)) (fun x => reached ER (kcell (d, x)) 0)),
    bigSep_sep', ← bigSep_univ_prod (fun p : Dev nD × Cx => (reached ER (kcell p) 0 : sProp 𝕄))]
  iintro ⟨HI, ⟨Hat, #HR⟩, Htok⟩
  ihave HK := (BI.bigSep_exists_pi Finset.univ (fun (p : Dev nD × Cx) (κ : ℕ) => (cellInv ER (Rd X W) κ (kcell p) : sProp 𝕄))) $$ HI
  icases HK with ⟨%K, #HI⟩
  ihave Htk := (toks_around (F := F)) $$ Htok
  iapply (bigSep_with_persistent (R := Rec0 X W K) fun d _ => ghost_intro X W K d)
  isplitr
  · unfold Rec0; isplitl; · iexact HI
    iexact HR
  · iapply (Entails.of_eq (show _ = (bigSep Finset.univ fun d : Dev nD => (Lin d : sProp 𝕄)) from by unfold Lin; rw [bigSep_sep'])) $$ [Hat Htk]
    isplitl [Hat]; · iexact Hat
    iexact Htk

theorem glob : (bigSep Finset.univ fun d => iprop(Pipeline.ownSems0 (Ix := Unit) (Name := ℕ) (U := UU) (Lvl := ℕ) (Val := Elt F) (τ := τ) osem d ∗ unscopedSems0 d ∗ G X W d) : sProp 𝕄)
    ⊢ |={Set.univ}=> bigSep Finset.univ (G' X W) :=
  ((bigSep_mono fun d _ => core_alloc X W d).trans (bigSep_fupd _ _)).trans (BI.fupd_mono (regroup X W))

/-! ## What a device's body starts from -/

theorem t0_intro (d : Dev nD) (t : Tr) : iprop(atPos ER (kcell (d, .snd t)) 0 ∅ 0 ∗ dutyTok ER (cell d (.snd t)) 0 0
      ∗ dutyTok ER (cell (peerT d t) (.rcv (mateT d t))) 0 0 ∗ atPos ER (kcell (d, .rcv t)) 0 ∅ 0 ∗ cred (tallyAt (cell d (.rcv t)) () (amt t)))
    ⊢ (T0 d t : sProp 𝕄) := by
  unfold T0 Gs Gr
  iintro ⟨H1, H2, H3, H4, H5⟩
  isplitl [H1 H2 H3]
  · isplitl [H1]; · iexact H1
    isplitl [H2] <;> iassumption
  isplitl [H4]; · iexact H4
  iexact H5

theorem t0_all (d : Dev nD) : (bigSep Finset.univ fun t : Tr => (T0 d t : sProp 𝕄)) ⊢ iprop((StripT 0 d ∗ StripT 1 d ∗ StripT 2 d) ∗ LastT d) := by
  rw [bigSep_tr]
  unfold StripT LastT
  iintro ⟨H0, H1, H2, HL⟩
  isplitl [H0 H1 H2]
  · isplitl [H0]; · iexact H0
    isplitl [H1]; · iexact H1
    iexact H2
  iexact HL

/-- The tokens as the body takes them. -/
theorem lin_split (d : Dev nD) :
    iprop(Lin d ∗ bigSep Finset.univ fun t : Tr => cred (tallyAt (cell d (.rcv t)) () (amt t)))
      ⊢ (iprop((BarT d 0 ∗ BarT d 1 ∗ BarT d 2 ∗ BarT d 3 ∗ BarT d 4) ∗ atPos ER (cell d .bar) 0 ∅ 0
          ∗ (StripT 0 d ∗ StripT 1 d ∗ StripT 2 d) ∗ LastT d) : sProp 𝕄) := by
  unfold Lin
  rw [bigSep_five, bigSep_cx]
  iintro ⟨⟨⟨Hb, Hs, Hr⟩, HB, HS, HR⟩, HC⟩
  ihave H := (show iprop((bigSep Finset.univ fun t : Tr => (atPos ER (kcell (d, .snd t)) 0 ∅ 0 : sProp 𝕄)) ∗ (bigSep Finset.univ fun t : Tr => (dutyTok ER (cell d (.snd t)) 0 0 : sProp 𝕄))
      ∗ (bigSep Finset.univ fun t : Tr => (dutyTok ER (cell (peerT d t) (.rcv (mateT d t))) 0 0 : sProp 𝕄))
      ∗ (bigSep Finset.univ fun t : Tr => (atPos ER (kcell (d, .rcv t)) 0 ∅ 0 : sProp 𝕄)) ∗ (bigSep Finset.univ fun t : Tr => (cred (tallyAt (cell d (.rcv t)) () (amt t)) : sProp 𝕄)))
      ⊢ bigSep Finset.univ fun t : Tr => T0 d t from by
    simp only [← bigSep_sep']
    exact bigSep_mono fun t _ => t0_intro d t) $$ [Hs HS HR Hr HC]
  · isplitl [Hs]; · iexact Hs
    isplitl [HS]; · iexact HS
    isplitl [HR]; · iexact HR
    isplitl [Hr] <;> iassumption
  isplitl [HB]; · iexact HB
  isplitl [Hb]; · iexact Hb
  iapply (t0_all (F := F) d) $$ H

theorem sv_swap (d : Dev nD) (t : Tr) : (SV d t : sProp 𝕄) ⊢ iprop(semVal (cell d (.rcv t)) 0 ∗ semVal (cell d (.snd t)) 0) := by
  unfold SV; iintro ⟨H1, H2⟩; isplitl [H2] <;> iassumption
theorem sv_all (d : Dev nD) : (allV d : sProp 𝕄) ⊢ bigSep Finset.univ fun t : Tr => (SV d t : sProp 𝕄) := by
  rw [bigSep_tr]
  unfold allV StripV
  iintro ⟨⟨H0, H1, H2⟩, HL⟩
  isplitl [H0]; · iexact H0
  isplitl [H1]; · iexact H1
  isplitl [H2]; · iexact H2
  iexact HL

/-- The semaphores given back. -/
theorem allV_exit (d : Dev nD) : (allV d : sProp 𝕄) ⊢ Pipeline.ownSems0 (Ix := Unit) (Name := ℕ) (U := UU) (Lvl := ℕ) (Val := Elt F) (τ := τ) osem d := by
  rw [ownSems0_eq, ← bigSep_sep']
  exact (sv_all d).trans (bigSep_mono fun t _ => sv_swap d t)

end Deal

end Cert.KernelIdeal.Tile
-- ==== Proof.Bridge.lean ====
module

public import proofs.«01_k».proof.Proof.BodyProg
public import Idealize.ShloMosaic.Lib.Tactic

@[expose] public section

set_option synthInstance.maxSize 4096

noncomputable section

namespace Cert.KernelIdeal.Tile

open Idealize.ShloMosaic Idealize.SL.Sem Cert.KernelIdeal Cert.KernelIdeal.Gen

variable {F : FTy → Type} [FloatOps F]

set_option maxRecDepth 65536 in
set_option maxHeartbeats 2000000 in
/-- The printed body is the program of phases. -/
theorem body_eq : cc0_body (F := F) xM (Memref.isWhole_whole _) wM (Memref.isWhole_whole _) oM (Memref.isWhole_whole _) accM (Memref.isWhole_whole _) p1sM (Memref.isWhole_whole _) p1rM (Memref.isWhole_whole _) p2sM (Memref.isWhole_whole _) p2rM (Memref.isWhole_whole _) zfM (Memref.isWhole_whole _) zrM (Memref.isWhole_whole _) czsM (Memref.isWhole_whole _) czrM (Memref.isWhole_whole _) c1sM (Memref.isWhole_whole _) c1rM (Memref.isWhole_whole _) c2sM (Memref.isWhole_whole _) c2rM (Memref.isWhole_whole _) cc0_scratch13 cc0_scratch14 cc0_scratch15 cc0_scratch16 cc0_scratch17 cc0_scratch18 cc0_scratch19 cc0_scratch20 cc0_scratch21 cc0_scratch22 cc0_scratch23 cc0_scratch24
    = bodyS := by
  sl_kernel_rfl

end Cert.KernelIdeal.Tile
-- ==== Proof.Run.lean ====
module

public import proofs.«01_k».proof.Proof.Deal
public import proofs.«01_k».proof.Proof.Bridge
public import Idealize.ShloMosaic.Lib.Pipeline.CollectiveSegs
public import proofs.«01_k».proof.Proof.Gen.KernelIdeal.Frame

@[expose] public section

set_option synthInstance.maxSize 4096
set_option maxRecDepth 4000

/-! # The run of the whole program, over any float values -/

noncomputable section

namespace Cert.KernelIdeal.Tile

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The two arguments' blocks as a device's body finds them. -/
def Xs (d : Dev nD) : Vec F S1024x64 .bf16 := iblk m d 0 t0_0
def Ws (d : Dev nD) : Vec F S64x1024 .bf16 := iblk m d 1 t0_0
/-- The block a device's body leaves. -/
def Os (d : Dev nD) : (cc0_stg2_0 : Ref sig .tc).ty.Contents (Elt F) := c2 (OUT (Xs m) (Ws m) d)

def start (d : Dev nD) : sProp 𝕄 :=
  iprop((∃ K, Rec0 (Xs m) (Ws m) K ∗ Lin d) ∗ (cred (tallyAt (cell d .bar) () 5) ∗ bigSep Finset.univ fun t : Tr => cred (tallyAt (cell d (.rcv t)) () (amt t))) ∗ levAts L lv)
def Φ₀ (d : Dev nD) : sProp 𝕄 := iprop(start m d ∗ Wk d)
def Φ₁ (d : Dev nD) : sProp 𝕄 := iprop(Wk d ∗ allV d ∗ semVal (cell d .bar) 0)

def dats (_ : Fin 1) (d : Dev nD) : Dat τ (Elt F) Unit ℕ UU ℕ cfg0 d where
  A w := (s₀ m ρ).mem ((cfg0.win w).arr.view.loc (d : Thread nD τ))
  after w _ := match w with
    | ⟨0, _⟩ => Xs m d
    | ⟨1, _⟩ => Ws m d
    | ⟨2, _⟩ => Os m d
  Φ t := match t with
    | ⟨0, _⟩ => Φ₀ m d
    | ⟨_ + 1, _⟩ => Φ₁ d
  q _ := fullShare
  owed t := match t with
    | ⟨0, _⟩ => due d dues
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
/-- A memref owned whole is its elements, all of them. -/
theorem owns_own (d : Dev nD) {s : Shape} {e : EltTy} (M : Memref sig .tc .vmem s e) (X : s.Idx → Elt F e) :
    (owns (Ix := Unit) (Name := ℕ) (U := UU) (Lvl := ℕ) (d : Thread nD τ) M fullShare X : sProp 𝕄) ⊢ own d M Finset.univ X := by
  unfold owns own
  rw [View.setOn_univ]
  iintro ⟨%f, %h, H⟩
  iexists f
  isplitr; · ipureintro; exact fun x _ => congrFun h x
  iexact H
omit [FloatOps F] in
theorem own_owns (d : Dev nD) {s : Shape} {e : EltTy} (M : Memref sig .tc .vmem s e) (X : s.Idx → Elt F e) :
    own d M Finset.univ X ⊢ (owns (Ix := Unit) (Name := ℕ) (U := UU) (Lvl := ℕ) (d : Thread nD τ) M fullShare X : sProp 𝕄) := by
  unfold owns own
  rw [View.setOn_univ]
  iintro ⟨%f, %h, H⟩
  iexists f
  isplitr; · ipureintro; exact funext fun x => h x (Finset.mem_univ x)
  iexact H

/-! ## The body -/

abbrev stgX (d : Dev nD) (X : Vec F S1024x64 .bf16) : sProp 𝕄 := owns (Ix := Unit) (Name := ℕ) (U := UU) (Lvl := ℕ) (d : Thread nD τ) xM fullShare X
abbrev stgW (d : Dev nD) (X : Vec F S64x1024 .bf16) : sProp 𝕄 := owns (Ix := Unit) (Name := ℕ) (U := UU) (Lvl := ℕ) (d : Thread nD τ) wM fullShare X
abbrev stgO (d : Dev nD) (X : Vec F S64x1024 .f32) : sProp 𝕄 := owns (Ix := Unit) (Name := ℕ) (U := UU) (Lvl := ℕ) (d : Thread nD τ) oM fullShare X

def bodyPre (d : Dev nD) : sProp 𝕄 :=
  iprop(Φ₀ m d ∗ (dats m ρ 0 d).owesAt () t0_0.castSucc
    ∗ (∃ u, stgX d ((dats m ρ 0 d).before (0 : Fin 3) t0_0 u))
    ∗ (∃ u, stgW d ((dats m ρ 0 d).before (1 : Fin 3) t0_0 u))
    ∗ (∃ u, stgO d ((dats m ρ 0 d).before (2 : Fin 3) t0_0 u)))
def bodyPost (d : Dev nD) : sProp 𝕄 :=
  iprop(Φ₁ d ∗ (dats m ρ 0 d).owesAt () t0_0.succ ∗ stgX d (Xs m d) ∗ stgW d (Ws m d) ∗ stgO d (Os m d))

theorem before_x (d : Dev nD) (u) : (dats m ρ 0 d).before (0 : Fin 3) t0_0 u = Xs m d := by
  unfold Dat.before; rw [if_pos (fetch_0 t0_0)]; rfl
theorem before_w (d : Dev nD) (u) : (dats m ρ 0 d).before (1 : Fin 3) t0_0 u = Ws m d := by
  unfold Dat.before; rw [if_pos (fetch_1 t0_0)]; rfl

theorem stgX_eq (d : Dev nD) (u) : stgX d ((dats m ρ 0 d).before (0 : Fin 3) t0_0 u) ⊢ own d xM Finset.univ (Xs m d) :=
  (Entails.of_eq (congrArg (stgX d) (before_x m ρ d u))).trans (owns_own d xM _)
theorem stgW_eq (d : Dev nD) (u) : stgW d ((dats m ρ 0 d).before (1 : Fin 3) t0_0 u) ⊢ own d wM Finset.univ (Ws m d) :=
  (Entails.of_eq (congrArg (stgW d) (before_w m ρ d u))).trans (owns_own d wM _)
theorem stgO_any (d : Dev nD) (X : Vec F S64x1024 .f32) : stgO d X ⊢ ownA d oM Finset.univ := by
  unfold ownA
  iintro H
  iexists X
  iapply (owns_own d oM X) $$ H

theorem owes_in (d : Dev nD) : (dats m ρ 0 d).owesAt () t0_0.castSucc ⊢ Ow d dues := by
  unfold Dat.owesAt Pipeline.owesWithin Ow
  rw [show (dats m ρ 0 d).owed t0_0.castSucc = due d dues from rfl]
  iintro ⟨%V, %hV, H⟩
  iexists V; iexact H
theorem owes_out (d : Dev nD) : Ow d [] ⊢ (dats m ρ 0 d).owesAt () t0_0.succ := by
  unfold Dat.owesAt Pipeline.owesWithin Ow
  rw [show (dats m ρ 0 d).owed t0_0.succ = due d [] from rfl]
  iintro ⟨%V, H⟩
  iexists V
  isplitr; · ipureintro; exact fun _ _ => Or.inl trivial
  iexact H

theorem recs_intro (K : Dev nD × Cx → ℕ) : iprop(Rec0 (Xs m) (Ws m) K ∗ levAts L lv) ⊢ Recs (Xs m) (Ws m) K := by
  unfold Rec0 Recs
  iintro ⟨⟨HI, HR⟩, HL⟩
  isplitl [HI]; · iexact HI
  isplitl [HR]; · iexact HR
  iexact HL

theorem wp_bodyS (d : Dev nD) (Q : PUnit → sProp 𝕄) : WP (F := F) d bodyS Q = WP (F := F) d (bodyD d) Q := by
  unfold bodyS
  simp only [Prog.lift, Prog.bind_op, Prog.bind_ret, wp_deviceId]

theorem sound_body (d : Dev nD) : bodyPre m ρ d ⊢ WP (F := F) d bodyS fun _ => bodyPost m ρ d := by
  rw [wp_bodyS]
  unfold bodyPre Φ₀ start
  iintro ⟨⟨⟨⟨%K, HRec, HLin⟩, ⟨HcB, HcR⟩, HLev⟩, HWk⟩, HO, ⟨%u0, Hx⟩, ⟨%u1, Hw⟩, ⟨%u2, Ho⟩⟩
  ihave HR := (recs_intro m K) $$ [HRec HLev]
  · isplitl [HRec] <;> iassumption
  ihave HO := (owes_in m ρ d) $$ HO
  ihave Hx := (stgX_eq m ρ d u0) $$ Hx
  ihave Hw := (stgW_eq m ρ d u1) $$ Hw
  ihave Ho := (stgO_any d _) $$ Ho
  ihave HT := (lin_split d) $$ [HLin HcR]
  · isplitl [HLin] <;> iassumption
  icases HT with ⟨HB, HaB, HT, HL⟩
  ihave HM := (mem_start (F := F) (d := d)) $$ [HWk Ho]
  · isplitl [HWk] <;> iassumption
  icases HM with ⟨HP, HS, HA⟩
  iapply (wp_body (d := d) (Xs m) (Ws m) K) $$ [HR HO Hx Hw HB HcB HaB HP HS HT HA HL]
  · isplitl [HR]; · iexact HR
    isplitl [HO]; · iexact HO
    isplitl [Hx]; · iexact Hx
    isplitl [Hw]; · iexact Hw
    isplitl [HB]; · iexact HB
    isplitl [HcB]; · iexact HcB
    isplitl [HaB]; · iexact HaB
    isplitl [HP]; · iexact HP
    isplitl [HS]; · iexact HS
    isplitl [HT]; · iexact HT
    isplitl [HA]; · iexact HA
    iexact HL
  iintro ⟨HO, Hx, Hw, HvB, HS, HL⟩
  ihave HE := (mem_end (F := F) (d := d) (Xs m) (Ws m)) $$ [HS HL]
  · isplitl [HS] <;> iassumption
  icases HE with ⟨HWk, Ho, HV⟩
  unfold bodyPost Φ₁
  isplitl [HWk HV HvB]
  · isplitl [HWk]; · iexact HWk
    isplitl [HV] <;> iassumption
  isplitl [HO]; · iapply (owes_out m ρ d) $$ HO
  isplitl [Hx]; · iapply (own_owns d xM _) $$ Hx
  isplitl [Hw]; · iapply (own_owns d wM _) $$ Hw
  iapply (own_owns d oM _) $$ Ho

set_option maxRecDepth 65536 in
/-- The library's body obligation on a device. -/
theorem body_obligation (d : Dev nD) : BodyObligation (dats (F := F) m ρ 0 d) (defs₀ (F := F)) 𝒱₀ () Set.univ := fun t => by
  rw [fin_N0 t, bigSep_W0, bigSep_W0]
  have h := sound_body m ρ d
  rw [← body_eq] at h
  exact h

/-! ## The launch -/

theorem share_eq (d : Dev nD) (w : Fin cfg0.W) : (dats m ρ 0 d).share w = fullShare := by unfold Dat.share; split <;> rfl

theorem start_intro (d : Dev nD) :
    iprop(Pipeline.unscopedRestP Pipeline.Prefetch.none cfg0.spec d (fun b => m ((d : Thread nD τ).loc b)) ∗ levAts L lv
        ∗ Pipeline.launchCred (fun d => due d dues) d ∗ prngReg d (ρ d) ∗ G' (Xs m) (Ws m) d)
      ⊢ |={Set.univ}=> iprop(start m d ∗ emp) := by
  iintro ⟨-, Hlev, Hcr, -, HG⟩
  ihave Hc := (creds (F := F) d) $$ Hcr
  imodintro
  unfold start G'
  isplitl
  · isplitl [HG]; · iexact HG
    isplitl [Hc]; · iexact Hc
    iexact Hlev
  · iempintro

theorem phi0_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, show (Pipeline.scopedRest cfg0.spec d : sProp 𝕄) = Wk d from wk_eq]
  unfold Φ₀
  iintro ⟨Hs, -, Hr⟩
  isplitl [Hs]; · iexact Hs
  iexact Hr

theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ d from rfl, show (Pipeline.scopedRest cfg0.spec d : sProp 𝕄) = Wk d from wk_eq, unscopedSems0_eq]
  unfold Φ₁
  iintro ⟨Hr, HV, HB⟩
  isplitl [HB]; · iexact HB
  isplitl [HV]; · iapply (allV_exit (F := F) d) $$ HV
  iexact Hr

theorem lvD_pos (x : Du) : 0 < lvD x := by
  rcases x with i | t
  · exact Nat.one_pos
  · cases t <;> simp only [lvD, lvC] <;> (try split) <;> omega

omit [FloatOps F] in
theorem mayWait_stage [FloatOps F] (d : Dev nD) (q : DmaSem sig) (hq : lvS (.dma q) = 0) (O : CellTallies nD τ sig Unit) (hO : O = due d dues ∨ O = 0) :
    (levAts L lv : sProp 𝕄) ⊢ MayWait (d : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        obtain ⟨x, hx, rfl⟩ := due_pos hg
        cases u
        cases x <;> exact Finset.mem_singleton_self _)
      (fun p hp => by rw [Finset.mem_singleton.mp hp]; exact le_of_eq hq)
      (fun g u hg => by
        obtain ⟨x, hx, rfl⟩ := due_pos hg
        cases u
        rw [lv_tgt]; exact lvD_pos x)
  · rw [MayWait_zero]; iintro -; iempintro

theorem waits (d : Dev nD) : (levAts L lv : sProp 𝕄) ⊢ Pipeline.cellsWaits cfgs (dats m ρ) () 0 d :=
  Pipeline.cellsWaits_intro cfgs (dats m ρ) () 0 d fun w s t =>
    mayWait_stage d _ (by fin_cases w <;> fin_cases s <;> decide +kernel) _ (by
      rcases t with ⟨_ | _, ht⟩
      · exact Or.inl rfl
      · exact Or.inr rfl)

def finalA (d : Dev nD) (w : Fin cfg0.W) : Buf (Elt F) ((cfg0.win w).arr.view.loc (d : Thread nD τ)) := (dats m ρ 0 d).arrAt w cfg0.N

def QC : PUnit × MemSt nD τ sig (Elt F) → Prop := fun r =>
  ∀ d : Dev nD, ∀ w : Fin cfg0.W, r.2.mem ((cfg0.win w).arr.view.loc (d : Thread nD τ)) = finalA m ρ d w

set_option maxRecDepth 65536 in
/-- From any memory with zero counters every fair execution on the sixteen devices ends, each device's arrays at the
    computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => due d dues) (howed₀ := fun _ => rfl) (howedN := fun _ => rfl)
    (L := L) (lv := lv) (hL := L_of_ne) (hwaits := waits m ρ)
    (G := G (Xs m) (Ws m)) (G' := G' (Xs m) (Ws m)) (u₀ := u₀)
    (hu₀ := by
      unfold u₀
      iintro Hu
      ihave H := (ownU_pair _ _) $$ Hu
      icases H with ⟨HP, HX⟩
      imod (fund_ring (Xs m) (Ws m)) $$ HX with HG
      imodintro
      isplitl [HP] <;> iassumption)
    (hglob := glob (Xs m) (Ws m))
    (hA := fun _ _ => rfl) (hpf := fun _ k => k.elim0)
    (X := start m) (Y := fun d => unscopedSems0 d) (Z := fun _ => iprop(emp))
    (hX := start_intro m ρ) (hin := phi0_intro m ρ) (hout := phi1_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

theorem finalA_x (d : Dev nD) : finalA m ρ d (0 : Fin 3) = m (win0_0.arr.view.loc (d : Thread nD τ)) := (dats (F := F) m ρ 0 d).arrAt_in (0 : Fin 3) rfl _
theorem finalA_w (d : Dev nD) : finalA m ρ d (1 : Fin 3) = m (win0_1.arr.view.loc (d : Thread nD τ)) := (dats (F := F) m ρ 0 d).arrAt_in (1 : Fin 3) rfl _

end Cert.KernelIdeal.Tile
-- ==== Proof.Frames.lean ====
module

public import proofs.«01_k».proof.Defs
public import Idealize.ShloMosaic.Lib.Tactic
public import proofs.«01_k».proof.Proof.Run
public import proofs.«01_k».proof.Proof.Gen.Kernel
public import proofs.«01_k».proof.Proof.Gen.ReferenceIdeal.Run

@[expose] public section

set_option maxRecDepth 65536

/-! # The programs run and leave their arguments -/

noncomputable section

namespace Cert.KernelIdeal.Tile

open Cert.KernelIdeal Cert.KernelIdeal.Gen
open Idealize.ShloMosaic Idealize.SL.Sem
open Idealize.ShloMosaic.TcCoe

/-- The run leaves the arguments, and every counter at zero. -/
def Frame (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)) ∧ r.2.sem = fun _ => 0)

theorem frame_any {F : FTy → Type} [FloatOps F] : Frame F := fun m ρ _ =>
  (θ_run defs _ _).mono (fun _ h => ⟨fun d => ⟨(h.1 d 0).trans (finalA_x m ρ d), (h.1 d 1).trans (finalA_w m ρ d)⟩, h.2⟩) (run_main (F := F) m ρ)

theorem frame_ideal : Cert.quiescent_KernelIdeal (hKernelIdeal := facts) := fun m ρ h => frame_any m ρ h

/-- The kernel as printed is the same text, read at the bit-exact floats. -/
theorem same_text : Cert.quiescent_Kernel (hKernel := Cert.Kernel.Gen.facts) = Frame Bits := by sl_kernel_rfl
theorem frame_kernel : Cert.quiescent_Kernel (hKernel := Cert.Kernel.Gen.facts) := same_text.mpr frame_any

/-- The reference is host operations alone: no counter moves. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.KernelIdeal.Tile
-- ==== Proof.Sums.lean ====
module

public import proofs.«01_k».proof.Proof.Contents
public import Idealize.ShloMosaic.Lib.MatmulPlain
public import Idealize.ShloMosaic.Lib.Pointwise.Index
public import Mathlib.Tactic.Abel

@[expose] public section

/-! # The contents at the ideal values: each is a sum of part-products -/

noncomputable section

namespace Cert.KernelIdeal.Tile

open Cert.KernelIdeal Cert.KernelIdeal.Gen
open Idealize.ShloMosaic Idealize.SL.Sem

/-! ## Where the exchanged blocks lie -/

theorem cN_lt (d : Dev nD) : cN d < 4 := Nat.mod_lt _ (by decide)
theorem zN_lt : ∀ d : Dev nD, zN d < 4 := by decide +kernel
theorem uN_le (s : Fin 3) (d : Dev nD) : uN s d ≤ 1 := by unfold uN; split <;> omega
theorem keep1 : ∀ (s : Fin 3) (d : Dev nD), bN s (peer1 s d) (uN s d) = cN d := by decide +kernel
theorem keep2 : ∀ (s : Fin 3) (d : Dev nD), fN s (peer2 s d) = cN d := by decide +kernel
theorem keep12 : ∀ (s : Fin 3) (d : Dev nD), bN s (peer1 s (peer2 s d)) (1 - uN s (peer2 s d)) = cN d := by decide +kernel
theorem cN_pz : ∀ (d : Dev nD) (k : Fin 3), cN (pz d k) = cN d := by decide +kernel
theorem zN_py : ∀ d : Dev nD, zN (py d) = zN d := by decide +kernel
theorem zN_px : ∀ d : Dev nD, zN (px d) = zN d := by decide +kernel
theorem val_eq (d : Dev nD) : 64 * d.val = 256 * zN d + 64 * cN d := by unfold zN cN; omega

/-! ## The sixteen devices -/

/-- The four places of a plane. -/
def four (s : Fin 3) (d : Dev nD) : List (Dev nD) := [d, peer1 s d, peer2 s d, peer1 s (peer2 s d)]
/-- The same place on the four planes. -/
def lift4 (d : Dev nD) : List (Dev nD) := [d, pz d 0, pz d 1, pz d 2]

theorem lift_four_nodup : ∀ (s : Fin 3) (d : Dev nD), ((lift4 d).flatMap (four s)).Nodup := by decide +kernel
theorem lift_four_univ : ∀ (s : Fin 3) (d : Dev nD), ((lift4 d).flatMap (four s)).toFinset = Finset.univ := by decide +kernel
theorem four_lift_nodup : ∀ (s : Fin 3) (d : Dev nD), ((four s d).flatMap lift4).Nodup := by decide +kernel
theorem four_lift_univ : ∀ (s : Fin 3) (d : Dev nD), ((four s d).flatMap lift4).toFinset = Finset.univ := by decide +kernel

theorem sum_list {L : List (Dev nD)} (hn : L.Nodup) (hu : L.toFinset = Finset.univ) (f : Dev nD → EReal) : (L.map f).sum = ∑ e, f e := by
  rw [← hu, List.sum_toFinset f hn]

/-- The sum over a plane's places. -/
def sum4 (s : Fin 3) (f : Dev nD → EReal) (d : Dev nD) : EReal := f d + f (peer1 s d) + (f (peer2 s d) + f (peer1 s (peer2 s d)))
/-- The sum over the planes. -/
def sumZ (f : Dev nD → EReal) (d : Dev nD) : EReal := f d + f (pz d 0) + f (pz d 1) + f (pz d 2)

theorem sumZ_sum4 (s : Fin 3) (f : Dev nD → EReal) (d : Dev nD) : sumZ (sum4 s f) d = ∑ e, f e := by
  rw [← sum_list (lift_four_nodup s d) (lift_four_univ s d) f]
  simp only [lift4, four, List.flatMap_cons, List.flatMap_nil, List.append_nil, List.cons_append, List.nil_append, List.map_cons, List.map_nil,
    List.sum_cons, List.sum_nil, sumZ, sum4]
  abel
theorem sum4_sumZ (s : Fin 3) (f : Dev nD → EReal) (d : Dev nD) : sum4 s (sumZ f) d = ∑ e, f e := by
  rw [← sum_list (four_lift_nodup s d) (four_lift_univ s d) f]
  simp only [lift4, four, List.flatMap_cons, List.flatMap_nil, List.append_nil, List.cons_append, List.nil_append, List.map_cons, List.map_nil,
    List.sum_cons, List.sum_nil, sumZ, sum4]
  abel

/-! ## The exchanges add -/

variable (X : Dev nD → Vec Ideal S1024x64 .bf16) (W : Dev nD → Vec Ideal S64x1024 .bf16)

/-- A part-product's entry as an extended real. -/
def PE (d : Dev nD) (r c : ℕ) : EReal := PP X W d r c

theorem D1_eq (d : Dev nD) (s : Fin 3) {z h i c : ℕ} (hh : h ≤ 1) (hi : i < 64) :
    (D1 X W d s (128 * z + 64 * h + i) c : EReal) = PE X W d (256 * z + 64 * bN s d h + i) (256 * s.val + c) := by
  have e1 : (128 * z + 64 * h + i) / 128 = z := by omega
  have e2 : (128 * z + 64 * h + i) / 64 % 2 = h := by omega
  have e3 : (128 * z + 64 * h + i) % 64 = i := by omega
  unfold D1
  rw [e1, e2, e3]
  rfl

theorem A1_eq (d : Dev nD) (s : Fin 3) {z i c : ℕ} (hi : i < 64) (hc : c < 256) :
    (A1 X W d s (256 * z + 64 * cN d + i) (256 * s.val + c) : EReal)
      = PE X W d (256 * z + 64 * cN d + i) (256 * s.val + c) + PE X W (peer1 s d) (256 * z + 64 * cN d + i) (256 * s.val + c) := by
  have hn := cN_lt d
  have e1 : (256 * z + 64 * cN d + i) % 256 / 64 = cN d := by omega
  have e2 : (256 * z + 64 * cN d + i) / 256 = z := by omega
  have e3 : (256 * z + 64 * cN d + i) % 64 = i := by omega
  have e4 : (256 * s.val + c) % 256 = c := by omega
  have h := D1_eq X W (peer1 s d) s (z := z) (c := c) (uN_le s d) hi
  rw [keep1] at h
  unfold A1
  rw [if_pos e1, e2, e3, e4, ← h]
  rfl

theorem D2_eq (d : Dev nD) (s : Fin 3) {z i c : ℕ} (hi : i < 64) :
    (D2 X W (peer2 s d) s (64 * z + i) c : EReal)
      = PE X W (peer2 s d) (256 * z + 64 * cN d + i) (256 * s.val + c) + PE X W (peer1 s (peer2 s d)) (256 * z + 64 * cN d + i) (256 * s.val + c) := by
  have e1 : (64 * z + i) / 64 = z := by omega
  have e2 : (64 * z + i) % 64 = i := by omega
  have h := D1_eq X W (peer1 s (peer2 s d)) s (z := z) (c := c) (h := 1 - uN s (peer2 s d)) (Nat.sub_le _ _) hi
  rw [keep12] at h
  unfold D2
  rw [e1, e2, keep2, ← h]
  rfl

theorem DZ_eq (d : Dev nD) (s : Fin 3) {z i c : ℕ} (hi : i < 64) (hc : c < 256) :
    (DZ X W d s z i c : EReal) = sum4 s (fun e => PE X W e (256 * z + 64 * cN d + i) (256 * s.val + c)) d := by
  unfold sum4
  rw [← A1_eq X W d s hi hc, ← D2_eq X W d s hi]
  rfl

theorem DO_eq (d : Dev nD) (s : Fin 3) {i c : ℕ} (hi : i < 64) (hc : c < 256) :
    DO X W d s i c = gl (F := Ideal) (∑ e, PE X W e (64 * d.val + i) (256 * s.val + c) : EReal) := by
  rw [← sumZ_sum4 s (fun e => PE X W e (64 * d.val + i) (256 * s.val + c)) d, val_eq]
  have h0 := DZ_eq X W d s (z := zN d) hi hc
  have h1 := fun k => DZ_eq X W (pz d k) s (z := zN d) hi hc
  simp only [cN_pz] at h1
  unfold sumZ
  rw [← h0, ← h1, ← h1, ← h1]
  rfl

theorem C1_eq (d : Dev nD) (i c : ℕ) : (C1 X W d i c : EReal) = sumZ (fun e => PE X W e (256 * zN d + i) (768 + c)) d := rfl

theorem OC_eq (d : Dev nD) {i c : ℕ} (hi : i < 64) :
    OC X W d i c = gl (F := Ideal) (∑ e, PE X W e (64 * d.val + i) (768 + c) : EReal) := by
  rw [← sum4_sumZ 1 (fun e => PE X W e (64 * d.val + i) (768 + c)) d, val_eq]
  have k1 : bN 1 (py d) (uN 1 d) = cN d := keep1 1 d
  have k2 : fN 1 (px d) = cN d := keep2 1 d
  have k3 : bN 1 (py (px d)) (1 - uN 1 (px d)) = cN d := keep12 1 d
  have u1 := uN_le 1 d
  have a1 : (64 * uN 1 d + i) / 64 = uN 1 d := by omega
  have a2 : (64 * uN 1 d + i) % 64 = i := by omega
  have a3 : (64 * (1 - uN 1 (px d)) + i) / 64 = 1 - uN 1 (px d) := by omega
  have a4 : (64 * (1 - uN 1 (px d)) + i) % 64 = i := by omega
  have h0 := C1_eq X W d (64 * cN d + i) c
  have h1 := C1_eq X W (py d) (64 * cN d + i) c
  have h2 := C1_eq X W (px d) (64 * cN d + i) c
  have h3 := C1_eq X W (py (px d)) (64 * cN d + i) c
  rw [zN_py] at h1 h3
  rw [zN_px] at h2 h3
  simp only [← Nat.add_assoc] at h0 h1 h2 h3
  show _ = gl (F := Ideal) (sumZ _ d + sumZ _ (py d) + (sumZ _ (px d) + sumZ _ (py (px d))) : EReal)
  rw [← h0, ← h1, ← h2, ← h3]
  unfold OC C2 D4 D3
  rw [a1, a2, a3, a4, k1, k2, k3]
  rfl

/-- A device's result entry: the activation of the sum of all the part-products there. -/
theorem OUT_eq (d : Dev nD) {i c : ℕ} (hi : i < 64) (hc : c < 1024) :
    OUT X W d i c = gl (F := Ideal) (∑ e, PE X W e (64 * d.val + i) c : EReal) := by
  unfold OUT
  split
  · next h =>
    have e : 256 * (c / 256 % 3) + c % 256 = c := by omega
    have h := DO_eq X W d ⟨c / 256 % 3, Nat.mod_lt _ (by decide)⟩ hi (Nat.mod_lt c (by decide : 0 < 256))
    simp only [e] at h
    exact h
  · next h =>
    have e : 768 + c % 256 = c := by omega
    have h := OC_eq X W d (c := c % 256) hi
    rw [e] at h
    exact h

/-! ## A part-product's entry -/

theorem dims_plain : dot_S1024x64_S64x256_S1024x256_1_0_0_1_n_n = DotDims.plain 1024 64 256 := rfl

theorem strip_eq (x : Vec Ideal S1024x64 .bf16) (w : Vec Ideal S64x1024 .bf16) (o : ℕ) (h : S64x1024.Slices ![0, o] S64x256) (i : Fin 1024) (j : Fin 256) :
    (matmul (F := Ideal) (φ₁ := .bf16) (φ₂ := .bf16) dot_S1024x64_S64x256_S1024x256_1_0_0_1_n_n none x (extractStridedSlice S64x256 ![0, o] w h) (constant S1024x256 .f32 0x00000000#32) (ix2 i j) : EReal)
      = ∑ k : Fin 64, (g2 (n := 1024) (m := 64) x i.val k.val * g2 (n := 64) (m := 1024) w k.val (o + j.val) : EReal) := by
  rw [dims_plain]
  refine (Ideal.matmul_plain_apply none x _ _ i j).trans ?_
  refine (congrArg (· + _) (Ideal.ofBits_zero_f32)).trans ((zero_add _).trans (Finset.sum_congr rfl fun k _ => ?_))
  have hx : x (ix2 i k) = g2 (n := 1024) (m := 64) x i.val k.val := congrArg x (funext fun a => Fin.ext (by
    fin_cases a
    · exact (Nat.mod_eq_of_lt i.isLt).symm
    · exact (Nat.mod_eq_of_lt k.isLt).symm))
  have ho : o + j.val < 1024 := Nat.lt_of_lt_of_le (Nat.add_lt_add_left j.isLt o) (h.2 1)
  have hw : extractStridedSlice S64x256 ![0, o] w h (ix2 k j) = g2 (n := 64) (m := 1024) w k.val (o + j.val) := congrArg w (funext fun a => Fin.ext (by
    fin_cases a
    · exact (Nat.zero_add _).trans (Nat.mod_eq_of_lt k.isLt).symm
    · exact (Nat.mod_eq_of_lt ho).symm))
  exact congrArg₂ (fun a b : EReal => a * b) hx hw

theorem strips_eq (s : Fin 4) (x : Vec Ideal S1024x64 .bf16) (w : Vec Ideal S64x1024 .bf16) (i : Fin 1024) (j : Fin 256) :
    (mmP (F := Ideal) s x w (ix2 i j) : EReal)
      = ∑ k : Fin 64, (g2 (n := 1024) (m := 64) x i.val k.val * g2 (n := 64) (m := 1024) w k.val (256 * s.val + j.val) : EReal) := by
  match s with
  | 0 =>
    unfold mmP k0_pay7 k0_pay1 k0_pay2
    simp only [cast_id]
    exact strip_eq x w 0 slices_S64x1024_o0_0_S64x256 i j
  | 1 =>
    unfold mmP k0_pay16 k0_pay1 k0_pay2
    simp only [cast_id]
    exact strip_eq x w 256 slices_S64x1024_o0_256_S64x256 i j
  | 2 =>
    unfold mmP k0_pay26 k0_pay25 k0_pay1 k0_pay2
    simp only [cast_id]
    exact strip_eq x w 512 slices_S64x1024_o0_512_S64x256 i j
  | 3 =>
    unfold mmP k0_pay3 k0_pay1 k0_pay2
    simp only [cast_id]
    exact strip_eq x w 768 slices_S64x1024_o0_768_S64x256 i j

theorem PE_eq (d : Dev nD) {r c : ℕ} (hr : r < 1024) (hc : c < 1024) :
    PE X W d r c = ∑ k : Fin 64, (g2 (n := 1024) (m := 64) (X d) r k.val * g2 (n := 64) (m := 1024) (W d) k.val c : EReal) := by
  have h := strips_eq ⟨c / 256 % 4, Nat.mod_lt _ (by decide)⟩ (X d) (W d) ⟨r, hr⟩ ⟨c % 256, Nat.mod_lt _ (by decide)⟩
  have e : 256 * (c / 256 % 4) + c % 256 = c := by omega
  simp only [e] at h
  rw [← h]
  unfold PE PP g2
  exact congrArg (mmP (F := Ideal) _ (X d) (W d)) (funext fun a => Fin.ext (by
    fin_cases a
    · exact Nat.mod_eq_of_lt hr
    · exact Nat.mod_eq_of_lt (Nat.mod_lt _ (by decide))))

/-! ## The whole contraction -/

/-- The sixteen partial contractions of sixty-four are one of a thousand and twenty-four. -/
theorem sum_blocks (f : ℕ → EReal) : ∑ e : Fin 16, ∑ k : Fin 64, f (64 * e.val + k.val) = ∑ j : Fin 1024, f j.val := by
  rw [← Fintype.sum_prod_type', ← Equiv.sum_comp (finProdFinEquiv (m := 16) (n := 64)) fun j : Fin (16 * 64) => f j.val]
  exact Finset.sum_congr rfl fun p _ => congrArg f (Nat.add_comm _ _)

end Cert.KernelIdeal.Tile
-- ==== Proof.Value.lean ====
module

public import proofs.«01_k».proof.Proof.Frames
public import proofs.«01_k».proof.Proof.Sums
public import Idealize.ShloMosaic.Lib.StackMember
public import Idealize.ShloMosaic.Lib.Layout

@[expose] public section

set_option maxRecDepth 65536

/-! # The devices' blocks are the blocks of the reference's result -/

noncomputable section

namespace Cert.KernelIdeal.Tile

open Cert.KernelIdeal Cert.KernelIdeal.Gen
open Idealize.ShloMosaic Idealize.SL.Sem
open Idealize.ShloMosaic.TcCoe

/-! ## A window is its whole array -/

variable (m : (ℓ : Loc nD τ sig) → Buf (Elt Ideal) ℓ) (ρ : Dev nD → PrngReg)

theorem Xs_eq (d : Dev nD) : Xs m d = m ((d.tc : Thread nD τ).loc main_arg0) := by
  unfold Xs iblk
  rw [show t0_0 = (0 : Fin 1) from rfl]
  exact Memref.read_access_unit_zero (Elt Ideal) main_arg0 (funext fun a => by fin_cases a <;> decide) (fun a => by fin_cases a <;> decide) _
theorem Ws_eq (d : Dev nD) : Ws m d = m ((d.tc : Thread nD τ).loc main_arg1) := by
  unfold Ws iblk
  rw [show t0_0 = (0 : Fin 1) from rfl]
  exact Memref.read_access_unit_zero (Elt Ideal) main_arg1 (funext fun a => by fin_cases a <;> decide) (fun a => by fin_cases a <;> decide) _

/-- The result array of a device ends as the block its body left. -/
theorem finalA_o (d : Dev nD) : finalA m ρ d (2 : Fin 3) = c2 (OUT (F := Ideal) (Xs m) (Ws m) d) := by
  have h : (win0_2.blk (0 : Fin 1)).view.read (Elt Ideal) (finalA m ρ d (2 : Fin 3)) = Os m d := by
    unfold finalA
    rw [show cfg0.N = ((0 : Fin 1) : Fin cfg0.N).val + 1 from rfl, (dats m ρ 0 d).arrAt_succ (2 : Fin 3) (0 : Fin 1),
      show (cfg0.win (2 : Fin 3)).flush (0 : Fin 1) = true from by decide, if_pos rfl]
    exact View.read_write_univ _ _
  exact (Memref.read_access_unit_zero (Elt Ideal) main_v1 (funext fun a => by fin_cases a <;> decide) (fun a => by fin_cases a <;> decide) _).symm.trans h

/-! ## The reference -/

/-- The activation, as the reference writes it. -/
def act (y : FVec Ideal S1024x1024 .f32) : FVec Ideal S1024x1024 .f32 :=
  let k (b : BitVec 32) : FVec Ideal S1024x1024 .f32 :=
    broadcastInDim S1024x1024 ![] Cert.ReferenceIdeal.Facts₀.bcast_S_S1024x1024 (constant Cert.ReferenceIdeal.S_ .f32 b)
  mulf (mulf (k 0x3F000000#32) y) (addf (k 0x3F800000#32) (Host.tanh (mulf (k 0x3F4C422A#32) (addf y (mulf (k 0x3D372713#32) (mulf (mulf y y) y))))))

/-- The reference's result from its two arguments. -/
def refV (x w : Vec Ideal S1024x1024 .bf16) : FVec Ideal S1024x1024 .f32 :=
  act (Host.dotGeneral Cert.ReferenceIdeal.dot_S1024x1024_S1024x1024_S1024x1024_1_0_0_1_n_n none (extf .f32 x bitsLt_bf16_f32) (extf .f32 w bitsLt_bf16_f32))

/-- The two activations differ in how the cube is bracketed. -/
theorem act_eq (y : FVec Ideal S1024x1024 .f32) (i : S1024x1024.Idx) : act y i = gl (F := Ideal) (y i) := by
  have h (a v : EReal) : a * (v * v * v) = a * v * v * v := by rw [← mul_assoc, ← mul_assoc]
  show (_ * (y i : EReal)) * (_ + Ideal.tanh (_ * ((y i : EReal) + _ * ((y i : EReal) * (y i : EReal) * (y i : EReal))))) = _
  rw [h]
  rfl

theorem dims_plain' : Cert.ReferenceIdeal.dot_S1024x1024_S1024x1024_S1024x1024_1_0_0_1_n_n = DotDims.plain 1024 1024 1024 := rfl

theorem refV_eq (x w : Vec Ideal S1024x1024 .bf16) (r c : Fin 1024) :
    refV x w (ix2 r c) = gl (F := Ideal) (∑ j : Fin 1024, (x (ix2 r j) * w (ix2 j c) : EReal) : EReal) := by
  unfold refV
  rw [act_eq, dims_plain']
  exact congrArg (gl (F := Ideal)) (StackMember.dotGeneral_plain_apply none _ _ r c)

/-! ## The blocks -/

/-- Device `d`'s block of the reference's result is what the device's body leaves from the devices' blocks of the arguments. -/
theorem block_eq (x w : Vec Ideal S1024x1024 .bf16) (d : Dev nD)
    (hx : ∀ e : Dev nD, Xs m e = Layout.block ⟨2, ![1024, 64]⟩ ⟨2, ![1024, 1024]⟩ 1 16 e x)
    (hw : ∀ e : Dev nD, Ws m e = Layout.block ⟨2, ![64, 1024]⟩ ⟨2, ![1024, 1024]⟩ 0 16 e w) :
    c2 (OUT (F := Ideal) (Xs m) (Ws m) d) = Layout.block ⟨2, ![64, 1024]⟩ ⟨2, ![1024, 1024]⟩ 0 16 d (refV x w) := by
  have gx (e : Dev nD) (r : Fin 1024) (k : Fin 64) (h : 64 * e.val + k.val < 1024) :
      g2 (n := 1024) (m := 64) (Xs m e) r.val k.val = x (ix2 r ⟨64 * e.val + k.val, h⟩) := by
    rw [hx e]
    exact congrArg x (funext fun a => Fin.ext (by
      fin_cases a
      · exact Nat.mod_eq_of_lt r.isLt
      · exact congrArg₂ (· + ·) (Nat.mul_comm _ _) (Nat.mod_eq_of_lt k.isLt)))
  have gw (e : Dev nD) (k : Fin 64) (c : Fin 1024) (h : 64 * e.val + k.val < 1024) :
      g2 (n := 64) (m := 1024) (Ws m e) k.val c.val = w (ix2 ⟨64 * e.val + k.val, h⟩ c) := by
    rw [hw e]
    exact congrArg w (funext fun a => Fin.ext (by
      fin_cases a
      · exact congrArg₂ (· + ·) (Nat.mul_comm _ _) (Nat.mod_eq_of_lt k.isLt)
      · exact Nat.mod_eq_of_lt c.isLt))
  funext i
  have hi : (i 0).val < 64 := (i 0).isLt
  have hd : d.val < 16 := d.isLt
  have hr : 64 * d.val + (i 0).val < 1024 := by omega
  have hc : (i 1).val < 1024 := (i 1).isLt
  have hv : Layout.block ⟨2, ![64, 1024]⟩ ⟨2, ![1024, 1024]⟩ 0 16 d (refV x w) (by decide) i = refV x w (ix2 ⟨64 * d.val + (i 0).val, hr⟩ ⟨(i 1).val, hc⟩) :=
    congrArg (refV x w) (funext fun a => Fin.ext (by
      fin_cases a
      · exact congrArg (fun n : ℕ => n + (i 0).val) (Nat.mul_comm _ _)
      · rfl))
  rw [hv, refV_eq]
  refine (OUT_eq (Xs m) (Ws m) d hi hc).trans (congrArg (gl (F := Ideal)) ?_)
  let f : ℕ → EReal := fun j => if h : j < 1024 then (x (ix2 ⟨64 * d.val + (i 0).val, hr⟩ ⟨j, h⟩) * w (ix2 ⟨j, h⟩ ⟨(i 1).val, hc⟩) : EReal) else 0
  have h1 (e : Dev nD) : PE (Xs m) (Ws m) e (64 * d.val + (i 0).val) (i 1).val = ∑ k : Fin 64, f (64 * e.val + k.val) := by
    rw [PE_eq (Xs m) (Ws m) e hr hc]
    refine Finset.sum_congr rfl fun k _ => ?_
    have he : e.val < 16 := e.isLt
    have h : 64 * e.val + k.val < 1024 := by omega
    refine Eq.trans ?_ (dif_pos h).symm
    exact congrArg₂ (fun a b : EReal => a * b) (gx e ⟨_, hr⟩ k h) (gw e k ⟨_, hc⟩ h)
  refine (Finset.sum_congr rfl fun e _ => h1 e).trans ((sum_blocks f).trans ?_)
  exact Finset.sum_congr rfl fun j _ => dif_pos j.isLt

/-! ## The claim -/

theorem value : Cert.algebraic_KernelIdeal_ReferenceIdeal (hKernelIdeal := facts) (hReferenceIdeal := Cert.ReferenceIdeal.Gen.facts) := by
  intro m ρ m' ρ' _ hag
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run defs _ _).mono (fun _ h c => ⟨((h.1 c 2).trans (finalA_o m ρ c)).trans
        (block_eq m _ _ c (fun e => (Xs_eq m e).trans (hag e).1) (fun e => (Ws_eq m e).trans (hag e).2)),
      (h.1 c 0).trans (finalA_x m ρ c), (h.1 c 1).trans (finalA_w m ρ c)⟩) (run_main (F := Ideal) m ρ)
  · exact (θ_run Cert.ReferenceIdeal.defs _ _).mono (fun _ h => h 0) (Cert.ReferenceIdeal.Value.run (F := Ideal) m' ρ')

end Cert.KernelIdeal.Tile
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, the printed text's kinship (no rule was applied, so nothing is asked) and the value claim. -/
theorem claim : Cert.Claim :=
  ⟨Cert.Kernel.Gen.facts, Cert.KernelIdeal.Gen.facts, Cert.ReferenceIdeal.Gen.facts,
    Cert.KernelIdeal.Tile.frame_kernel, Cert.KernelIdeal.Tile.frame_ideal, Cert.KernelIdeal.Tile.frame_reference, trivial,
    Cert.KernelIdeal.Tile.value⟩

end Cert.Proof

end
